-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10)
      ∧ r.2.mem ((c.tc : Thread Cert.Pre.nD Cert.Pre.τ).loc Cert.Pre.main_arg11) = m ((c.tc : Thread Cert.Pre.nD Cert.Pre.τ).loc Cert.Pre.main_arg11))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
      ∧ r.2.mem ((c.tc : Thread Cert.PreIdeal.nD Cert.PreIdeal.τ).loc Cert.PreIdeal.main_arg11) = m ((c.tc : Thread Cert.PreIdeal.nD Cert.PreIdeal.τ).loc Cert.PreIdeal.main_arg11))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6)
      ∧ r.2.mem ((c.tc : Thread Cert.PreReferenceIdeal.nD Cert.PreReferenceIdeal.τ).loc Cert.PreReferenceIdeal.main_arg7) = m ((c.tc : Thread Cert.PreReferenceIdeal.nD Cert.PreReferenceIdeal.τ).loc Cert.PreReferenceIdeal.main_arg7)
      ∧ r.2.mem ((c.tc : Thread Cert.PreReferenceIdeal.nD Cert.PreReferenceIdeal.τ).loc Cert.PreReferenceIdeal.main_arg8) = m ((c.tc : Thread Cert.PreReferenceIdeal.nD Cert.PreReferenceIdeal.τ).loc Cert.PreReferenceIdeal.main_arg8)
      ∧ r.2.mem ((c.tc : Thread Cert.PreReferenceIdeal.nD Cert.PreReferenceIdeal.τ).loc Cert.PreReferenceIdeal.main_arg9) = m ((c.tc : Thread Cert.PreReferenceIdeal.nD Cert.PreReferenceIdeal.τ).loc Cert.PreReferenceIdeal.main_arg9)
      ∧ r.2.mem ((c.tc : Thread Cert.PreReferenceIdeal.nD Cert.PreReferenceIdeal.τ).loc Cert.PreReferenceIdeal.main_arg10) = m ((c.tc : Thread Cert.PreReferenceIdeal.nD Cert.PreReferenceIdeal.τ).loc Cert.PreReferenceIdeal.main_arg10)
      ∧ r.2.mem ((c.tc : Thread Cert.PreReferenceIdeal.nD Cert.PreReferenceIdeal.τ).loc Cert.PreReferenceIdeal.main_arg11) = m ((c.tc : Thread Cert.PreReferenceIdeal.nD Cert.PreReferenceIdeal.τ).loc Cert.PreReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v46) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10))

def preserves_Pre_PreIdeal : Prop :=
  True

def algebraic_PreIdeal_PreReferenceIdeal [hPreIdeal : Cert.PreIdeal.Facts] [hPreReferenceIdeal : Cert.PreReferenceIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreIdeal m →
    (∀ c : Dev Cert.PreIdeal.nD,
      m' ((c.tc : Thread Cert.PreReferenceIdeal.nD Cert.PreReferenceIdeal.τ).loc Cert.PreReferenceIdeal.main_arg0) = m ((c.tc : Thread Cert.PreIdeal.nD Cert.PreIdeal.τ).loc Cert.PreIdeal.main_arg0)
      ∧ m' ((c.tc : Thread Cert.PreReferenceIdeal.nD Cert.PreReferenceIdeal.τ).loc Cert.PreReferenceIdeal.main_arg1) = m ((c.tc : Thread Cert.PreIdeal.nD Cert.PreIdeal.τ).loc Cert.PreIdeal.main_arg1)
      ∧ m' ((c.tc : Thread Cert.PreReferenceIdeal.nD Cert.PreReferenceIdeal.τ).loc Cert.PreReferenceIdeal.main_arg2) = m ((c.tc : Thread Cert.PreIdeal.nD Cert.PreIdeal.τ).loc Cert.PreIdeal.main_arg2)
      ∧ m' ((c.tc : Thread Cert.PreReferenceIdeal.nD Cert.PreReferenceIdeal.τ).loc Cert.PreReferenceIdeal.main_arg3) = m ((c.tc : Thread Cert.PreIdeal.nD Cert.PreIdeal.τ).loc Cert.PreIdeal.main_arg3)
      ∧ m' ((c.tc : Thread Cert.PreReferenceIdeal.nD Cert.PreReferenceIdeal.τ).loc Cert.PreReferenceIdeal.main_arg4) = m ((c.tc : Thread Cert.PreIdeal.nD Cert.PreIdeal.τ).loc Cert.PreIdeal.main_arg4)
      ∧ m' ((c.tc : Thread Cert.PreReferenceIdeal.nD Cert.PreReferenceIdeal.τ).loc Cert.PreReferenceIdeal.main_arg5) = m ((c.tc : Thread Cert.PreIdeal.nD Cert.PreIdeal.τ).loc Cert.PreIdeal.main_arg5)
      ∧ m' ((c.tc : Thread Cert.PreReferenceIdeal.nD Cert.PreReferenceIdeal.τ).loc Cert.PreReferenceIdeal.main_arg6) = m ((c.tc : Thread Cert.PreIdeal.nD Cert.PreIdeal.τ).loc Cert.PreIdeal.main_arg6)
      ∧ m' ((c.tc : Thread Cert.PreReferenceIdeal.nD Cert.PreReferenceIdeal.τ).loc Cert.PreReferenceIdeal.main_arg7) = m ((c.tc : Thread Cert.PreIdeal.nD Cert.PreIdeal.τ).loc Cert.PreIdeal.main_arg7)
      ∧ m' ((c.tc : Thread Cert.PreReferenceIdeal.nD Cert.PreReferenceIdeal.τ).loc Cert.PreReferenceIdeal.main_arg8) = m ((c.tc : Thread Cert.PreIdeal.nD Cert.PreIdeal.τ).loc Cert.PreIdeal.main_arg8)
      ∧ m' ((c.tc : Thread Cert.PreReferenceIdeal.nD Cert.PreReferenceIdeal.τ).loc Cert.PreReferenceIdeal.main_arg9) = m ((c.tc : Thread Cert.PreIdeal.nD Cert.PreIdeal.τ).loc Cert.PreIdeal.main_arg9)
      ∧ m' ((c.tc : Thread Cert.PreReferenceIdeal.nD Cert.PreReferenceIdeal.τ).loc Cert.PreReferenceIdeal.main_arg10) = m ((c.tc : Thread Cert.PreIdeal.nD Cert.PreIdeal.τ).loc Cert.PreIdeal.main_arg10)
      ∧ m' ((c.tc : Thread Cert.PreReferenceIdeal.nD Cert.PreReferenceIdeal.τ).loc Cert.PreReferenceIdeal.main_arg11) = m ((c.tc : Thread Cert.PreIdeal.nD Cert.PreIdeal.τ).loc Cert.PreIdeal.main_arg11)) →
    ∃ (v0 : (c : Dev Cert.PreIdeal.nD) → Buf (Elt Ideal) ((c.tc : Thread Cert.PreIdeal.nD Cert.PreIdeal.τ).loc Cert.PreIdeal.main_v90_0)) (v1 : (c : Dev Cert.PreIdeal.nD) → Buf (Elt Ideal) ((c.tc : Thread Cert.PreIdeal.nD Cert.PreIdeal.τ).loc Cert.PreIdeal.main_v90_1)) (v2 : (c : Dev Cert.PreIdeal.nD) → Buf (Elt Ideal) ((c.tc : Thread Cert.PreIdeal.nD Cert.PreIdeal.τ).loc Cert.PreIdeal.main_v90_2)) (v3 : (c : Dev Cert.PreIdeal.nD) → Buf (Elt Ideal) ((c.tc : Thread Cert.PreIdeal.nD Cert.PreIdeal.τ).loc Cert.PreIdeal.main_v90_3)) (v4 : (c : Dev Cert.PreIdeal.nD) → Buf (Elt Ideal) ((c.tc : Thread Cert.PreIdeal.nD Cert.PreIdeal.τ).loc Cert.PreIdeal.main_v90_4)) (v5 : (c : Dev Cert.PreIdeal.nD) → Buf (Elt Ideal) ((c.tc : Thread Cert.PreIdeal.nD Cert.PreIdeal.τ).loc Cert.PreIdeal.main_v90_5)) (v6 : (c : Dev Cert.PreIdeal.nD) → Buf (Elt Ideal) ((c.tc : Thread Cert.PreIdeal.nD Cert.PreIdeal.τ).loc Cert.PreIdeal.main_v90_6)) (v7 : (c : Dev Cert.PreIdeal.nD) → Buf (Elt Ideal) ((c.tc : Thread Cert.PreIdeal.nD Cert.PreIdeal.τ).loc Cert.PreIdeal.main_v90_7)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v90_0) = v0 c
          ∧ r.2.mem ((c.tc : Thread Cert.PreIdeal.nD Cert.PreIdeal.τ).loc Cert.PreIdeal.main_v90_1) = v1 c
          ∧ r.2.mem ((c.tc : Thread Cert.PreIdeal.nD Cert.PreIdeal.τ).loc Cert.PreIdeal.main_v90_2) = v2 c
          ∧ r.2.mem ((c.tc : Thread Cert.PreIdeal.nD Cert.PreIdeal.τ).loc Cert.PreIdeal.main_v90_3) = v3 c
          ∧ r.2.mem ((c.tc : Thread Cert.PreIdeal.nD Cert.PreIdeal.τ).loc Cert.PreIdeal.main_v90_4) = v4 c
          ∧ r.2.mem ((c.tc : Thread Cert.PreIdeal.nD Cert.PreIdeal.τ).loc Cert.PreIdeal.main_v90_5) = v5 c
          ∧ r.2.mem ((c.tc : Thread Cert.PreIdeal.nD Cert.PreIdeal.τ).loc Cert.PreIdeal.main_v90_6) = v6 c
          ∧ r.2.mem ((c.tc : Thread Cert.PreIdeal.nD Cert.PreIdeal.τ).loc Cert.PreIdeal.main_v90_7) = v7 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
          ∧ r.2.mem ((c.tc : Thread Cert.PreIdeal.nD Cert.PreIdeal.τ).loc Cert.PreIdeal.main_arg11) = m ((c.tc : Thread Cert.PreIdeal.nD Cert.PreIdeal.τ).loc Cert.PreIdeal.main_arg11))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v142) = v0 c
          ∧ r.2.mem ((c.tc : Thread Cert.PreReferenceIdeal.nD Cert.PreReferenceIdeal.τ).loc Cert.PreReferenceIdeal.main_v150) = v1 c
          ∧ r.2.mem ((c.tc : Thread Cert.PreReferenceIdeal.nD Cert.PreReferenceIdeal.τ).loc Cert.PreReferenceIdeal.main_v153) = v2 c
          ∧ r.2.mem ((c.tc : Thread Cert.PreReferenceIdeal.nD Cert.PreReferenceIdeal.τ).loc Cert.PreReferenceIdeal.main_v149) = v3 c
          ∧ r.2.mem ((c.tc : Thread Cert.PreReferenceIdeal.nD Cert.PreReferenceIdeal.τ).loc Cert.PreReferenceIdeal.main_v154) = v4 c
          ∧ r.2.mem ((c.tc : Thread Cert.PreReferenceIdeal.nD Cert.PreReferenceIdeal.τ).loc Cert.PreReferenceIdeal.main_v164) = v5 c
          ∧ r.2.mem ((c.tc : Thread Cert.PreReferenceIdeal.nD Cert.PreReferenceIdeal.τ).loc Cert.PreReferenceIdeal.main_v172) = v6 c
          ∧ r.2.mem ((c.tc : Thread Cert.PreReferenceIdeal.nD Cert.PreReferenceIdeal.τ).loc Cert.PreReferenceIdeal.main_v175) = v7 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6)
          ∧ r.2.mem ((c.tc : Thread Cert.PreReferenceIdeal.nD Cert.PreReferenceIdeal.τ).loc Cert.PreReferenceIdeal.main_arg7) = m' ((c.tc : Thread Cert.PreReferenceIdeal.nD Cert.PreReferenceIdeal.τ).loc Cert.PreReferenceIdeal.main_arg7)
          ∧ r.2.mem ((c.tc : Thread Cert.PreReferenceIdeal.nD Cert.PreReferenceIdeal.τ).loc Cert.PreReferenceIdeal.main_arg8) = m' ((c.tc : Thread Cert.PreReferenceIdeal.nD Cert.PreReferenceIdeal.τ).loc Cert.PreReferenceIdeal.main_arg8)
          ∧ r.2.mem ((c.tc : Thread Cert.PreReferenceIdeal.nD Cert.PreReferenceIdeal.τ).loc Cert.PreReferenceIdeal.main_arg9) = m' ((c.tc : Thread Cert.PreReferenceIdeal.nD Cert.PreReferenceIdeal.τ).loc Cert.PreReferenceIdeal.main_arg9)
          ∧ r.2.mem ((c.tc : Thread Cert.PreReferenceIdeal.nD Cert.PreReferenceIdeal.τ).loc Cert.PreReferenceIdeal.main_arg10) = m' ((c.tc : Thread Cert.PreReferenceIdeal.nD Cert.PreReferenceIdeal.τ).loc Cert.PreReferenceIdeal.main_arg10)
          ∧ r.2.mem ((c.tc : Thread Cert.PreReferenceIdeal.nD Cert.PreReferenceIdeal.τ).loc Cert.PreReferenceIdeal.main_arg11) = m' ((c.tc : Thread Cert.PreReferenceIdeal.nD Cert.PreReferenceIdeal.τ).loc Cert.PreReferenceIdeal.main_arg11))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPre : Cert.Pre.Facts) (hPreIdeal : Cert.PreIdeal.Facts) (hPreReferenceIdeal : Cert.PreReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ quiescent_Pre (hPre := hPre)
    ∧ quiescent_PreIdeal (hPreIdeal := hPreIdeal)
    ∧ quiescent_PreReferenceIdeal (hPreReferenceIdeal := hPreReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal (hPostIdeal := hPostIdeal) (hPostReferenceIdeal := hPostReferenceIdeal)
    ∧ preserves_Pre_PreIdeal
    ∧ algebraic_PreIdeal_PreReferenceIdeal (hPreIdeal := hPreIdeal) (hPreReferenceIdeal := hPreReferenceIdeal)
-- ==== Pre_finite.lean ====
abbrev S64x1024x256 : Shape := ⟨3, ![64, 1024, 256]⟩
abbrev S2x8192x1024 : Shape := ⟨3, ![2, 8192, 1024]⟩
abbrev S2x32x512x256 : Shape := ⟨4, ![2, 32, 512, 256]⟩
abbrev S_ : Shape := ⟨0, ![]⟩

class Facts : Prop where
  bitsLt_bf16_f32 : FTy.bits .bf16 < FTy.bits .f32
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S2x8192x1024 : S_.BroadcastsInDim S2x8192x1024 (![] : Fin 0 → Fin S2x8192x1024.rank)
  reducesTo_S2x8192x1024_S_d0_1_2 : S2x8192x1024.ReducesTo [0, 1, 2] S_

variable [Facts]

def fn {F : FTy → Type} [FloatOps F] (main_arg0 : FVec F S64x1024x256 .bf16) (main_arg1 : FVec F S2x8192x1024 .bf16) (main_arg2 : FVec F S2x32x512x256 .bf16) : IVec S_ 1 :=
  let main_v0 : FVec F S64x1024x256 .f32 := (extf .f32 · bitsLt_bf16_f32) main_arg0
  let main_v1 : FVec F S64x1024x256 .f32 := Host.absf main_v0
  let main_cst : FVec F S_ .f32 := constant S_ .f32 0x7F800000#32
  let main_v2 : FVec F S64x1024x256 .f32 := broadcastInDim S64x1024x256 ![] bcast_S_S64x1024x256 main_cst
  let main_v3 : IVec S64x1024x256 1 := cmpf .olt main_v1 main_v2
  let main_c : IVec S_ 1 := constantI S_ 1 1#1
  let main_v4 : IVec S_ 1 := (fun x v => Host.reduce IntOp.andi x v reducesTo_S64x1024x256_S_d0_1_2 h_S_) main_v3 main_c
  let main_v5 : FVec F S2x8192x1024 .f32 := (extf .f32 · bitsLt_bf16_f32) main_arg1
  let main_v6 : FVec F S2x8192x1024 .f32 := Host.absf main_v5
  let main_cst_0 : FVec F S_ .f32 := constant S_ .f32 0x7F800000#32
  let main_v7 : FVec F S2x8192x1024 .f32 := broadcastInDim S2x8192x1024 ![] bcast_S_S2x8192x1024 main_cst_0
  let main_v8 : IVec S2x8192x1024 1 := cmpf .olt main_v6 main_v7
  let main_c_1 : IVec S_ 1 := constantI S_ 1 1#1
  let main_v9 : IVec S_ 1 := (fun x v => Host.reduce IntOp.andi x v reducesTo_S2x8192x1024_S_d0_1_2 h_S_) main_v8 main_c_1
  let main_v10 : IVec S_ 1 := andi main_v4 main_v9
  main_v10
-- ==== Kernel.lean ====
abbrev S64x1024x256 : Shape := ⟨3, ![64, 1024, 256]⟩
abbrev S2x8192x1024 : Shape := ⟨3, ![2, 8192, 1024]⟩
abbrev S2x32x512x256 : Shape := ⟨4, ![2, 32, 512, 256]⟩
abbrev S64x512x256 : Shape := ⟨3, ![64, 512, 256]⟩
abbrev S16x256x256 : Shape := ⟨3, ![16, 256, 256]⟩
abbrev S1x8192x256 : Shape := ⟨3, ![1, 8192, 256]⟩
abbrev S1x32x128x256 : Shape := ⟨4, ![1, 32, 128, 256]⟩
abbrev S16x128x256 : Shape := ⟨3, ![16, 128, 256]⟩
abbrev S2x256x4096 : Shape := ⟨3, ![2, 256, 4096]⟩
abbrev S2x1x4096 : Shape := ⟨3, ![2, 1, 4096]⟩
abbrev S2x80x4096 : Shape := ⟨3, ![2, 80, 4096]⟩
abbrev S1x4096 : Shape := ⟨2, ![1, 4096]⟩
abbrev S16x256 : Shape := ⟨2, ![16, 256]⟩
abbrev S2x256x256 : Shape := ⟨3, ![2, 256, 256]⟩
abbrev S2x1x256 : Shape := ⟨3, ![2, 1, 256]⟩
abbrev S1x256x256 : Shape := ⟨3, ![1, 256, 256]⟩
abbrev S256x256 : Shape := ⟨2, ![256, 256]⟩
abbrev S256x128 : Shape := ⟨2, ![256, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x1x256 : Shape := ⟨3, ![1, 1, 256]⟩
abbrev S128x512 : Shape := ⟨2, ![128, 512]⟩
abbrev S256x512 : Shape := ⟨2, ![256, 512]⟩
abbrev S1x512 : Shape := ⟨2, ![1, 512]⟩
abbrev S1x256x512 : Shape := ⟨3, ![1, 256, 512]⟩
abbrev S512 : Shape := ⟨1, ![512]⟩
abbrev S1x1x512 : Shape := ⟨3, ![1, 1, 512]⟩
abbrev S1x1x128x256 : Shape := ⟨4, ![1, 1, 128, 256]⟩
abbrev S64x256 : Shape := ⟨2, ![64, 256]⟩
abbrev S80x256 : Shape := ⟨2, ![80, 256]⟩
abbrev S1x80x256 : Shape := ⟨3, ![1, 80, 256]⟩
abbrev S128x768 : Shape := ⟨2, ![128, 768]⟩
abbrev S256x768 : Shape := ⟨2, ![256, 768]⟩
abbrev S1x768 : Shape := ⟨2, ![1, 768]⟩
abbrev S1x256x768 : Shape := ⟨3, ![1, 256, 768]⟩
abbrev S768 : Shape := ⟨1, ![768]⟩
abbrev S1x1x768 : Shape := ⟨3, ![1, 1, 768]⟩
abbrev S1x80x512 : Shape := ⟨3, ![1, 80, 512]⟩
abbrev S80x512 : Shape := ⟨2, ![80, 512]⟩
abbrev S128x1024 : Shape := ⟨2, ![128, 1024]⟩
abbrev S256x1024 : Shape := ⟨2, ![256, 1024]⟩
abbrev S1x1024 : Shape := ⟨2, ![1, 1024]⟩
abbrev S1x256x1024 : Shape := ⟨3, ![1, 256, 1024]⟩
abbrev S1024 : Shape := ⟨1, ![1024]⟩
abbrev S1x1x1024 : Shape := ⟨3, ![1, 1, 1024]⟩
abbrev S1x80x768 : Shape := ⟨3, ![1, 80, 768]⟩
abbrev S80x768 : Shape := ⟨2, ![80, 768]⟩
abbrev S128x1280 : Shape := ⟨2, ![128, 1280]⟩
abbrev S256x1280 : Shape := ⟨2, ![256, 1280]⟩
abbrev S1x1280 : Shape := ⟨2, ![1, 1280]⟩
abbrev S1x256x1280 : Shape := ⟨3, ![1, 256, 1280]⟩
abbrev S1280 : Shape := ⟨1, ![1280]⟩
abbrev S1x1x1280 : Shape := ⟨3, ![1, 1, 1280]⟩
abbrev S1x80x1024 : Shape := ⟨3, ![1, 80, 1024]⟩
abbrev S80x1024 : Shape := ⟨2, ![80, 1024]⟩
abbrev S128x1536 : Shape := ⟨2, ![128, 1536]⟩
abbrev S256x1536 : Shape := ⟨2, ![256, 1536]⟩
abbrev S1x1536 : Shape := ⟨2, ![1, 1536]⟩
abbrev S1x256x1536 : Shape := ⟨3, ![1, 256, 1536]⟩
abbrev S1536 : Shape := ⟨1, ![1536]⟩
abbrev S1x1x1536 : Shape := ⟨3, ![1, 1, 1536]⟩
abbrev S1x80x1280 : Shape := ⟨3, ![1, 80, 1280]⟩
abbrev S80x1280 : Shape := ⟨2, ![80, 1280]⟩
abbrev S128x1792 : Shape := ⟨2, ![128, 1792]⟩
abbrev S256x1792 : Shape := ⟨2, ![256, 1792]⟩
abbrev S1x1792 : Shape := ⟨2, ![1, 1792]⟩
abbrev S1x256x1792 : Shape := ⟨3, ![1, 256, 1792]⟩
abbrev S1792 : Shape := ⟨1, ![1792]⟩
abbrev S1x1x1792 : Shape := ⟨3, ![1, 1, 1792]⟩
abbrev S1x80x1536 : Shape := ⟨3, ![1, 80, 1536]⟩
abbrev S80x1536 : Shape := ⟨2, ![80, 1536]⟩
abbrev S128x2048 : Shape := ⟨2, ![128, 2048]⟩
abbrev S256x2048 : Shape := ⟨2, ![256, 2048]⟩
abbrev S1x2048 : Shape := ⟨2, ![1, 2048]⟩
abbrev S1x256x2048 : Shape := ⟨3, ![1, 256, 2048]⟩
abbrev S2048 : Shape := ⟨1, ![2048]⟩
abbrev S1x1x2048 : Shape := ⟨3, ![1, 1, 2048]⟩
abbrev S1x80x1792 : Shape := ⟨3, ![1, 80, 1792]⟩
abbrev S80x1792 : Shape := ⟨2, ![80, 1792]⟩
abbrev S128x2304 : Shape := ⟨2, ![128, 2304]⟩
abbrev S256x2304 : Shape := ⟨2, ![256, 2304]⟩
abbrev S1x2304 : Shape := ⟨2, ![1, 2304]⟩
abbrev S1x256x2304 : Shape := ⟨3, ![1, 256, 2304]⟩
abbrev S2304 : Shape := ⟨1, ![2304]⟩
abbrev S1x1x2304 : Shape := ⟨3, ![1, 1, 2304]⟩
abbrev S1x80x2048 : Shape := ⟨3, ![1, 80, 2048]⟩
abbrev S80x2048 : Shape := ⟨2, ![80, 2048]⟩
abbrev S128x2560 : Shape := ⟨2, ![128, 2560]⟩
abbrev S256x2560 : Shape := ⟨2, ![256, 2560]⟩
abbrev S1x2560 : Shape := ⟨2, ![1, 2560]⟩
abbrev S1x256x2560 : Shape := ⟨3, ![1, 256, 2560]⟩
abbrev S2560 : Shape := ⟨1, ![2560]⟩
abbrev S1x1x2560 : Shape := ⟨3, ![1, 1, 2560]⟩
abbrev S1x80x2304 : Shape := ⟨3, ![1, 80, 2304]⟩
abbrev S80x2304 : Shape := ⟨2, ![80, 2304]⟩
abbrev S128x2816 : Shape := ⟨2, ![128, 2816]⟩
abbrev S256x2816 : Shape := ⟨2, ![256, 2816]⟩
abbrev S1x2816 : Shape := ⟨2, ![1, 2816]⟩
abbrev S1x256x2816 : Shape := ⟨3, ![1, 256, 2816]⟩
abbrev S2816 : Shape := ⟨1, ![2816]⟩
abbrev S1x1x2816 : Shape := ⟨3, ![1, 1, 2816]⟩
abbrev S1x80x2560 : Shape := ⟨3, ![1, 80, 2560]⟩
abbrev S80x2560 : Shape := ⟨2, ![80, 2560]⟩
abbrev S128x3072 : Shape := ⟨2, ![128, 3072]⟩
abbrev S256x3072 : Shape := ⟨2, ![256, 3072]⟩
abbrev S1x3072 : Shape := ⟨2, ![1, 3072]⟩
abbrev S1x256x3072 : Shape := ⟨3, ![1, 256, 3072]⟩
abbrev S3072 : Shape := ⟨1, ![3072]⟩
abbrev S1x1x3072 : Shape := ⟨3, ![1, 1, 3072]⟩
abbrev S1x80x2816 : Shape := ⟨3, ![1, 80, 2816]⟩
abbrev S80x2816 : Shape := ⟨2, ![80, 2816]⟩
abbrev S128x3328 : Shape := ⟨2, ![128, 3328]⟩
abbrev S256x3328 : Shape := ⟨2, ![256, 3328]⟩
abbrev S1x3328 : Shape := ⟨2, ![1, 3328]⟩
abbrev S1x256x3328 : Shape := ⟨3, ![1, 256, 3328]⟩
abbrev S3328 : Shape := ⟨1, ![3328]⟩
abbrev S1x1x3328 : Shape := ⟨3, ![1, 1, 3328]⟩
abbrev S1x80x3072 : Shape := ⟨3, ![1, 80, 3072]⟩
abbrev S80x3072 : Shape := ⟨2, ![80, 3072]⟩
abbrev S128x3584 : Shape := ⟨2, ![128, 3584]⟩
abbrev S256x3584 : Shape := ⟨2, ![256, 3584]⟩
abbrev S1x3584 : Shape := ⟨2, ![1, 3584]⟩
abbrev S1x256x3584 : Shape := ⟨3, ![1, 256, 3584]⟩
abbrev S3584 : Shape := ⟨1, ![3584]⟩
abbrev S1x1x3584 : Shape := ⟨3, ![1, 1, 3584]⟩
abbrev S1x80x3328 : Shape := ⟨3, ![1, 80, 3328]⟩
abbrev S80x3328 : Shape := ⟨2, ![80, 3328]⟩
abbrev S128x3840 : Shape := ⟨2, ![128, 3840]⟩
abbrev S256x3840 : Shape := ⟨2, ![256, 3840]⟩
abbrev S1x3840 : Shape := ⟨2, ![1, 3840]⟩
abbrev S1x256x3840 : Shape := ⟨3, ![1, 256, 3840]⟩
abbrev S3840 : Shape := ⟨1, ![3840]⟩
abbrev S1x1x3840 : Shape := ⟨3, ![1, 1, 3840]⟩
abbrev S1x80x3584 : Shape := ⟨3, ![1, 80, 3584]⟩
abbrev S80x3584 : Shape := ⟨2, ![80, 3584]⟩
abbrev S128x4096 : Shape := ⟨2, ![128, 4096]⟩
abbrev S256x4096 : Shape := ⟨2, ![256, 4096]⟩
abbrev S1x256x4096 : Shape := ⟨3, ![1, 256, 4096]⟩
abbrev S4096 : Shape := ⟨1, ![4096]⟩
abbrev S1x1x4096 : Shape := ⟨3, ![1, 1, 4096]⟩
abbrev S1x80x4096 : Shape := ⟨3, ![1, 80, 4096]⟩
abbrev S80x4096 : Shape := ⟨2, ![80, 4096]⟩
abbrev S64x4096 : Shape := ⟨2, ![64, 4096]⟩
abbrev S1x64x256 : Shape := ⟨3, ![1, 64, 256]⟩

abbrev nBuf : Space → Nat
  | .hbm => 4
  | .vmem => 14
  | .smem => 0
  | _ => 0

abbrev bufTy : (tb : Table) → Fin (tcTables nBuf tb) → BufTy
  | .hbm, ⟨0, _⟩ => ⟨S64x1024x256, .bf16⟩
  | .hbm, ⟨1, _⟩ => ⟨S2x8192x1024, .bf16⟩
  | .hbm, ⟨2, _⟩ => ⟨S2x32x512x256, .bf16⟩
  | .hbm, ⟨3, _⟩ => ⟨S64x512x256, .bf16⟩
  | .local _ .vmem, ⟨0, _⟩ => ⟨S16x256x256, .bf16⟩
  | .local _ .vmem, ⟨1, _⟩ => ⟨S16x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S16x128x256, .bf16⟩
  | .local _ .vmem, ⟨7, _⟩ => ⟨S16x128x256, .bf16⟩
  | .local _ .vmem, ⟨8, _⟩ => ⟨S2x256x4096, .f32⟩
  | .local _ .vmem, ⟨9, _⟩ => ⟨S2x1x4096, .f32⟩
  | .local _ .vmem, ⟨10, _⟩ => ⟨S2x256x4096, .bf16⟩
  | .local _ .vmem, ⟨11, _⟩ => ⟨S2x1x4096, .f32⟩
  | .local _ .vmem, ⟨12, _⟩ => ⟨S2x1x4096, .f32⟩
  | .local _ .vmem, ⟨13, _⟩ => ⟨S2x80x4096, .f32⟩
  | _, _ => ⟨S64x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_mult1 (i : grid0.Coords) : BitVec 32 :=
  let c16_i32 : BitVec 32 := 16#32
  let arg2 : BitVec 32 := BitVec.ofNat 32 (i 2).val
  let v0 : BitVec 32 := Scalar.muli c16_i32 arg2
  let c16_i32_15 : BitVec 32 := 16#32
  let v19 : BitVec 32 := Scalar.addi v0 c16_i32_15
  let c1_i32 : BitVec 32 := 1#32
  let v20 : BitVec 32 := Scalar.subi v19 c1_i32
  let c256_i32 : BitVec 32 := 256#32
  let v21 : BitVec 32 := Scalar.muli v20 c256_i32
  v21
def k0_off1 (i : grid0.Coords) (c16_i32_15 : BitVec 32) : Fin 3 → Nat :=
  let c0_16 : Index := 0#32
  let c16_i32 : BitVec 32 := 16#32
  let arg2 : BitVec 32 := BitVec.ofNat 32 (i 2).val
  let v0 : BitVec 32 := Scalar.muli c16_i32 arg2
  let v19 : BitVec 32 := Scalar.addi v0 c16_i32_15
  let c1_i32 : BitVec 32 := 1#32
  let v20 : BitVec 32 := Scalar.subi v19 c1_i32
  let c256_i32 : BitVec 32 := 256#32
  let v21 : BitVec 32 := Scalar.muli v20 c256_i32
  let v22 : BitVec 32 := v21
  let v23 : Index := Scalar.indexCast v22
  let c0_17 : Index := 0#32
  ![0, v23.toNat, 0]
def k0_mult2 (i : grid0.Coords) : BitVec 32 :=
  let c16_i32 : BitVec 32 := 16#32
  let arg2 : BitVec 32 := BitVec.ofNat 32 (i 2).val
  let v0 : BitVec 32 := Scalar.muli c16_i32 arg2
  let c15_i32 : BitVec 32 := 15#32
  let v106 : BitVec 32 := Scalar.addi v0 c15_i32
  let c1_i32_74 : BitVec 32 := 1#32
  let v107 : BitVec 32 := Scalar.subi v106 c1_i32_74
  let c256_i32_75 : BitVec 32 := 256#32
  let v108 : BitVec 32 := Scalar.muli v107 c256_i32_75
  v108
def k0_off2 (i : grid0.Coords) (c14_i32 : BitVec 32) : Fin 4 → Nat :=
  let c0_107 : Index := 0#32
  let c16_i32 : BitVec 32 := 16#32
  let arg2 : BitVec 32 := BitVec.ofNat 32 (i 2).val
  let v0 : BitVec 32 := Scalar.muli c16_i32 arg2
  let v155 : BitVec 32 := Scalar.addi v0 c14_i32
  let c1_i32_106 : BitVec 32 := 1#32
  let v156 : BitVec 32 := Scalar.addi v155 c1_i32_106
  let v157 : Index := Scalar.indexCast v156
  let c0_108 : Index := 0#32
  let c0_109 : Index := 0#32
  ![0, v157.toNat, 0, 0]
def k0_mult3 (i : grid0.Coords) : BitVec 32 :=
  let c16_i32 : BitVec 32 := 16#32
  let arg2 : BitVec 32 := BitVec.ofNat 32 (i 2).val
  let v0 : BitVec 32 := Scalar.muli c16_i32 arg2
  let c14_i32_172 : BitVec 32 := 14#32
  let v234 : BitVec 32 := Scalar.addi v0 c14_i32_172
  let c1_i32_173 : BitVec 32 := 1#32
  let v235 : BitVec 32 := Scalar.subi v234 c1_i32_173
  let c256_i32_174 : BitVec 32 := 256#32
  let v236 : BitVec 32 := Scalar.muli v235 c256_i32_174
  v236
def k0_mult4 (i : grid0.Coords) : BitVec 32 :=
  let c16_i32 : BitVec 32 := 16#32
  let arg2 : BitVec 32 := BitVec.ofNat 32 (i 2).val
  let v0 : BitVec 32 := Scalar.muli c16_i32 arg2
  let c13_i32_277 : BitVec 32 := 13#32
  let v366 : BitVec 32 := Scalar.addi v0 c13_i32_277
  let c1_i32_278 : BitVec 32 := 1#32
  let v367 : BitVec 32 := Scalar.subi v366 c1_i32_278
  let c256_i32_279 : BitVec 32 := 256#32
  let v368 : BitVec 32 := Scalar.muli v367 c256_i32_279
  v368
def k0_mult5 (i : grid0.Coords) : BitVec 32 :=
  let c16_i32 : BitVec 32 := 16#32
  let arg2 : BitVec 32 := BitVec.ofNat 32 (i 2).val
  let v0 : BitVec 32 := Scalar.muli c16_i32 arg2
  let c12_i32_388 : BitVec 32 := 12#32
  let v502 : BitVec 32 := Scalar.addi v0 c12_i32_388
  let c1_i32_389 : BitVec 32 := 1#32
  let v503 : BitVec 32 := Scalar.subi v502 c1_i32_389
  let c256_i32_390 : BitVec 32 := 256#32
  let v504 : BitVec 32 := Scalar.muli v503 c256_i32_390
  v504
def k0_mult6 (i : grid0.Coords) : BitVec 32 :=
  let c16_i32 : BitVec 32 := 16#32
  let arg2 : BitVec 32 := BitVec.ofNat 32 (i 2).val
  let v0 : BitVec 32 := Scalar.muli c16_i32 arg2
  let c11_i32_505 : BitVec 32 := 11#32
  let v642 : BitVec 32 := Scalar.addi v0 c11_i32_505
  let c1_i32_506 : BitVec 32 := 1#32
  let v643 : BitVec 32 := Scalar.subi v642 c1_i32_506
  let c256_i32_507 : BitVec 32 := 256#32
  let v644 : BitVec 32 := Scalar.muli v643 c256_i32_507
  v644
def k0_mult7 (i : grid0.Coords) : BitVec 32 :=
  let c16_i32 : BitVec 32 := 16#32
  let arg2 : BitVec 32 := BitVec.ofNat 32 (i 2).val
  let v0 : BitVec 32 := Scalar.muli c16_i32 arg2
  let c10_i32_628 : BitVec 32 := 10#32
  let v786 : BitVec 32 := Scalar.addi v0 c10_i32_628
  let c1_i32_629 : BitVec 32 := 1#32
  let v787 : BitVec 32 := Scalar.subi v786 c1_i32_629
  let c256_i32_630 : BitVec 32 := 256#32
  let v788 : BitVec 32 := Scalar.muli v787 c256_i32_630
  v788
def k0_mult8 (i : grid0.Coords) : BitVec 32 :=
  let c16_i32 : BitVec 32 := 16#32
  let arg2 : BitVec 32 := BitVec.ofNat 32 (i 2).val
  let v0 : BitVec 32 := Scalar.muli c16_i32 arg2
  let c9_i32_757 : BitVec 32 := 9#32
  let v934 : BitVec 32 := Scalar.addi v0 c9_i32_757
  let c1_i32_758 : BitVec 32 := 1#32
  let v935 : BitVec 32 := Scalar.subi v934 c1_i32_758
  let c256_i32_759 : BitVec 32 := 256#32
  let v936 : BitVec 32 := Scalar.muli v935 c256_i32_759
  v936
def k0_mult9 (i : grid0.Coords) : BitVec 32 :=
  let c16_i32 : BitVec 32 := 16#32
  let arg2 : BitVec 32 := BitVec.ofNat 32 (i 2).val
  let v0 : BitVec 32 := Scalar.muli c16_i32 arg2
  let c8_i32_892 : BitVec 32 := 8#32
  let v1086 : BitVec 32 := Scalar.addi v0 c8_i32_892
  let c1_i32_893 : BitVec 32 := 1#32
  let v1087 : BitVec 32 := Scalar.subi v1086 c1_i32_893
  let c256_i32_894 : BitVec 32 := 256#32
  let v1088 : BitVec 32 := Scalar.muli v1087 c256_i32_894
  v1088
def k0_mult10 (i : grid0.Coords) : BitVec 32 :=
  let c16_i32 : BitVec 32 := 16#32
  let arg2 : BitVec 32 := BitVec.ofNat 32 (i 2).val
  let v0 : BitVec 32 := Scalar.muli c16_i32 arg2
  let c7_i32_1033 : BitVec 32 := 7#32
  let v1242 : BitVec 32 := Scalar.addi v0 c7_i32_1033
  let c1_i32_1034 : BitVec 32 := 1#32
  let v1243 : BitVec 32 := Scalar.subi v1242 c1_i32_1034
  let c256_i32_1035 : BitVec 32 := 256#32
  let v1244 : BitVec 32 := Scalar.muli v1243 c256_i32_1035
  v1244
def k0_mult11 (i : grid0.Coords) : BitVec 32 :=
  let c16_i32 : BitVec 32 := 16#32
  let arg2 : BitVec 32 := BitVec.ofNat 32 (i 2).val
  let v0 : BitVec 32 := Scalar.muli c16_i32 arg2
  let c6_i32_1180 : BitVec 32 := 6#32
  let v1402 : BitVec 32 := Scalar.addi v0 c6_i32_1180
  let c1_i32_1181 : BitVec 32 := 1#32
  let v1403 : BitVec 32 := Scalar.subi v1402 c1_i32_1181
  let c256_i32_1182 : BitVec 32 := 256#32
  let v1404 : BitVec 32 := Scalar.muli v1403 c256_i32_1182
  v1404
def k0_mult12 (i : grid0.Coords) : BitVec 32 :=
  let c16_i32 : BitVec 32 := 16#32
  let arg2 : BitVec 32 := BitVec.ofNat 32 (i 2).val
  let v0 : BitVec 32 := Scalar.muli c16_i32 arg2
  let c5_i32_1333 : BitVec 32 := 5#32
  let v1566 : BitVec 32 := Scalar.addi v0 c5_i32_1333
  let c1_i32_1334 : BitVec 32 := 1#32
  let v1567 : BitVec 32 := Scalar.subi v1566 c1_i32_1334
  let c256_i32_1335 : BitVec 32 := 256#32
  let v1568 : BitVec 32 := Scalar.muli v1567 c256_i32_1335
  v1568
def k0_mult13 (i : grid0.Coords) : BitVec 32 :=
  let c16_i32 : BitVec 32 := 16#32
  let arg2 : BitVec 32 := BitVec.ofNat 32 (i 2).val
  let v0 : BitVec 32 := Scalar.muli c16_i32 arg2
  let c4_i32_1492 : BitVec 32 := 4#32
  let v1734 : BitVec 32 := Scalar.addi v0 c4_i32_1492
  let c1_i32_1493 : BitVec 32 := 1#32
  let v1735 : BitVec 32 := Scalar.subi v1734 c1_i32_1493
  let c256_i32_1494 : BitVec 32 := 256#32
  let v1736 : BitVec 32 := Scalar.muli v1735 c256_i32_1494
  v1736
def k0_mult14 (i : grid0.Coords) : BitVec 32 :=
  let c16_i32 : BitVec 32 := 16#32
  let arg2 : BitVec 32 := BitVec.ofNat 32 (i 2).val
  let v0 : BitVec 32 := Scalar.muli c16_i32 arg2
  let c3_i32_1657 : BitVec 32 := 3#32
  let v1906 : BitVec 32 := Scalar.addi v0 c3_i32_1657
  let c1_i32_1658 : BitVec 32 := 1#32
  let v1907 : BitVec 32 := Scalar.subi v1906 c1_i32_1658
  let c256_i32_1659 : BitVec 32 := 256#32
  let v1908 : BitVec 32 := Scalar.muli v1907 c256_i32_1659
  v1908
def k0_mult15 (i : grid0.Coords) : BitVec 32 :=
  let c16_i32 : BitVec 32 := 16#32
  let arg2 : BitVec 32 := BitVec.ofNat 32 (i 2).val
  let v0 : BitVec 32 := Scalar.muli c16_i32 arg2
  let c2_i32_1828 : BitVec 32 := 2#32
  let v2082 : BitVec 32 := Scalar.addi v0 c2_i32_1828
  let c1_i32_1829 : BitVec 32 := 1#32
  let v2083 : BitVec 32 := Scalar.subi v2082 c1_i32_1829
  let c256_i32_1830 : BitVec 32 := 256#32
  let v2084 : BitVec 32 := Scalar.muli v2083 c256_i32_1830
  v2084
def k0_mult16 (i : grid0.Coords) : BitVec 32 :=
  let c16_i32 : BitVec 32 := 16#32
  let arg2 : BitVec 32 := BitVec.ofNat 32 (i 2).val
  let v0 : BitVec 32 := Scalar.muli c16_i32 arg2
  let c1_i32_2007 : BitVec 32 := 1#32
  let v2262 : BitVec 32 := Scalar.addi v0 c1_i32_2007
  let c1_i32_2008 : BitVec 32 := 1#32
  let v2263 : BitVec 32 := Scalar.subi v2262 c1_i32_2008
  let c256_i32_2009 : BitVec 32 := 256#32
  let v2264 : BitVec 32 := Scalar.muli v2263 c256_i32_2009
  v2264
@[reducible] def k0_t1_loop (i : grid0.Coords) : Scf.Loop 32 :=
  let c15_i32_2128 : BitVec 32 := 15#32
  let c16_i32 : BitVec 32 := 16#32
  let arg2 : BitVec 32 := BitVec.ofNat 32 (i 2).val
  let v0 : BitVec 32 := Scalar.muli c16_i32 arg2
  let c16_i32_2126 : BitVec 32 := 16#32
  let v2365 : BitVec 32 := Scalar.addi v0 c16_i32_2126
  let c1_i32_2127 : BitVec 32 := 1#32
  let v2366 : BitVec 32 := Scalar.subi v2365 c1_i32_2127
  let v2367 : BitVec 32 := Scalar.subi v2366 c15_i32_2128
  let c1_i32_2129 : BitVec 32 := 1#32
  let v2369 : BitVec 32 := Scalar.divsi v2367 c1_i32_2129
  let v2370 : BitVec 32 := Scalar.muli v2369 c1_i32_2129
  let v2371 : BitVec 32 := Scalar.addi c15_i32_2128 v2370
  let c1_i32_2130 : BitVec 32 := 1#32
  ⟨c15_i32_2128, v2371, c1_i32_2130⟩
def k0_off3 (i : grid0.Coords) (k0_t1 : Fin (k0_t1_loop i).trips) : Fin 4 → Nat :=
  let c0_2338 : Index := 0#32
  let c15_i32_2128 : BitVec 32 := 15#32
  let c1_i32_2130 : BitVec 32 := 1#32
  let arg13 : BitVec 32 := Scf.iv c15_i32_2128 c1_i32_2130 k0_t1
  let c1_i32_2334 : BitVec 32 := 1#32
  let v2635 : BitVec 32 := Scalar.subi arg13 c1_i32_2334
  let c16_i32_2335 : BitVec 32 := 16#32
  let v2636 : BitVec 1 := Scalar.cmpi .slt v2635 c16_i32_2335
  let c16_i32 : BitVec 32 := 16#32
  let arg2 : BitVec 32 := BitVec.ofNat 32 (i 2).val
  let v0 : BitVec 32 := Scalar.muli c16_i32 arg2
  let c15_i32_2336 : BitVec 32 := 15#32
  let v2637 : BitVec 32 := Scalar.addi v0 c15_i32_2336
  let v2638 : BitVec 32 := Scalar.subi v2637 v2635
  let c16_i32_2337 : BitVec 32 := 16#32
  let v2639 : BitVec 32 := Scalar.subi v2635 c16_i32_2337
  let v2640 : BitVec 32 := Scalar.select v2636 v2638 v2639
  let v2641 : Index := Scalar.indexCast v2640
  let c0_2339 : Index := 0#32
  let c0_2340 : Index := 0#32
  ![0, v2641.toNat, 0, 0]
def k0_mult17 (i : grid0.Coords) (k0_t1 : Fin (k0_t1_loop i).trips) : BitVec 32 :=
  let c15_i32_2128 : BitVec 32 := 15#32
  let c1_i32_2130 : BitVec 32 := 1#32
  let arg13 : BitVec 32 := Scf.iv c15_i32_2128 c1_i32_2130 k0_t1
  let c1_i32_2403 : BitVec 32 := 1#32
  let v2718 : BitVec 32 := Scalar.addi arg13 c1_i32_2403
  let c16_i32_2404 : BitVec 32 := 16#32
  let v2719 : BitVec 32 := Scalar.subi v2718 c16_i32_2404
  let c256_i32_2405 : BitVec 32 := 256#32
  let v2720 : BitVec 32 := Scalar.muli v2719 c256_i32_2405
  v2720
def k0_off4 (i : grid0.Coords) (k0_t1 : Fin (k0_t1_loop i).trips) : Fin 3 → Nat :=
  let c0_2406 : Index := 0#32
  let c15_i32_2128 : BitVec 32 := 15#32
  let c1_i32_2130 : BitVec 32 := 1#32
  let arg13 : BitVec 32 := Scf.iv c15_i32_2128 c1_i32_2130 k0_t1
  let c1_i32_2403 : BitVec 32 := 1#32
  let v2718 : BitVec 32 := Scalar.addi arg13 c1_i32_2403
  let c16_i32_2404 : BitVec 32 := 16#32
  let v2719 : BitVec 32 := Scalar.subi v2718 c16_i32_2404
  let c256_i32_2405 : BitVec 32 := 256#32
  let v2720 : BitVec 32 := Scalar.muli v2719 c256_i32_2405
  let v2721 : BitVec 32 := v2720
  let v2722 : Index := Scalar.indexCast v2721
  let c0_2407 : Index := 0#32
  ![0, v2722.toNat, 0]
@[reducible] def k0_t2_loop (i : grid0.Coords) : Scf.Loop 32 :=
  let c15_i32_2128 : BitVec 32 := 15#32
  let c16_i32 : BitVec 32 := 16#32
  let arg2 : BitVec 32 := BitVec.ofNat 32 (i 2).val
  let v0 : BitVec 32 := Scalar.muli c16_i32 arg2
  let c16_i32_2126 : BitVec 32 := 16#32
  let v2365 : BitVec 32 := Scalar.addi v0 c16_i32_2126
  let c1_i32_2127 : BitVec 32 := 1#32
  let v2366 : BitVec 32 := Scalar.subi v2365 c1_i32_2127
  let v2367 : BitVec 32 := Scalar.subi v2366 c15_i32_2128
  let c1_i32_2129 : BitVec 32 := 1#32
  let v2369 : BitVec 32 := Scalar.divsi v2367 c1_i32_2129
  let v2370 : BitVec 32 := Scalar.muli v2369 c1_i32_2129
  let v2371 : BitVec 32 := Scalar.addi c15_i32_2128 v2370
  let v2368 : BitVec 32 := Scalar.addi c15_i32_2128 v2367
  let c1_i32_2131 : BitVec 32 := 1#32
  ⟨v2371, v2368, c1_i32_2131⟩
def k0_off5 (i : grid0.Coords) (k0_t2 : Fin (k0_t2_loop i).trips) : Fin 4 → Nat :=
  let c0_2338 : Index := 0#32
  let c15_i32_2128 : BitVec 32 := 15#32
  let c16_i32 : BitVec 32 := 16#32
  let arg2 : BitVec 32 := BitVec.ofNat 32 (i 2).val
  let v0 : BitVec 32 := Scalar.muli c16_i32 arg2
  let c16_i32_2126 : BitVec 32 := 16#32
  let v2365 : BitVec 32 := Scalar.addi v0 c16_i32_2126
  let c1_i32_2127 : BitVec 32 := 1#32
  let v2366 : BitVec 32 := Scalar.subi v2365 c1_i32_2127
  let v2367 : BitVec 32 := Scalar.subi v2366 c15_i32_2128
  let c1_i32_2129 : BitVec 32 := 1#32
  let v2369 : BitVec 32 := Scalar.divsi v2367 c1_i32_2129
  let v2370 : BitVec 32 := Scalar.muli v2369 c1_i32_2129
  let v2371 : BitVec 32 := Scalar.addi c15_i32_2128 v2370
  let c1_i32_2131 : BitVec 32 := 1#32
  let arg13 : BitVec 32 := Scf.iv v2371 c1_i32_2131 k0_t2
  let c1_i32_2334 : BitVec 32 := 1#32
  let v2635 : BitVec 32 := Scalar.subi arg13 c1_i32_2334
  let c16_i32_2335 : BitVec 32 := 16#32
  let v2636 : BitVec 1 := Scalar.cmpi .slt v2635 c16_i32_2335
  let c15_i32_2336 : BitVec 32 := 15#32
  let v2637 : BitVec 32 := Scalar.addi v0 c15_i32_2336
  let v2638 : BitVec 32 := Scalar.subi v2637 v2635
  let c16_i32_2337 : BitVec 32 := 16#32
  let v2639 : BitVec 32 := Scalar.subi v2635 c16_i32_2337
  let v2640 : BitVec 32 := Scalar.select v2636 v2638 v2639
  let v2641 : Index := Scalar.indexCast v2640
  let c0_2339 : Index := 0#32
  let c0_2340 : Index := 0#32
  ![0, v2641.toNat, 0, 0]
def k0_mult18 (i : grid0.Coords) (k0_t2 : Fin (k0_t2_loop i).trips) : BitVec 32 :=
  let c15_i32_2128 : BitVec 32 := 15#32
  let c16_i32 : BitVec 32 := 16#32
  let arg2 : BitVec 32 := BitVec.ofNat 32 (i 2).val
  let v0 : BitVec 32 := Scalar.muli c16_i32 arg2
  let c16_i32_2126 : BitVec 32 := 16#32
  let v2365 : BitVec 32 := Scalar.addi v0 c16_i32_2126
  let c1_i32_2127 : BitVec 32 := 1#32
  let v2366 : BitVec 32 := Scalar.subi v2365 c1_i32_2127
  let v2367 : BitVec 32 := Scalar.subi v2366 c15_i32_2128
  let c1_i32_2129 : BitVec 32 := 1#32
  let v2369 : BitVec 32 := Scalar.divsi v2367 c1_i32_2129
  let v2370 : BitVec 32 := Scalar.muli v2369 c1_i32_2129
  let v2371 : BitVec 32 := Scalar.addi c15_i32_2128 v2370
  let c1_i32_2131 : BitVec 32 := 1#32
  let arg13 : BitVec 32 := Scf.iv v2371 c1_i32_2131 k0_t2
  let c1_i32_2403 : BitVec 32 := 1#32
  let v2718 : BitVec 32 := Scalar.addi arg13 c1_i32_2403
  let c16_i32_2404 : BitVec 32 := 16#32
  let v2719 : BitVec 32 := Scalar.subi v2718 c16_i32_2404
  let c256_i32_2405 : BitVec 32 := 256#32
  let v2720 : BitVec 32 := Scalar.muli v2719 c256_i32_2405
  v2720
def k0_off6 (i : grid0.Coords) (k0_t2 : Fin (k0_t2_loop i).trips) : Fin 3 → Nat :=
  let c0_2406 : Index := 0#32
  let c15_i32_2128 : BitVec 32 := 15#32
  let c16_i32 : BitVec 32 := 16#32
  let arg2 : BitVec 32 := BitVec.ofNat 32 (i 2).val
  let v0 : BitVec 32 := Scalar.muli c16_i32 arg2
  let c16_i32_2126 : BitVec 32 := 16#32
  let v2365 : BitVec 32 := Scalar.addi v0 c16_i32_2126
  let c1_i32_2127 : BitVec 32 := 1#32
  let v2366 : BitVec 32 := Scalar.subi v2365 c1_i32_2127
  let v2367 : BitVec 32 := Scalar.subi v2366 c15_i32_2128
  let c1_i32_2129 : BitVec 32 := 1#32
  let v2369 : BitVec 32 := Scalar.divsi v2367 c1_i32_2129
  let v2370 : BitVec 32 := Scalar.muli v2369 c1_i32_2129
  let v2371 : BitVec 32 := Scalar.addi c15_i32_2128 v2370
  let c1_i32_2131 : BitVec 32 := 1#32
  let arg13 : BitVec 32 := Scf.iv v2371 c1_i32_2131 k0_t2
  let c1_i32_2403 : BitVec 32 := 1#32
  let v2718 : BitVec 32 := Scalar.addi arg13 c1_i32_2403
  let c16_i32_2404 : BitVec 32 := 16#32
  let v2719 : BitVec 32 := Scalar.subi v2718 c16_i32_2404
  let c256_i32_2405 : BitVec 32 := 256#32
  let v2720 : BitVec 32 := Scalar.muli v2719 c256_i32_2405
  let v2721 : BitVec 32 := v2720
  let v2722 : Index := Scalar.indexCast v2721
  let c0_2407 : Index := 0#32
  ![0, v2722.toNat, 0]
def k0_off7 (i : grid0.Coords) : Fin 4 → Nat :=
  let c0_2136 : Index := 0#32
  let c16_i32 : BitVec 32 := 16#32
  let arg2 : BitVec 32 := BitVec.ofNat 32 (i 2).val
  let v0 : BitVec 32 := Scalar.muli c16_i32 arg2
  let c16_i32_2126 : BitVec 32 := 16#32
  let v2365 : BitVec 32 := Scalar.addi v0 c16_i32_2126
  let c1_i32_2127 : BitVec 32 := 1#32
  let v2366 : BitVec 32 := Scalar.subi v2365 c1_i32_2127
  let c1_i32_2132 : BitVec 32 := 1#32
  let v2372 : BitVec 32 := Scalar.subi v2366 c1_i32_2132
  let c16_i32_2133 : BitVec 32 := 16#32
  let v2373 : BitVec 1 := Scalar.cmpi .slt v2372 c16_i32_2133
  let c15_i32_2134 : BitVec 32 := 15#32
  let v2374 : BitVec 32 := Scalar.addi v0 c15_i32_2134
  let v2375 : BitVec 32 := Scalar.subi v2374 v2372
  let c16_i32_2135 : BitVec 32 := 16#32
  let v2376 : BitVec 32 := Scalar.subi v2372 c16_i32_2135
  let v2377 : BitVec 32 := Scalar.select v2373 v2375 v2376
  let v2378 : Index := Scalar.indexCast v2377
  let c0_2137 : Index := 0#32
  let c0_2138 : Index := 0#32
  ![0, v2378.toNat, 0, 0]
def k0_off8 (i : grid0.Coords) : Fin 4 → Nat :=
  let c0_2204 : Index := 0#32
  let c16_i32 : BitVec 32 := 16#32
  let arg2 : BitVec 32 := BitVec.ofNat 32 (i 2).val
  let v0 : BitVec 32 := Scalar.muli c16_i32 arg2
  let c16_i32_2126 : BitVec 32 := 16#32
  let v2365 : BitVec 32 := Scalar.addi v0 c16_i32_2126
  let c1_i32_2127 : BitVec 32 := 1#32
  let v2366 : BitVec 32 := Scalar.subi v2365 c1_i32_2127
  let c16_i32_2201 : BitVec 32 := 16#32
  let v2455 : BitVec 1 := Scalar.cmpi .slt v2366 c16_i32_2201
  let c15_i32_2202 : BitVec 32 := 15#32
  let v2456 : BitVec 32 := Scalar.addi v0 c15_i32_2202
  let v2457 : BitVec 32 := Scalar.subi v2456 v2366
  let c16_i32_2203 : BitVec 32 := 16#32
  let v2458 : BitVec 32 := Scalar.subi v2366 c16_i32_2203
  let v2459 : BitVec 32 := Scalar.select v2455 v2457 v2458
  let v2460 : Index := Scalar.indexCast v2459
  let c0_2205 : Index := 0#32
  let c0_2206 : Index := 0#32
  ![0, v2460.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S64x1024x256 : Shape := ⟨3, ![64, 1024, 256]⟩
abbrev S2x8192x1024 : Shape := ⟨3, ![2, 8192, 1024]⟩
abbrev S2x32x512x256 : Shape := ⟨4, ![2, 32, 512, 256]⟩
abbrev S2x32x8x128x256 : Shape := ⟨5, ![2, 32, 8, 128, 256]⟩
abbrev S2x8x32x256x128 : Shape := ⟨5, ![2, 8, 32, 256, 128]⟩
abbrev S2x8x8192x128 : Shape := ⟨4, ![2, 8, 8192, 128]⟩
abbrev S2x8192x8x128 : Shape := ⟨4, ![2, 8192, 8, 128]⟩
abbrev S2x32x8x64x256 : Shape := ⟨5, ![2, 32, 8, 64, 256]⟩
abbrev S2x8x32x256x64 : Shape := ⟨5, ![2, 8, 32, 256, 64]⟩
abbrev S2x8x8192x64 : Shape := ⟨4, ![2, 8, 8192, 64]⟩
abbrev S8192 : Shape := ⟨1, ![8192]⟩
abbrev S2x8x8192x8192 : Shape := ⟨4, ![2, 8, 8192, 8192]⟩
abbrev S_ : Shape := ⟨0, ![]⟩
abbrev S1x1x1x1 : Shape := ⟨4, ![1, 1, 1, 1]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S64x512x256 : Shape := ⟨3, ![64, 512, 256]⟩

abbrev nBuf : Space → Nat
  | .hbm => 50
  | .vmem => 0
  | .smem => 0
  | _ => 0

abbrev bufTy : (tb : Table) → Fin (tcTables nBuf tb) → BufTy
  | .hbm, ⟨0, _⟩ => ⟨S64x1024x256, .bf16⟩
  | .hbm, ⟨1, _⟩ => ⟨S2x8192x1024, .bf16⟩
  | .hbm, ⟨2, _⟩ => ⟨S2x32x512x256, .bf16⟩
  | .hbm, ⟨3, _⟩ => ⟨S64x1024x256, .f32⟩
  | .hbm, ⟨4, _⟩ => ⟨S2x32x8x128x256, .f32⟩
  | .hbm, ⟨5, _⟩ => ⟨S2x8x32x256x128, .f32⟩
  | .hbm, ⟨6, _⟩ => ⟨S2x8x8192x128, .f32⟩
  | .hbm, ⟨7, _⟩ => ⟨S2x8192x1024, .f32⟩
  | .hbm, ⟨8, _⟩ => ⟨S2x8192x8x128, .f32⟩
  | .hbm, ⟨9, _⟩ => ⟨S2x8x8192x128, .f32⟩
  | .hbm, ⟨10, _⟩ => ⟨S2x32x512x256, .f32⟩
  | .hbm, ⟨11, _⟩ => ⟨S2x32x8x64x256, .f32⟩
  | .hbm, ⟨12, _⟩ => ⟨S2x8x32x256x64, .f32⟩
  | .hbm, ⟨13, _⟩ => ⟨S2x8x8192x64, .f32⟩
  | .hbm, ⟨14, _⟩ => ⟨S8192, .i32⟩
  | .hbm, ⟨15, _⟩ => ⟨S2x8x8192x8192, .f32⟩
  | .hbm, ⟨16, _⟩ => ⟨S_, .f32⟩
  | .hbm, ⟨17, _⟩ => ⟨S1x1x1x1, .f32⟩
  | .hbm, ⟨18, _⟩ => ⟨S1x1x1x1, .f32⟩
  | .hbm, ⟨19, _⟩ => ⟨S2x8x8192x8192, .f32⟩
  | .hbm, ⟨20, _⟩ => ⟨S2x8x8192x8192, .f32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S2x8x8192x8192, .i1⟩
  | .hbm, ⟨29, _⟩ => ⟨S2x8x8192x8192, .f32⟩
  | .hbm, ⟨30, _⟩ => ⟨S2x8x8192x8192, .f32⟩
  | .hbm, ⟨31, _⟩ => ⟨S_, .f32⟩
  | .hbm, ⟨32, _⟩ => ⟨S2x8x8192, .f32⟩
  | .hbm, ⟨33, _⟩ => ⟨S_, .f32⟩
  | .hbm, ⟨34, _⟩ => ⟨S2x8x8192, .f32⟩
  | .hbm, ⟨35, _⟩ => ⟨S2x8x8192, .f32⟩
  | .hbm, ⟨36, _⟩ => ⟨S2x8x8192x1, .f32⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S2x8x8192, .f32⟩
  | .hbm, ⟨42, _⟩ => ⟨S2x8x8192x1, .f32⟩
  | .hbm, ⟨43, _⟩ => ⟨S2x8x8192x8192, .f32⟩
  | .hbm, ⟨44, _⟩ => ⟨S2x8x8192x8192, .f32⟩
  | .hbm, ⟨45, _⟩ => ⟨S2x8x8192x64, .f32⟩
  | .hbm, ⟨46, _⟩ => ⟨S2x8x32x256x64, .f32⟩
  | .hbm, ⟨47, _⟩ => ⟨S2x32x8x64x256, .f32⟩
  | .hbm, ⟨48, _⟩ => ⟨S64x512x256, .f32⟩
  | .hbm, ⟨49, _⟩ => ⟨S64x512x256, .bf16⟩
  | _, _ => ⟨S64x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Post.lean ====
abbrev S16384x1024 : Shape := ⟨2, ![16384, 1024]⟩
abbrev S64x512x256 : Shape := ⟨3, ![64, 512, 256]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S2x512x256 : Shape := ⟨3, ![2, 512, 256]⟩
abbrev S512x2048 : Shape := ⟨2, ![512, 2048]⟩
abbrev S1x512x256 : Shape := ⟨3, ![1, 512, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 19
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S64x512x256, .bf16⟩
  | .hbm, ⟨2, _⟩ => ⟨S64x512x256, .bf16⟩
  | .hbm, ⟨3, _⟩ => ⟨S16384x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S2x512x256, .bf16⟩
  | .local _ .vmem, ⟨3, _⟩ => ⟨S2x512x256, .bf16⟩
  | .local _ .vmem, ⟨4, _⟩ => ⟨S2x512x256, .bf16⟩
  | .local _ .vmem, ⟨5, _⟩ => ⟨S2x512x256, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostReferenceIdeal.lean ====
abbrev S16384x1024 : Shape := ⟨2, ![16384, 1024]⟩
abbrev S64x512x256 : Shape := ⟨3, ![64, 512, 256]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S64x256x512 : Shape := ⟨3, ![64, 256, 512]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S64x512x256, .bf16⟩
  | .hbm, ⟨2, _⟩ => ⟨S64x512x256, .bf16⟩
  | .hbm, ⟨3, _⟩ => ⟨S16384x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S64x512x256, .f32⟩
  | .hbm, ⟨12, _⟩ => ⟨S64x256x512, .f32⟩
  | .hbm, ⟨13, _⟩ => ⟨S16384x512, .f32⟩
  | .hbm, ⟨14, _⟩ => ⟨S64x512x256, .f32⟩
  | .hbm, ⟨15, _⟩ => ⟨S64x256x512, .f32⟩
  | .hbm, ⟨16, _⟩ => ⟨S16384x512, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Pre.lean ====
abbrev S16384x1024 : Shape := ⟨2, ![16384, 1024]⟩
abbrev S1024 : Shape := ⟨1, ![1024]⟩
abbrev S1024x4256 : Shape := ⟨2, ![1024, 4256]⟩
abbrev S2x1024 : Shape := ⟨2, ![2, 1024]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8192x32 : Shape := ⟨2, ![8192, 32]⟩
abbrev S8192x16 : Shape := ⟨2, ![8192, 16]⟩
abbrev S512 : Shape := ⟨1, ![512]⟩
abbrev S1024x512 : Shape := ⟨2, ![1024, 512]⟩
abbrev S_ : Shape := ⟨0, ![]⟩
abbrev S512x1 : Shape := ⟨2, ![512, 1]⟩
abbrev S512x1024 : Shape := ⟨2, ![512, 1024]⟩
abbrev S1024x384 : Shape := ⟨2, ![1024, 384]⟩
abbrev S384x1024 : Shape := ⟨2, ![384, 1024]⟩
abbrev S1024x256 : Shape := ⟨2, ![1024, 256]⟩
abbrev S1024x64 : Shape := ⟨2, ![1024, 64]⟩
abbrev S1024x32 : Shape := ⟨2, ![1024, 32]⟩
abbrev S1024x16 : Shape := ⟨2, ![1024, 16]⟩
abbrev S1024x48 : Shape := ⟨2, ![1024, 48]⟩
abbrev S1024x128 : Shape := ⟨2, ![1024, 128]⟩
abbrev S1024x2048 : Shape := ⟨2, ![1024, 2048]⟩
abbrev S384x8x96 : Shape := ⟨3, ![384, 8, 96]⟩
abbrev S384x8x64 : Shape := ⟨3, ![384, 8, 64]⟩
abbrev S384x8x32 : Shape := ⟨3, ![384, 8, 32]⟩
abbrev S384x8x16 : Shape := ⟨3, ![384, 8, 16]⟩
abbrev S384x8x48 : Shape := ⟨3, ![384, 8, 48]⟩
abbrev S384x8x128 : Shape := ⟨3, ![384, 8, 128]⟩
abbrev S256x8x128 : Shape := ⟨3, ![256, 8, 128]⟩
abbrev S256x8x64 : Shape := ⟨3, ![256, 8, 64]⟩
abbrev S256x8x32 : Shape := ⟨3, ![256, 8, 32]⟩
abbrev S256x8x16 : Shape := ⟨3, ![256, 8, 16]⟩
abbrev S256x8x48 : Shape := ⟨3, ![256, 8, 48]⟩
abbrev S256x512 : Shape := ⟨2, ![256, 512]⟩
abbrev S512x256 : Shape := ⟨2, ![512, 256]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S8192x48 : Shape := ⟨2, ![8192, 48]⟩
abbrev S128x8192 : Shape := ⟨2, ![128, 8192]⟩
abbrev S384x1 : Shape := ⟨2, ![384, 1]⟩
abbrev S384x512 : Shape := ⟨2, ![384, 512]⟩
abbrev S1x1024 : Shape := ⟨2, ![1, 1024]⟩
abbrev S1x2048 : Shape := ⟨2, ![1, 2048]⟩
abbrev S1x256 : Shape := ⟨2, ![1, 256]⟩
abbrev S64x1024x256 : Shape := ⟨3, ![64, 1024, 256]⟩
abbrev S16384x512 : Shape := ⟨2, ![16384, 512]⟩
abbrev S64x512x256 : Shape := ⟨3, ![64, 512, 256]⟩
abbrev S32x2x512 : Shape := ⟨3, ![32, 2, 512]⟩
abbrev S16384x2048 : Shape := ⟨2, ![16384, 2048]⟩
abbrev S512x128 : Shape := ⟨2, ![512, 128]⟩
abbrev S128x512 : Shape := ⟨2, ![128, 512]⟩
abbrev S2x1024x256 : Shape := ⟨3, ![2, 1024, 256]⟩
abbrev S512x512 : Shape := ⟨2, ![512, 512]⟩
abbrev S2x512x256 : Shape := ⟨3, ![2, 512, 256]⟩
abbrev S1x2x512 : Shape := ⟨3, ![1, 2, 512]⟩
abbrev S512x2048 : Shape := ⟨2, ![512, 2048]⟩
abbrev S64x512 : Shape := ⟨2, ![64, 512]⟩
abbrev S128x256 : Shape := ⟨2, ![128, 256]⟩
abbrev S1x128x256 : Shape := ⟨3, ![1, 128, 256]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S1x512x256 : Shape := ⟨3, ![1, 512, 256]⟩
abbrev S1x512 : Shape := ⟨2, ![1, 512]⟩

abbrev nBuf : Space → Nat
  | .hbm => 124
  | .vmem => 48
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4256, .f32⟩
  | .hbm, ⟨3, _⟩ => ⟨S2x1024, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x1024, .f32⟩
  | .hbm, ⟨8, _⟩ => ⟨S8192x32, .f32⟩
  | .hbm, ⟨9, _⟩ => ⟨S8192x32, .f32⟩
  | .hbm, ⟨10, _⟩ => ⟨S8192x16, .f32⟩
  | .hbm, ⟨11, _⟩ => ⟨S8192x16, .f32⟩
  | .hbm, ⟨12, _⟩ => ⟨S512, .i32⟩
  | .hbm, ⟨13, _⟩ => ⟨S1024x4256, .bf16⟩
  | .hbm, ⟨14, _⟩ => ⟨S1024x512, .bf16⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S1024x512, .bf16⟩
  | .hbm, ⟨24, _⟩ => ⟨S512x1024, .bf16⟩
  | .hbm, ⟨25, _⟩ => ⟨S1024x512, .bf16⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S1024x512, .bf16⟩
  | .hbm, ⟨35, _⟩ => ⟨S1024x512, .bf16⟩
  | .hbm, ⟨36, _⟩ => ⟨S512x1024, .bf16⟩
  | .hbm, ⟨37, _⟩ => ⟨S1024x384, .bf16⟩
  | .hbm, ⟨38, _⟩ => ⟨S384x1024, .bf16⟩
  | .hbm, ⟨39, _⟩ => ⟨S1024x256, .bf16⟩
  | .hbm, ⟨40, _⟩ => ⟨S_, .bf16⟩
  | .hbm, ⟨41, _⟩ => ⟨S1024x64, .bf16⟩
  | .hbm, ⟨42, _⟩ => ⟨S1024x32, .bf16⟩
  | .hbm, ⟨43, _⟩ => ⟨S_, .bf16⟩
  | .hbm, ⟨44, _⟩ => ⟨S1024x32, .bf16⟩
  | .hbm, ⟨45, _⟩ => ⟨S1024x16, .bf16⟩
  | .hbm, ⟨46, _⟩ => ⟨S1024x48, .bf16⟩
  | .hbm, ⟨47, _⟩ => ⟨S1024x16, .bf16⟩
  | .hbm, ⟨48, _⟩ => ⟨S1024x16, .bf16⟩
  | .hbm, ⟨49, _⟩ => ⟨S1024x128, .bf16⟩
  | .hbm, ⟨50, _⟩ => ⟨S1024x2048, .bf16⟩
  | .hbm, ⟨51, _⟩ => ⟨S384x768, .bf16⟩
  | .hbm, ⟨52, _⟩ => ⟨S384x8x96, .bf16⟩
  | .hbm, ⟨53, _⟩ => ⟨S384x8x64, .bf16⟩
  | .hbm, ⟨54, _⟩ => ⟨S384x8x32, .bf16⟩
  | .hbm, ⟨55, _⟩ => ⟨S_, .bf16⟩
  | .hbm, ⟨56, _⟩ => ⟨S384x8x32, .bf16⟩
  | .hbm, ⟨57, _⟩ => ⟨S384x8x16, .bf16⟩
  | .hbm, ⟨58, _⟩ => ⟨S384x8x48, .bf16⟩
  | .hbm, ⟨59, _⟩ => ⟨S384x8x16, .bf16⟩
  | .hbm, ⟨60, _⟩ => ⟨S384x8x16, .bf16⟩
  | .hbm, ⟨61, _⟩ => ⟨S384x8x128, .bf16⟩
  | .hbm, ⟨62, _⟩ => ⟨S384x1024, .bf16⟩
  | .hbm, ⟨63, _⟩ => ⟨S1024x384, .bf16⟩
  | .hbm, ⟨64, _⟩ => ⟨S256x1024, .bf16⟩
  | .hbm, ⟨65, _⟩ => ⟨S256x8x128, .bf16⟩
  | .hbm, ⟨66, _⟩ => ⟨S256x8x64, .bf16⟩
  | .hbm, ⟨67, _⟩ => ⟨S_, .bf16⟩
  | .hbm, ⟨68, _⟩ => ⟨S256x8x32, .bf16⟩
  | .hbm, ⟨69, _⟩ => ⟨S_, .bf16⟩
  | .hbm, ⟨70, _⟩ => ⟨S256x8x32, .bf16⟩
  | .hbm, ⟨71, _⟩ => ⟨S256x8x16, .bf16⟩
  | .hbm, ⟨72, _⟩ => ⟨S256x8x48, .bf16⟩
  | .hbm, ⟨73, _⟩ => ⟨S256x8x16, .bf16⟩
  | .hbm, ⟨74, _⟩ => ⟨S256x8x16, .bf16⟩
  | .hbm, ⟨75, _⟩ => ⟨S256x8x128, .bf16⟩
  | .hbm, ⟨76, _⟩ => ⟨S256x1024, .bf16⟩
  | .hbm, ⟨77, _⟩ => ⟨S256x8x64, .bf16⟩
  | .hbm, ⟨78, _⟩ => ⟨S256x512, .bf16⟩
  | .hbm, ⟨79, _⟩ => ⟨S512x256, .bf16⟩
  | .hbm, ⟨80, _⟩ => ⟨S1x8192x1x32, .f32⟩
  | .hbm, ⟨81, _⟩ => ⟨S1x8192x4x32, .f32⟩
  | .hbm, ⟨82, _⟩ => ⟨S8192x128, .f32⟩
  | .hbm, ⟨83, _⟩ => ⟨S8192x32, .f32⟩
  | .hbm, ⟨84, _⟩ => ⟨S8192x32, .f32⟩
  | .hbm, ⟨85, _⟩ => ⟨S8192x128, .f32⟩
  | .hbm, ⟨86, _⟩ => ⟨S_, .f32⟩
  | .hbm, ⟨87, _⟩ => ⟨S8192x64, .f32⟩
  | .hbm, ⟨88, _⟩ => ⟨S8192x32, .f32⟩
  | .hbm, ⟨89, _⟩ => ⟨S_, .f32⟩
  | .hbm, ⟨90, _⟩ => ⟨S8192x32, .f32⟩
  | .hbm, ⟨91, _⟩ => ⟨S8192x16, .f32⟩
  | .hbm, ⟨92, _⟩ => ⟨S8192x48, .f32⟩
  | .hbm, ⟨93, _⟩ => ⟨S8192x16, .f32⟩
  | .hbm, ⟨94, _⟩ => ⟨S8192x16, .f32⟩
  | .hbm, ⟨95, _⟩ => ⟨S8192x128, .f32⟩
  | .hbm, ⟨96, _⟩ => ⟨S_, .f32⟩
  | .hbm, ⟨97, _⟩ => ⟨S8192x64, .f32⟩
  | .hbm, ⟨98, _⟩ => ⟨S8192x16, .f32⟩
  | .hbm, ⟨99, _⟩ => ⟨S8192x32, .f32⟩
  | .hbm, ⟨100, _⟩ => ⟨S_, .f32⟩
  | .hbm, ⟨101, _⟩ => ⟨S8192x32, .f32⟩
  | .hbm, ⟨102, _⟩ => ⟨S8192x16, .f32⟩
  | .hbm, ⟨103, _⟩ => ⟨S8192x48, .f32⟩
  | .hbm, ⟨104, _⟩ => ⟨S8192x16, .f32⟩
  | .hbm, ⟨105, _⟩ => ⟨S8192x16, .f32⟩
  | .hbm, ⟨106, _⟩ => ⟨S8192x128, .f32⟩
  | .hbm, ⟨107, _⟩ => ⟨S128x8192, .f32⟩
  | .hbm, ⟨108, _⟩ => ⟨S128x8192, .f32⟩
  | .hbm, ⟨109, _⟩ => ⟨S128x8192, .f32⟩
  | .hbm, ⟨110, _⟩ => ⟨S128x8192, .f32⟩
  | .hbm, ⟨111, _⟩ => ⟨S384x1, .f32⟩
  | .hbm, ⟨112, _⟩ => ⟨S384x512, .f32⟩
  | .hbm, ⟨113, _⟩ => ⟨S1x1024, .f32⟩
  | .hbm, ⟨114, _⟩ => ⟨S1x2048, .f32⟩
  | .hbm, ⟨115, _⟩ => ⟨S1x256, .f32⟩
  | .hbm, ⟨116, _⟩ => ⟨S64x1024x256, .bf16⟩
  | .hbm, ⟨117, _⟩ => ⟨S16384x512, .bf16⟩
  | .hbm, ⟨118, _⟩ => ⟨S64x512x256, .bf16⟩
  | .hbm, ⟨119, _⟩ => ⟨S32x2x512, .f32⟩
  | .hbm, ⟨120, _⟩ => ⟨S16384x2048, .bf16⟩
  | .hbm, ⟨121, _⟩ => ⟨S64x1024x256, .bf16⟩
  | .hbm, ⟨122, _⟩ => ⟨S16384x1024, .bf16⟩
  | .hbm, ⟨123, _⟩ => ⟨S64x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S512x1024, .bf16⟩
  | .local _ .vmem, ⟨20, _⟩ => ⟨S1024x512, .bf16⟩
  | .local _ .vmem, ⟨21, _⟩ => ⟨S512x1024, .bf16⟩
  | .local _ .vmem, ⟨22, _⟩ => ⟨S384x1024, .bf16⟩
  | .local _ .vmem, ⟨23, _⟩ => ⟨S1024x256, .bf16⟩
  | .local _ .vmem, ⟨24, _⟩ => ⟨S1024x128, .bf16⟩
  | .local _ .vmem, ⟨25, _⟩ => ⟨S1024x2048, .bf16⟩
  | .local _ .vmem, ⟨26, _⟩ => ⟨S1x2048, .f32⟩
  | .local _ .vmem, ⟨27, _⟩ => ⟨S384x512, .f32⟩
  | .local _ .vmem, ⟨28, _⟩ => ⟨S1024x384, .bf16⟩
  | .local _ .vmem, ⟨29, _⟩ => ⟨S1x256, .f32⟩
  | .local _ .vmem, ⟨30, _⟩ => ⟨S256x1024, .bf16⟩
  | .local _ .vmem, ⟨31, _⟩ => ⟨S512x256, .bf16⟩
  | .local _ .vmem, ⟨32, _⟩ => ⟨S2x1024x256, .bf16⟩
  | .local _ .vmem, ⟨33, _⟩ => ⟨S2x1024x256, .bf16⟩
  | .local _ .vmem, ⟨34, _⟩ => ⟨S512x512, .bf16⟩
  | .local _ .vmem, ⟨35, _⟩ => ⟨S512x512, .bf16⟩
  | .local _ .vmem, ⟨36, _⟩ => ⟨S2x512x256, .bf16⟩
  | .local _ .vmem, ⟨37, _⟩ => ⟨S2x512x256, .bf16⟩
  | .local _ .vmem, ⟨38, _⟩ => ⟨S1x2x512, .f32⟩
  | .local _ .vmem, ⟨39, _⟩ => ⟨S1x2x512, .f32⟩
  | .local _ .vmem, ⟨40, _⟩ => ⟨S512x2048, .bf16⟩
  | .local _ .vmem, ⟨41, _⟩ => ⟨S512x2048, .bf16⟩
  | .local _ .vmem, ⟨42, _⟩ => ⟨S2x1024x256, .bf16⟩
  | .local _ .vmem, ⟨43, _⟩ => ⟨S2x1024x256, .bf16⟩
  | .local _ .vmem, ⟨44, _⟩ => ⟨S512x1024, .bf16⟩
  | .local _ .vmem, ⟨45, _⟩ => ⟨S512x1024, .bf16⟩
  | .local _ .vmem, ⟨46, _⟩ => ⟨S2x512x256, .bf16⟩
  | .local _ .vmem, ⟨47, _⟩ => ⟨S2x512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_cst_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_10 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90_0 : Ref sig .tc := ⟨.hbm, 116, rfl⟩
abbrev main_v90_1 : Ref sig .tc := ⟨.hbm, 117, rfl⟩
abbrev main_v90_2 : Ref sig .tc := ⟨.hbm, 118, rfl⟩
abbrev main_v90_3 : Ref sig .tc := ⟨.hbm, 119, rfl⟩
abbrev main_v90_4 : Ref sig .tc := ⟨.hbm, 120, rfl⟩
abbrev main_v90_5 : Ref sig .tc := ⟨.hbm, 121, rfl⟩
abbrev main_v90_6 : Ref sig .tc := ⟨.hbm, 122, rfl⟩
abbrev main_v90_7 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x384 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2x1024x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x2x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x2048 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S2x1024x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S2x512x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== PreReferenceIdeal.lean ====
abbrev S16384x1024 : Shape := ⟨2, ![16384, 1024]⟩
abbrev S1024 : Shape := ⟨1, ![1024]⟩
abbrev S1024x4256 : Shape := ⟨2, ![1024, 4256]⟩
abbrev S2x1024 : Shape := ⟨2, ![2, 1024]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S8192x32 : Shape := ⟨2, ![8192, 32]⟩
abbrev S8192x16 : Shape := ⟨2, ![8192, 16]⟩
abbrev S16384x32 : Shape := ⟨2, ![16384, 32]⟩
abbrev S16384x1x32 : Shape := ⟨3, ![16384, 1, 32]⟩
abbrev S16384x16 : Shape := ⟨2, ![16384, 16]⟩
abbrev S16384x1x16 : Shape := ⟨3, ![16384, 1, 16]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4256 : Shape := ⟨2, ![16384, 4256]⟩
abbrev S16384x512 : Shape := ⟨2, ![16384, 512]⟩
abbrev S16384x384 : Shape := ⟨2, ![16384, 384]⟩
abbrev S16384x256 : Shape := ⟨2, ![16384, 256]⟩
abbrev S16384x2048 : Shape := ⟨2, ![16384, 2048]⟩
abbrev S16384x8x64 : Shape := ⟨3, ![16384, 8, 64]⟩
abbrev S16384x8x32 : Shape := ⟨3, ![16384, 8, 32]⟩
abbrev S1x384 : Shape := ⟨2, ![1, 384]⟩
abbrev S16384x768 : Shape := ⟨2, ![16384, 768]⟩
abbrev S16384x8x96 : Shape := ⟨3, ![16384, 8, 96]⟩
abbrev S16384x8x16 : Shape := ⟨3, ![16384, 8, 16]⟩
abbrev S1x256 : Shape := ⟨2, ![1, 256]⟩
abbrev S16384x8x128 : Shape := ⟨3, ![16384, 8, 128]⟩
abbrev S1x2048 : Shape := ⟨2, ![1, 2048]⟩
abbrev S16384x4x2x2x32 : Shape := ⟨5, ![16384, 4, 2, 2, 32]⟩
abbrev S16384x4x2x1x32 : Shape := ⟨5, ![16384, 4, 2, 1, 32]⟩
abbrev S16384x4x128 : Shape := ⟨3, ![16384, 4, 128]⟩
abbrev S16384x4x256 : Shape := ⟨3, ![16384, 4, 256]⟩
abbrev S64x256x1024 : Shape := ⟨3, ![64, 256, 1024]⟩
abbrev S64x1024x256 : Shape := ⟨3, ![64, 1024, 256]⟩
abbrev S32x2x256x512 : Shape := ⟨4, ![32, 2, 256, 512]⟩
abbrev S32x2x512 : Shape := ⟨3, ![32, 2, 512]⟩
abbrev S64x256x512 : Shape := ⟨3, ![64, 256, 512]⟩
abbrev S64x512x256 : Shape := ⟨3, ![64, 512, 256]⟩
abbrev S16384x8x48 : Shape := ⟨3, ![16384, 8, 48]⟩

abbrev nBuf : Space → Nat
  | .hbm => 207
  | .vmem => 0
  | .smem => 0
  | _ => 0

abbrev hbmTy0_0 (i : Nat) : BufTy := match i % 128 with
  | 0 => ⟨S16384x1024, .f32⟩
  | 1 => ⟨S1024, .f32⟩
  | 2 => ⟨S1024x4256, .f32⟩
  | 3 => ⟨S2x1024, .f32⟩
  | 4 => ⟨S384, .f32⟩
  | 5 => ⟨S384x768, .f32⟩
  | 6 => ⟨S256, .f32⟩
  | 7 => ⟨S256x1024, .f32⟩
  | 8 => ⟨S8192x32, .f32⟩
  | 9 => ⟨S8192x32, .f32⟩
  | 10 => ⟨S8192x16, .f32⟩
  | 11 => ⟨S8192x16, .f32⟩
  | 12 => ⟨S16384x32, .f32⟩
  | 13 => ⟨S16384x1x32, .f32⟩
  | 14 => ⟨S16384x32, .f32⟩
  | 15 => ⟨S16384x1x32, .f32⟩
  | 16 => ⟨S16384x16, .f32⟩
  | 17 => ⟨S16384x1x16, .f32⟩
  | 18 => ⟨S16384x16, .f32⟩
  | 19 => ⟨S16384x1x16, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x1024, .f32⟩
  | 32 => ⟨S16384x1024, .f32⟩
  | 33 => ⟨S1x1024, .f32⟩
  | 34 => ⟨S16384x1024, .f32⟩
  | 35 => ⟨S16384x1024, .f32⟩
  | 36 => ⟨S16384x4256, .f32⟩
  | 37 => ⟨S16384x512, .f32⟩
  | 38 => ⟨S16384x512, .f32⟩
  | 39 => ⟨S16384x512, .f32⟩
  | 40 => ⟨S16384x384, .f32⟩
  | 41 => ⟨S16384x256, .f32⟩
  | 42 => ⟨S16384x32, .f32⟩
  | 43 => ⟨S16384x2048, .f32⟩
  | 44 => ⟨S16384x8x64, .f32⟩
  | 45 => ⟨S16384x8x32, .f32⟩
  | 46 => ⟨S16384x8x32, .f32⟩
  | 47 => ⟨S16384x8x32, .f32⟩
  | 48 => ⟨S16384x8x32, .f32⟩
  | 49 => ⟨S16384x8x32, .f32⟩
  | 50 => ⟨S16384x8x32, .f32⟩
  | 51 => ⟨S16384x8x32, .f32⟩
  | 52 => ⟨S16384x8x32, .f32⟩
  | 53 => ⟨S16384x8x32, .f32⟩
  | 54 => ⟨S16384x8x32, .f32⟩
  | 55 => ⟨S16384x8x32, .f32⟩
  | 56 => ⟨S16384x8x32, .f32⟩
  | 57 => ⟨S16384x8x64, .f32⟩
  | 58 => ⟨S_, .f32⟩
  | 59 => ⟨S16384x8x64, .f32⟩
  | 60 => ⟨S16384x8x64, .f32⟩
  | 61 => ⟨S16384x8x64, .f32⟩
  | 62 => ⟨S16384x8x32, .f32⟩
  | 63 => ⟨S16384x8x32, .f32⟩
  | 64 => ⟨S16384x8x32, .f32⟩
  | 65 => ⟨S16384x8x32, .f32⟩
  | 66 => ⟨S16384x8x32, .f32⟩
  | 67 => ⟨S16384x8x32, .f32⟩
  | 68 => ⟨S16384x8x32, .f32⟩
  | 69 => ⟨S16384x8x32, .f32⟩
  | 70 => ⟨S16384x8x32, .f32⟩
  | 71 => ⟨S16384x8x32, .f32⟩
  | 72 => ⟨S16384x8x32, .f32⟩
  | 73 => ⟨S16384x8x32, .f32⟩
  | 74 => ⟨S16384x8x64, .f32⟩
  | 75 => ⟨S16384x384, .f32⟩
  | 76 => ⟨S_, .f32⟩
  | 77 => ⟨S16384, .f32⟩
  | 78 => ⟨S16384x1, .f32⟩
  | 79 => ⟨S_, .f32⟩
  | 80 => ⟨S16384x1, .f32⟩
  | 81 => ⟨S16384x1, .f32⟩
  | 82 => ⟨S_, .f32⟩
  | 83 => ⟨S16384x1, .f32⟩
  | 84 => ⟨S16384x1, .f32⟩
  | 85 => ⟨S16384x1, .f32⟩
  | 86 => ⟨S16384x384, .f32⟩
  | 87 => ⟨S16384x384, .f32⟩
  | 88 => ⟨S1x384, .f32⟩
  | 89 => ⟨S16384x384, .f32⟩
  | 90 => ⟨S16384x384, .f32⟩
  | 91 => ⟨S16384x768, .f32⟩
  | 92 => ⟨S16384x8x96, .f32⟩
  | 93 => ⟨S16384x8x64, .f32⟩
  | 94 => ⟨S_, .f32⟩
  | 95 => ⟨S16384x8x64, .f32⟩
  | 96 => ⟨S16384x8x64, .f32⟩
  | 97 => ⟨S16384x8x32, .f32⟩
  | 98 => ⟨S16384x8x16, .f32⟩
  | 99 => ⟨S16384x8x16, .f32⟩
  | 100 => ⟨S16384x8x16, .f32⟩
  | 101 => ⟨S16384x8x16, .f32⟩
  | 102 => ⟨S16384x8x16, .f32⟩
  | 103 => ⟨S16384x8x16, .f32⟩
  | 104 => ⟨S16384x8x16, .f32⟩
  | 105 => ⟨S16384x8x16, .f32⟩
  | 106 => ⟨S16384x8x16, .f32⟩
  | 107 => ⟨S16384x8x16, .f32⟩
  | 108 => ⟨S16384x8x16, .f32⟩
  | 109 => ⟨S16384x8x16, .f32⟩
  | 110 => ⟨S16384x8x32, .f32⟩
  | 111 => ⟨S_, .f32⟩
  | 112 => ⟨S16384x8x32, .f32⟩
  | 113 => ⟨S16384x8x32, .f32⟩
  | 114 => ⟨S16384x256, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384x1, .f32⟩
  | 123 => ⟨S16384x1, .f32⟩
  | 124 => ⟨S16384x1, .f32⟩
  | 125 => ⟨S16384x256, .f32⟩
  | 126 => ⟨S16384x256, .f32⟩
  | 127 => ⟨S1x256, .f32⟩
  | _ => ⟨S16384x1024, .f32⟩

abbrev hbmTy0_1 (i : Nat) : BufTy := match i % 128 with
  | 0 => ⟨S16384x256, .f32⟩
  | 1 => ⟨S16384x256, .f32⟩
  | 2 => ⟨S16384x1024, .f32⟩
  | 3 => ⟨S16384x8x128, .f32⟩
  | 4 => ⟨S16384x8x64, .f32⟩
  | 5 => ⟨S16384x8x64, .f32⟩
  | 6 => ⟨S16384x1x32, .f32⟩
  | 7 => ⟨S16384x1x16, .f32⟩
  | 8 => ⟨S16384x1x16, .f32⟩
  | 9 => ⟨S16384x1x16, .f32⟩
  | 10 => ⟨S16384x1x16, .f32⟩
  | 11 => ⟨S16384x1x16, .f32⟩
  | 12 => ⟨S16384x1x16, .f32⟩
  | 13 => ⟨S16384x1x16, .f32⟩
  | 14 => ⟨S16384x1x16, .f32⟩
  | 15 => ⟨S16384x1x32, .f32⟩
  | 16 => ⟨S16384x8x32, .f32⟩
  | 17 => ⟨S1x2048, .f32⟩
  | 18 => ⟨S16384x2048, .f32⟩
  | 19 => ⟨S16384x2048, .f32⟩
  | 20 => ⟨S16384x2048, .f32⟩
  | 21 => ⟨S16384x2048, .f32⟩
  | 22 => ⟨S_, .f32⟩
  | 23 => ⟨S16384x2048, .f32⟩
  | 24 => ⟨S16384x2048, .f32⟩
  | 25 => ⟨S_, .f32⟩
  | 26 => ⟨S16384x2048, .f32⟩
  | 27 => ⟨S16384x2048, .f32⟩
  | 28 => ⟨S16384x4x2x2x32, .f32⟩
  | 29 => ⟨S16384x4x2x2x32, .f32⟩
  | 30 => ⟨S_, .f32⟩
  | 31 => ⟨S16384x4x2x1x32, .f32⟩
  | 32 => ⟨S16384x4x2x1x32, .f32⟩
  | 33 => ⟨S16384x4x2x2x32, .f32⟩
  | 34 => ⟨S16384x4x128, .f32⟩
  | 35 => ⟨S16384x4x2x1x32, .f32⟩
  | 36 => ⟨S16384x4x2x2x32, .f32⟩
  | 37 => ⟨S16384x4x128, .f32⟩
  | 38 => ⟨S16384x4x256, .f32⟩
  | 39 => ⟨S64x256x1024, .f32⟩
  | 40 => ⟨S64x1024x256, .f32⟩
  | 41 => ⟨S64x1024x256, .bf16⟩
  | 42 => ⟨S16384x4x2x2x32, .f32⟩
  | 43 => ⟨S16384x4x2x2x32, .f32⟩
  | 44 => ⟨S16384x512, .f32⟩
  | 45 => ⟨S32x2x256x512, .f32⟩
  | 46 => ⟨S_, .f32⟩
  | 47 => ⟨S32x2x512, .f32⟩
  | 48 => ⟨S_, .f32⟩
  | 49 => ⟨S32x2x512, .f32⟩
  | 50 => ⟨S32x2x512, .f32⟩
  | 51 => ⟨S16384x512, .bf16⟩
  | 52 => ⟨S64x256x512, .f32⟩
  | 53 => ⟨S64x512x256, .f32⟩
  | 54 => ⟨S64x512x256, .bf16⟩
  | 55 => ⟨S16384x2048, .bf16⟩
  | 56 => ⟨S_, .f32⟩
  | 57 => ⟨S16384x8x32, .f32⟩
  | 58 => ⟨S16384x8x16, .f32⟩
  | 59 => ⟨S16384x8x48, .f32⟩
  | 60 => ⟨S16384x8x16, .f32⟩
  | 61 => ⟨S16384x8x16, .f32⟩
  | 62 => ⟨S16384x8x128, .f32⟩
  | 63 => ⟨S16384x1024, .f32⟩
  | 64 => ⟨S64x256x1024, .f32⟩
  | 65 => ⟨S64x1024x256, .f32⟩
  | 66 => ⟨S64x1024x256, .bf16⟩
  | 67 => ⟨S_, .f32⟩
  | 68 => ⟨S16384x8x32, .f32⟩
  | 69 => ⟨S16384x8x16, .f32⟩
  | 70 => ⟨S16384x8x48, .f32⟩
  | 71 => ⟨S16384x8x16, .f32⟩
  | 72 => ⟨S16384x8x16, .f32⟩
  | 73 => ⟨S16384x8x128, .f32⟩
  | 74 => ⟨S16384x1024, .f32⟩
  | 75 => ⟨S16384x1024, .bf16⟩
  | 76 => ⟨S64x256x512, .f32⟩
  | 77 => ⟨S64x512x256, .f32⟩
  | 78 => ⟨S64x512x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_3 : Ref sig .tc := ⟨.hbm, 76, rfl⟩
abbrev main_v60 : Ref sig .tc := ⟨.hbm, 77, rfl⟩
abbrev main_v61 : Ref sig .tc := ⟨.hbm, 78, rfl⟩
abbrev main_cst_4 : Ref sig .tc := ⟨.hbm, 79, rfl⟩
abbrev main_v62 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_6 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_7 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_8 : Ref sig .tc := ⟨.hbm, 115, rfl⟩
abbrev main_v94 : Ref sig .tc := ⟨.hbm, 116, rfl⟩
abbrev main_v95 : Ref sig .tc := ⟨.hbm, 117, rfl⟩
abbrev main_cst_9 : Ref sig .tc := ⟨.hbm, 118, rfl⟩
abbrev main_v96 : Ref sig .tc := ⟨.hbm, 119, rfl⟩
abbrev main_v97 : Ref sig .tc := ⟨.hbm, 120, rfl⟩
abbrev main_cst_10 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_11 : Ref sig .tc := ⟨.hbm, 150, rfl⟩
abbrev main_v126 : Ref sig .tc := ⟨.hbm, 151, rfl⟩
abbrev main_v127 : Ref sig .tc := ⟨.hbm, 152, rfl⟩
abbrev main_cst_12 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_13 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_14 : Ref sig .tc := ⟨.hbm, 174, rfl⟩
abbrev main_v147 : Ref sig .tc := ⟨.hbm, 175, rfl⟩
abbrev main_cst_15 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_cst_16 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_cst_17 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩

abbrev nD : Nat := 1
abbrev τ : Topo := Topo.v7x

variable {F : FTy → Type} [FloatOps F]
-- ==== Proof.PostValue.lean ====
/-
  The value of the layer's closing call: branch projections, gates, output projection, squared-ReLU MLP and final norm.

  Every output row depends on one row of the inputs. The functions of a row below (`mixRow`, `resRow`, `normRow`,
  `ffRow`, `outRow`) state that dependence; the kernel's body is shown to compute `outRow` on the rows of its blocks
  (the four chunks of the MLP's hidden width summed into one sum), the reference to compute `outRow` on the rows of the
  arrays, and the blocks' rows are the arrays' rows.
-/
module

public import proofs.«01_k».proof.Proof.Gen.PostIdeal.Frame
public import proofs.«01_k».proof.Proof.Gen.PostReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostRows

/-! ## The layer's tail as a function of one row -/

/-- The gated sum of the two attention branches' projections. -/
def mixRow (oa ob : Fin 512 → EReal) (ga gb : Fin 1024 → EReal) (wa wb : Fin 512 → Fin 1024 → EReal)
    (j : Fin 1024) : EReal :=
  ga j * (∑ e, oa e * wa e j) + gb j * (∑ e, ob e * wb e j)

/-- The row plus its mixed attention output through the output projection. -/
def resRow (x mix : Fin 1024 → EReal) (wo : Fin 1024 → Fin 1024 → EReal) (j : Fin 1024) : EReal :=
  x j + ∑ k, mix k * wo k j

/-- A row scaled to unit mean square (with the layer's epsilon), times the gain. -/
def normRow (x g : Fin 1024 → EReal) (j : Fin 1024) : EReal :=
  x j * Ideal.rsqrt (Ideal.div (∑ k, x k * x k) (Ideal.ofBits FTy.f32 1149239296#32)
    + Ideal.ofBits FTy.f32 897988541#32) * g j

/-- One hidden unit's squared ReLU times its output weight. -/
def ffTerm (h : Fin 1024 → EReal) (w1 : Fin 1024 → Fin 4096 → EReal) (w2 : Fin 4096 → Fin 1024 → EReal)
    (j : Fin 1024) (f : Fin 4096) : EReal :=
  max (∑ k, h k * w1 k f) 0 * max (∑ k, h k * w1 k f) 0 * w2 f j

/-- The squared-ReLU MLP of a row. -/
def ffRow (h : Fin 1024 → EReal) (w1 : Fin 1024 → Fin 4096 → EReal) (w2 : Fin 4096 → Fin 1024 → EReal)
    (j : Fin 1024) : EReal :=
  ∑ f, ffTerm h w1 w2 j f

/-- The second residual: the row plus the MLP of its norm. -/
def mlpRow (x g : Fin 1024 → EReal) (w1 : Fin 1024 → Fin 4096 → EReal) (w2 : Fin 4096 → Fin 1024 → EReal)
    (j : Fin 1024) : EReal :=
  x j + ffRow (normRow x g) w1 w2 j

/-- The whole tail of the layer on one row. -/
def outRow (x : Fin 1024 → EReal) (oa ob : Fin 512 → EReal) (ga gb : Fin 1024 → EReal)
    (wa wb : Fin 512 → Fin 1024 → EReal) (wo : Fin 1024 → Fin 1024 → EReal) (gm : Fin 1024 → EReal)
    (w1 : Fin 1024 → Fin 4096 → EReal) (w2 : Fin 4096 → Fin 1024 → EReal) (gf : Fin 1024 → EReal) :
    Fin 1024 → EReal :=
  normRow (mlpRow (resRow x (mixRow oa ob ga gb wa wb) wo) gm w1 w2) gf

/-- A sum over the hidden width is the sum of its four quarters, in the order the kernel adds them. -/
theorem sum_quarters (f : Fin 4096 → EReal) :
    (∑ x : Fin 4096, f x) = (∑ x : Fin 1024, f ⟨x.val, by omega⟩) + (∑ x : Fin 1024, f ⟨1024 + x.val, by omega⟩)
      + (∑ x : Fin 1024, f ⟨2048 + x.val, by omega⟩) + (∑ x : Fin 1024, f ⟨3072 + x.val, by omega⟩) := by
  have h1 := Fin.sum_univ_add (M := EReal) (a := 3072) (b := 1024) f
  have h2 := Fin.sum_univ_add (M := EReal) (a := 2048) (b := 1024) (fun i => f (Fin.castAdd 1024 i))
  have h3 := Fin.sum_univ_add (M := EReal) (a := 1024) (b := 1024)
    (fun i => f (Fin.castAdd 1024 (Fin.castAdd 1024 i)))
  exact h1.trans (congrArg (· + _) (h2.trans (congrArg (· + _) h3)))

/-! ## The kernel's body, row by row -/

section Body
open Cert.PostIdeal Cert.PostIdeal.Gen

variable (x0 : Vec Ideal S512x1024 .f32) (x1 x2 : Vec Ideal S2x512x256 .bf16) (x3 : Vec Ideal S512x2048 .bf16)
  (x4 x5 : Vec Ideal S512x1024 .bf16) (x6 : Vec Ideal S1024x1024 .bf16) (x7 : Vec Ideal S1x1024 .f32)
  (x8 : Vec Ideal S1024x4096 .bf16) (x9 : Vec Ideal S4096x1024 .bf16) (x10 : Vec Ideal S1x1024 .f32)

/-- Row `i` of an attention block: the block holds two slabs of 256 columns. -/
def attRow (o : Vec Ideal S2x512x256 .bf16) (i : Fin 512) (e : Fin 512) : EReal :=
  o (ix3 ⟨i.val / 256, by omega⟩ e ⟨i.val % 256, by omega⟩)

/-- Row `i` of the mixed branches. -/
abbrev bMix (i : Fin 512) : Fin 1024 → EReal :=
  mixRow (attRow x1 i) (attRow x2 i) (fun j => x3 (ix2 i ⟨j.val, by omega⟩)) (fun j => x3 (ix2 i ⟨1024 + j.val, by omega⟩))
    (fun e j => x4 (ix2 e j)) (fun e j => x5 (ix2 e j))

/-- Row `i` of the first residual. -/
abbrev bRes (i : Fin 512) : Fin 1024 → EReal :=
  resRow (fun j => x0 (ix2 i j)) (bMix x1 x2 x3 x4 x5 i) (fun k j => x6 (ix2 k j))

/-- Two slabs: the row's slab is the first below 256, the second from there on. -/
theorem attRow_dot (o : Vec Ideal S2x512x256 .bf16) (i : Fin 512) (w : Fin 512 → EReal) :
    (if h : i.val < 256 then ∑ e : Fin 512, o (ix3 0 e ⟨i.val, h⟩) * w e
      else ∑ e : Fin 512, o (ix3 1 e ⟨i.val - 256, by omega⟩) * w e) = ∑ e, attRow o i e * w e := by
  unfold attRow
  split_ifs with h
  · refine Finset.sum_congr rfl fun e _ => congrArg (fun z => o z * w e) ?_
    have h0 : (⟨i.val / 256, by omega⟩ : Fin 2) = 0 := Fin.ext (by simp; omega)
    have h1 : (⟨i.val % 256, by omega⟩ : Fin 256) = ⟨i.val, h⟩ := Fin.ext (by simp; omega)
    rw [h0, h1]
  · refine Finset.sum_congr rfl fun e _ => congrArg (fun z => o z * w e) ?_
    have h0 : (⟨i.val / 256, by omega⟩ : Fin 2) = 1 := Fin.ext (by simp; omega)
    have h1 : (⟨i.val % 256, by omega⟩ : Fin 256) = ⟨i.val - 256, by omega⟩ := Fin.ext (by simp; omega)
    rw [h0, h1]

/-- The body's gated projections. -/
theorem pay_mix (i : Fin 512) (j : Fin 1024) :
    k0_pay10 (F := Ideal) x0 x1 x2 x3 x4 x5 x6 x7 x8 x9 x10 (ix2 i j) = bMix x1 x2 x3 x4 x5 i j := by
  unfold bMix mixRow
  rw [← attRow_dot, ← attRow_dot]
  pointwise [k0_pay10, k0_pay2]

/-- The body's first residual. -/
theorem pay_res (i : Fin 512) (j : Fin 1024) :
    k0_pay11 (F := Ideal) x0 x1 x2 x3 x4 x5 x6 x7 x8 x9 x10 (ix2 i j) = bRes x0 x1 x2 x3 x4 x5 x6 i j := by
  unfold bRes resRow
  simp only [← pay_mix x0 x1 x2 x3 x4 x5 x6 x7 x8 x9 x10]
  pointwise [k0_pay11, k0_pay3]

/-- The body's normed row, the MLP's input. -/
theorem pay_norm (i : Fin 512) (j : Fin 1024) :
    k0_pay12 (F := Ideal) x0 x1 x2 x3 x4 x5 x6 x7 x8 x9 x10 (ix2 i j)
      = normRow (bRes x0 x1 x2 x3 x4 x5 x6 i) (fun j => x7 (ix2 0 j)) j := by
  unfold normRow
  simp only [← pay_res x0 x1 x2 x3 x4 x5 x6 x7 x8 x9 x10]
  pointwise [k0_pay12, k0_pay4, k0_pay11]

/-- The body's first quarter of the MLP. -/
theorem pay_ff0 (i : Fin 512) (j : Fin 1024) :
    k0_pay13 (F := Ideal) x0 x1 x2 x3 x4 x5 x6 x7 x8 x9 x10 (ix2 i j)
      = ∑ x : Fin 1024, ffTerm (normRow (bRes x0 x1 x2 x3 x4 x5 x6 i) (fun j => x7 (ix2 0 j)))
          (fun k f => x8 (ix2 k f)) (fun f j => x9 (ix2 f j)) j ⟨x.val, by omega⟩ := by
  unfold ffTerm
  simp only [← pay_norm x0 x1 x2 x3 x4 x5 x6 x7 x8 x9 x10]
  pointwise [k0_pay13, k0_pay5, k0_pay12]

/-- The body's second quarter's squared hidden units. -/
theorem pay_sq1 (i : Fin 512) (x j : Fin 1024) :
    k0_pay14 (F := Ideal) x0 x1 x2 x3 x4 x5 x6 x7 x8 x9 x10 (ix2 i x) * x9 (ix2 ⟨1024 + x.val, by omega⟩ j)
      = ffTerm (normRow (bRes x0 x1 x2 x3 x4 x5 x6 i) (fun j => x7 (ix2 0 j)))
          (fun k f => x8 (ix2 k f)) (fun f j => x9 (ix2 f j)) j ⟨1024 + x.val, by omega⟩ := by
  unfold ffTerm
  simp only [← pay_norm x0 x1 x2 x3 x4 x5 x6 x7 x8 x9 x10]
  pointwise [k0_pay14, k0_pay6, k0_pay12]

/-- The body's second residual. -/
theorem pay_mlp (i : Fin 512) (j : Fin 1024) :
    k0_pay7 (F := Ideal) (k0_pay11 x0 x1 x2 x3 x4 x5 x6 x7 x8 x9 x10) (k0_pay12 x0 x1 x2 x3 x4 x5 x6 x7 x8 x9 x10)
        (k0_pay13 x0 x1 x2 x3 x4 x5 x6 x7 x8 x9 x10) (k0_pay14 x0 x1 x2 x3 x4 x5 x6 x7 x8 x9 x10)
        (View.ld x9 r0_10) (View.ld x8 r0_11) (View.ld x9 r0_12) (View.ld x8 r0_13) (View.ld x9 r0_14) (ix2 i j)
      = mlpRow (bRes x0 x1 x2 x3 x4 x5 x6 i) (fun j => x7 (ix2 0 j)) (fun k f => x8 (ix2 k f))
          (fun f j => x9 (ix2 f j)) j := by
  unfold mlpRow ffRow
  rw [sum_quarters, ← pay_res x0 x1 x2 x3 x4 x5 x6 x7 x8 x9 x10, ← pay_ff0 x0 x1 x2 x3 x4 x5 x6 x7 x8 x9 x10]
  simp only [← pay_sq1 x0 x1 x2 x3 x4 x5 x6 x7 x8 x9 x10]
  unfold ffTerm
  simp only [← pay_norm x0 x1 x2 x3 x4 x5 x6 x7 x8 x9 x10]
  pointwise [k0_pay7]

/-- What the body leaves in the output block: the layer's tail on each row of its blocks. -/
theorem body_out (i : Fin 512) (j : Fin 1024) :
    out0_11 (F := Ideal) x0 x1 x2 x3 x4 x5 x6 x7 x8 x9 x10 (ix2 i j)
      = outRow (fun j => x0 (ix2 i j)) (attRow x1 i) (attRow x2 i) (fun j => x3 (ix2 i ⟨j.val, by omega⟩))
          (fun j => x3 (ix2 i ⟨1024 + j.val, by omega⟩)) (fun e j => x4 (ix2 e j)) (fun e j => x5 (ix2 e j))
          (fun k j => x6 (ix2 k j)) (fun j => x7 (ix2 0 j)) (fun k f => x8 (ix2 k f)) (fun f j => x9 (ix2 f j))
          (fun j => x10 (ix2 0 j)) j := by
  unfold outRow
  rw [normRow]
  simp only [← pay_mlp x0 x1 x2 x3 x4 x5 x6 x7 x8 x9 x10]
  unfold out0_11
  frame_out
  pointwise [k0_pay1, k0_pay8, k0_pay9]

end Body

/-! ## The reference, row by row -/

section Ref
open Cert.PostReferenceIdeal Cert.PostReferenceIdeal.Gen

/-- The reference's attention output, columns to rows. -/
def refAtt (o : FVec Ideal S64x512x256 .bf16) : FVec Ideal S16384x512 .f32 :=
  shapeCast _ (transpose S64x256x512 [0, 2, 1] (extf .f32 o bitsLt_bf16_f32) transposes_S64x512x256_S64x256x512_0_2_1) shapeCasts_S64x256x512_S16384x512

/-- The reference's gated projections. -/
def refMix (oa ob : FVec Ideal S64x512x256 .bf16) (g : FVec Ideal S16384x2048 .bf16) (wa wb : FVec Ideal S512x1024 .f32) :
    FVec Ideal S16384x1024 .f32 :=
  addf (mulf (extractStridedSlice S16384x1024 ![0, 0] (extf .f32 g bitsLt_bf16_f32) slices_S16384x2048_S16384x1024_0_0)
      (Host.dotGeneral dot_S16384x512_S512x1024_S16384x1024_1_0_0_1_n_n none (refAtt oa) wa))
    (mulf (extractStridedSlice S16384x1024 ![0, 1024] (extf .f32 g bitsLt_bf16_f32) slices_S16384x2048_S16384x1024_0_1024)
      (Host.dotGeneral dot_S16384x512_S512x1024_S16384x1024_1_0_0_1_n_n none (refAtt ob) wb))

/-- The reference's first residual. -/
def refRes (x mix : FVec Ideal S16384x1024 .f32) (wo : FVec Ideal S1024x1024 .f32) : FVec Ideal S16384x1024 .f32 :=
  addf x (Host.dotGeneral dot_S16384x1024_S1024x1024_S16384x1024_1_0_0_1_n_n none mix wo)

/-- The reference's norm. -/
def refNorm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32)
        reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The reference's hidden layer after the ReLU. -/
def refHid (h : FVec Ideal S16384x1024 .f32) (w1 : FVec Ideal S1024x4096 .f32) : FVec Ideal S16384x4096 .f32 :=
  maximumf (Host.dotGeneral dot_S16384x1024_S1024x4096_S16384x4096_1_0_0_1_n_n none h w1)
    (broadcastInDim S16384x4096 ![] bcast_S_S16384x4096 (constant S_ .f32 0x00000000#32))

/-- The reference's second residual. -/
def refMlp (x : FVec Ideal S16384x1024 .f32) (g : FVec Ideal S1024 .f32) (w1 : FVec Ideal S1024x4096 .f32)
    (w2 : FVec Ideal S4096x1024 .f32) : FVec Ideal S16384x1024 .f32 :=
  addf x (Host.dotGeneral dot_S16384x4096_S4096x1024_S16384x1024_1_0_0_1_n_n none
    (mulf (refHid (refNorm x g) w1) (refHid (refNorm x g) w1)) w2)

/-- The reference's result over its argument arrays. -/
def refOut (x : FVec Ideal S16384x1024 .f32) (oa ob : FVec Ideal S64x512x256 .bf16) (g : FVec Ideal S16384x2048 .bf16)
    (wa wb : FVec Ideal S512x1024 .f32) (wo : FVec Ideal S1024x1024 .f32) (gm : FVec Ideal S1024 .f32)
    (w1 : FVec Ideal S1024x4096 .f32) (w2 : FVec Ideal S4096x1024 .f32) (gf : FVec Ideal S1024 .f32) :
    FVec Ideal S16384x1024 .f32 :=
  refNorm (refMlp (refRes x (refMix oa ob g wa wb) wo) gm w1 w2) gf

set_option maxHeartbeats 1000000 in
/-- The composed term of the reference's run is `refOut` of its arguments. -/
theorem res_eq (m : (ℓ : Loc nD τ sig) → Buf (Elt Ideal) ℓ) (c : Dev nD) :
    Cert.PostReferenceIdeal.Value.res_out0 m c
      = refOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := rfl

/-- Row `r` of the attention output. -/
def attArr (o : FVec Ideal S64x512x256 .bf16) (r : Fin 16384) (e : Fin 512) : EReal :=
  o (ix3 ⟨r.val / 256, by omega⟩ e ⟨r.val % 256, by omega⟩)

/-- An element of the attention output, row by row. -/
theorem refAtt_at (o : FVec Ideal S64x512x256 .bf16) (r : Fin 16384) (e : Fin 512) :
    refAtt o (ix2 r e) = attArr o r e := by
  unfold attArr
  pointwise [refAtt]

/-- The gated mix of the reference on a row. -/
theorem refMix_at (oa ob : FVec Ideal S64x512x256 .bf16) (g : FVec Ideal S16384x2048 .bf16) (wa wb : FVec Ideal S512x1024 .f32)
    (r : Fin 16384) (j : Fin 1024) :
    refMix oa ob g wa wb (ix2 r j) = mixRow (attArr oa r) (attArr ob r) (fun j => g (ix2 r ⟨j.val, by omega⟩))
      (fun j => g (ix2 r ⟨1024 + j.val, by omega⟩)) (fun e j => wa (ix2 e j)) (fun e j => wb (ix2 e j)) j := by
  unfold mixRow
  simp only [← refAtt_at]
  pointwise [refMix]

/-- The first residual of the reference on a row. -/
theorem refRes_at (x mix : FVec Ideal S16384x1024 .f32) (wo : FVec Ideal S1024x1024 .f32) (r : Fin 16384) (j : Fin 1024) :
    refRes x mix wo (ix2 r j) = resRow (fun j => x (ix2 r j)) (fun j => mix (ix2 r j)) (fun k j => wo (ix2 k j)) j := by
  unfold resRow
  pointwise [refRes]

/-- The norm of the reference on a row. -/
theorem refNorm_at (x : FVec Ideal S16384x1024 .f32) (g : FVec Ideal S1024 .f32) (r : Fin 16384) (j : Fin 1024) :
    refNorm x g (ix2 r j) = normRow (fun j => x (ix2 r j)) (fun j => g (ix1 j)) j := by
  unfold normRow
  pointwise [refNorm]

/-- The second residual of the reference on a row. -/
theorem refMlp_at (x : FVec Ideal S16384x1024 .f32) (g : FVec Ideal S1024 .f32) (w1 : FVec Ideal S1024x4096 .f32)
    (w2 : FVec Ideal S4096x1024 .f32) (r : Fin 16384) (j : Fin 1024) :
    refMlp x g w1 w2 (ix2 r j) = mlpRow (fun j => x (ix2 r j)) (fun j => g (ix1 j)) (fun k f => w1 (ix2 k f))
      (fun f j => w2 (ix2 f j)) j := by
  unfold mlpRow ffRow ffTerm
  simp only [← refNorm_at]
  pointwise [refMlp, refHid]

/-- The reference's result is the layer's tail on each row of the arrays. -/
theorem refOut_at (x : FVec Ideal S16384x1024 .f32) (oa ob : FVec Ideal S64x512x256 .bf16) (g : FVec Ideal S16384x2048 .bf16)
    (wa wb : FVec Ideal S512x1024 .f32) (wo : FVec Ideal S1024x1024 .f32) (gm : FVec Ideal S1024 .f32)
    (w1 : FVec Ideal S1024x4096 .f32) (w2 : FVec Ideal S4096x1024 .f32) (gf : FVec Ideal S1024 .f32)
    (r : Fin 16384) (j : Fin 1024) :
    refOut x oa ob g wa wb wo gm w1 w2 gf (ix2 r j)
      = outRow (fun j => x (ix2 r j)) (attArr oa r) (attArr ob r) (fun j => g (ix2 r ⟨j.val, by omega⟩))
          (fun j => g (ix2 r ⟨1024 + j.val, by omega⟩)) (fun e j => wa (ix2 e j)) (fun e j => wb (ix2 e j))
          (fun k j => wo (ix2 k j)) (fun j => gm (ix1 j)) (fun k f => w1 (ix2 k f)) (fun f j => w2 (ix2 f j))
          (fun j => gf (ix1 j)) j := by
  unfold refOut outRow
  simp only [refNorm_at, refMlp_at, refRes_at, refMix_at]

end Ref

/-! ## The blocks' rows are the arrays' rows -/

section Bridge
open Cert.PostIdeal Cert.PostIdeal.Gen

variable (m : (ℓ : Loc nD τ sig) → Buf (Elt Ideal) ℓ)

/-- The windows' block indices: the row windows move with the grid point, the weights stay. -/
theorem idx : ∀ t : Fin cfg0.N, win0_0.index t = ![t.val, 0] ∧ win0_1.index t = ![t.val, 0, 0] ∧ win0_2.index t = ![t.val, 0, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ t.val < 32 :=
  (by decide +kernel : ∀ t : Fin grid0.N, _)

/-- The reference's result over the kernel's argument arrays. -/
abbrev REF (c : Dev nD) : FVec Ideal S16384x1024 .f32 :=
  refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

set_option maxHeartbeats 1000000 in
/-- The body's output block at a point is the reference's result at the block's place in the array. -/
theorem point (c : Dev nD) (t : Fin cfg0.N) (i : Fin 512) (j : Fin 1024) (h : t.val * 512 + i.val < 16384) :
    outRow (fun j => (iblk m c 0 t : FVec Ideal S512x1024 .f32) (ix2 i j)) (attRow (iblk m c 1 t) i) (attRow (iblk m c 2 t) i)
        (fun j => (iblk m c 3 t : FVec Ideal S512x2048 .bf16) (ix2 i ⟨j.val, by omega⟩))
        (fun j => (iblk m c 3 t : FVec Ideal S512x2048 .bf16) (ix2 i ⟨1024 + j.val, by omega⟩))
        (fun e j => (iblk m c 4 t : FVec Ideal S512x1024 .bf16) (ix2 e j)) (fun e j => (iblk m c 5 t : FVec Ideal S512x1024 .bf16) (ix2 e j))
        (fun k j => (iblk m c 6 t : FVec Ideal S1024x1024 .bf16) (ix2 k j)) (fun j => (iblk m c 7 t : FVec Ideal S1x1024 .f32) (ix2 0 j))
        (fun k f => (iblk m c 8 t : FVec Ideal S1024x4096 .bf16) (ix2 k f)) (fun f j => (iblk m c 9 t : FVec Ideal S4096x1024 .bf16) (ix2 f j))
        (fun j => (iblk m c 10 t : FVec Ideal S1x1024 .f32) (ix2 0 j)) j
      = REF m c (ix2 ⟨t.val * 512 + i.val, h⟩ j) := by
  have a0 : ∀ j : Fin 1024, (iblk m c 0 t : FVec Ideal S512x1024 .f32) (ix2 i j)
      = (m ((c : Thread nD τ).loc main_arg0) : FVec Ideal S16384x1024 .f32) (ix2 ⟨t.val * 512 + i.val, h⟩ j) := fun j => by
    blk_point [iblk, V, idx t]
  have a1 : attRow (iblk m c 1 t) i = attArr (m ((c : Thread nD τ).loc main_arg1)) ⟨t.val * 512 + i.val, h⟩ := funext fun e => by
    unfold attRow attArr
    blk_point [iblk, V, idx t]
  have a2 : attRow (iblk m c 2 t) i = attArr (m ((c : Thread nD τ).loc main_arg2)) ⟨t.val * 512 + i.val, h⟩ := funext fun e => by
    unfold attRow attArr
    blk_point [iblk, V, idx t]
  have a3 : ∀ j : Fin 2048, (iblk m c 3 t : FVec Ideal S512x2048 .bf16) (ix2 i j)
      = (m ((c : Thread nD τ).loc main_arg3) : FVec Ideal S16384x2048 .bf16) (ix2 ⟨t.val * 512 + i.val, h⟩ j) := fun j => by
    blk_point [iblk, V, idx t]
  have a4 : ∀ (e : Fin 512) (j : Fin 1024), (iblk m c 4 t : FVec Ideal S512x1024 .bf16) (ix2 e j)
      = (m ((c : Thread nD τ).loc main_arg4) : FVec Ideal S512x1024 .f32) (ix2 e j) := fun e j => by
    blk_point [iblk, idx t]
  have a5 : ∀ (e : Fin 512) (j : Fin 1024), (iblk m c 5 t : FVec Ideal S512x1024 .bf16) (ix2 e j)
      = (m ((c : Thread nD τ).loc main_arg5) : FVec Ideal S512x1024 .f32) (ix2 e j) := fun e j => by
    blk_point [iblk, idx t]
  have a6 : ∀ (e j : Fin 1024), (iblk m c 6 t : FVec Ideal S1024x1024 .bf16) (ix2 e j)
      = (m ((c : Thread nD τ).loc main_arg6) : FVec Ideal S1024x1024 .f32) (ix2 e j) := fun e j => by
    blk_point [iblk, idx t]
  have a7 : ∀ j : Fin 1024, (iblk m c 7 t : FVec Ideal S1x1024 .f32) (ix2 0 j)
      = (m ((c : Thread nD τ).loc main_arg7) : FVec Ideal S1024 .f32) (ix1 j) := fun j => by
    blk_point [iblk, idx t]
  have a8 : ∀ (k : Fin 1024) (f : Fin 4096), (iblk m c 8 t : FVec Ideal S1024x4096 .bf16) (ix2 k f)
      = (m ((c : Thread nD τ).loc main_arg8) : FVec Ideal S1024x4096 .f32) (ix2 k f) := fun k f => by
    blk_point [iblk, idx t]
  have a9 : ∀ (f : Fin 4096) (j : Fin 1024), (iblk m c 9 t : FVec Ideal S4096x1024 .bf16) (ix2 f j)
      = (m ((c : Thread nD τ).loc main_arg9) : FVec Ideal S4096x1024 .f32) (ix2 f j) := fun f j => by
    blk_point [iblk, idx t]
  have a10 : ∀ j : Fin 1024, (iblk m c 10 t : FVec Ideal S1x1024 .f32) (ix2 0 j)
      = (m ((c : Thread nD τ).loc main_arg10) : FVec Ideal S1024 .f32) (ix1 j) := fun j => by
    blk_point [iblk, idx t]
  rw [REF, refOut_at]
  simp only [a0, a1, a2, a3, a4, a5, a6, a7, a8, a9, a10]

/-- The result array after the run is the reference's result. -/
theorem final (c : Dev nD) : (dats m 0 c).arrAt 11 (cfgs 0).N = REF m c := by
  refine (dats m 0 c).arrAt_eq_of_covers 11 _ (by decide +kernel) fun t _ y => ?_
  blk_simp
  rw [after0_11]
  obtain ⟨i, j, rfl⟩ : ∃ (i : Fin 512) (j : Fin 1024), y = ix2 i j := ⟨y 0, y 1, funext fun a => by fin_cases a <;> rfl⟩
  have ht := (idx t).2.2.2.2.2.2.2.2.2.2.2.2
  refine (body_out _ _ _ _ _ _ _ _ _ _ _ i j).trans ((point m c t i j (by omega)).trans ?_)
  blk_ext [REF, idx t]

end Bridge
end Cert.PostRows
-- ==== Proof.AttnStages.lean ====
module

public import proofs.«01_k».proof.Proof.Gen.KernelIdeal.Loops
public import proofs.«01_k».proof.Proof.Gen.KernelIdeal.Frame
public import Idealize.ShloMosaic.Lib.Pipeline.ValueKit

/-! The attention kernel's body as a short structured program. The printed body is one long
straight line: sixteen unrolled stages whose score slabs grow by 256 columns each, a loop, and the
write-out. Every stage is one of four programs over a symbolic width: here they are, with the rest
of the body as a continuation, and so that one proof about each serves every width. -/

@[expose] public section

noncomputable section

namespace Cert.Mla

open Idealize.ShloMosaic Idealize.SL.Sem

/-- A shape of two axes. -/
abbrev sh2 (a b : ℕ) : Shape := ⟨2, ![a, b]⟩
/-- A shape of three axes. -/
abbrev sh3 (a b c : ℕ) : Shape := ⟨3, ![a, b, c]⟩
/-- A shape of four axes. -/
abbrev sh4 (a b c d : ℕ) : Shape := ⟨4, ![a, b, c, d]⟩

/-- Dropping a leading axis of size one keeps the number of elements. -/
theorem casts_drop (a b : ℕ) : (sh3 1 a b).ShapeCasts (sh2 a b) := by
  simp [Shape.ShapeCasts, Shape.numel, Fin.prod_univ_succ]
/-- Adding a leading axis of size one keeps the number of elements. -/
theorem casts_add (a b : ℕ) : (sh2 a b).ShapeCasts (sh3 1 a b) := (casts_drop a b).symm
/-- A row of numbers as a matrix of one row. -/
theorem casts_row (a : ℕ) : (⟨1, ![a]⟩ : Shape).ShapeCasts (sh2 1 a) := by
  simp [Shape.ShapeCasts, Shape.numel, Fin.prod_univ_succ]
/-- Dropping two leading axes of size one keeps the number of elements. -/
theorem casts_drop2 (a b : ℕ) : (sh4 1 1 a b).ShapeCasts (sh2 a b) := by
  simp [Shape.ShapeCasts, Shape.numel, Fin.prod_univ_succ]
/-- One row broadcasts over any number of rows. -/
theorem bc_row (a b : ℕ) : (sh2 1 b).Broadcasts (sh2 a b) :=
  ⟨le_rfl, fun x => by fin_cases x <;> simp⟩
/-- A rectangle that fits is a slice. -/
theorem slice2 {a b oa ob c d : ℕ} (h0 : oa + c ≤ a) (h1 : ob + d ≤ b) :
    (sh2 a b).Slices ![oa, ob] (sh2 c d) :=
  ⟨rfl, fun x => by fin_cases x <;> simpa⟩
/-- Reducing a matrix over its rows leaves one entry per column. -/
theorem reduces_rows (a b : ℕ) : (sh2 a b).Reduces [0] ⟨1, ![b]⟩ :=
  ⟨rfl, Nat.one_pos, fun x => by fin_cases x; rfl⟩
/-- Row numbers of a matrix. -/
theorem iota_rows (a b : ℕ) : (sh2 a b).Iotas .tc 32 [0] :=
  ⟨by simp, fun _ => ⟨.inr rfl, le_rfl⟩, fun h => absurd rfl h⟩
/-- Column numbers of a matrix. -/
theorem iota_cols (a b : ℕ) : (sh2 a b).Iotas .tc 32 [1] :=
  ⟨by simp, fun _ => ⟨.inr rfl, le_rfl⟩, fun h => absurd rfl h⟩
/-- A slab of columns of one head lies in its buffer. -/
theorem slab_inb {R h o w : ℕ} (hh : h < 2) (ho : o + w ≤ 4096) (a : Fin 3) :
    (![h, 0, o] : Fin 3 → ℕ) a + (sh3 1 R w).size a ≤ (sh3 2 R 4096).size a := by
  fin_cases a <;> simp <;> omega
/-- A slab with a positive side everywhere has an element. -/
theorem pos3 {a b c : ℕ} (ha : 0 < a) (hb : 0 < b) (hc : 0 < c) : 0 < (sh3 a b c).numel := by
  simp [Shape.numel, Fin.prod_univ_succ]; exact ⟨ha, hb, hc⟩

/-- The slab of the columns from `o` on, `w` of them, of head `h` of a buffer of `R` rows. -/
abbrev slab (R h o w : ℕ) (hh : h < 2) (ho : o + w ≤ 4096) : Rect (sh3 2 R 4096) :=
  Rect.unit (s := sh3 2 R 4096) ![h, 0, o] (sh3 1 R w).size (slab_inb hh ho)

/-- Whole rows pack. -/
theorem slab_packed {h o w : ℕ} (hh : h < 2) (ho : o + w ≤ 4096) :
    (slab 256 h o w hh ho).PackedRows (EltTy.packing .bf16) :=
  .inr ⟨by decide, rfl, .inl ⟨by simp [Shape.rowAx, EltTy.packing], by simp [Shape.rowAx]; decide⟩⟩

/-! ### The values a stage computes -/

section Values
variable {F : FTy → Type} [FloatOps F]

/-- The running maximum a softmax stage moves to. -/
def newMax (w : ℕ) (m s : Vec F (sh3 1 1 w) .f32) : FVec F (sh2 1 w) .f32 :=
  maximumf (shapeCast (sh2 1 w) m (casts_drop 1 w)) (shapeCast (sh2 1 w) s (casts_drop 1 w))

/-- The weights of a block under that maximum. -/
def weights (w : ℕ) (m s : Vec F (sh3 1 1 w) .f32) (x : Vec F (sh3 1 256 w) .f32) :
    FVec F (sh3 1 256 w) .bf16 :=
  shapeCast (sh3 1 256 w) (truncf .bf16 (exp2 (subf (shapeCast (sh2 256 w) x (casts_drop 256 w))
    (broadcastTo (sh2 256 w) (newMax w m s) (bc_row 256 w)))) (by decide)) (casts_add 256 w)

/-- The factor the sums so far are rescaled by. -/
def rescale (w : ℕ) (m s : Vec F (sh3 1 1 w) .f32) : FVec F (sh3 1 1 w) .f32 :=
  shapeCast (sh3 1 1 w) (exp2 (subf (shapeCast (sh2 1 w) m (casts_drop 1 w)) (newMax w m s)))
    (casts_add 1 w)

/-- The maximum as it is stored. -/
def storedMax (w : ℕ) (m s : Vec F (sh3 1 1 w) .f32) : FVec F (sh3 1 1 w) .f32 :=
  shapeCast (sh3 1 1 w) (newMax w m s) (casts_add 1 w)

/-- The rows of ones under a head's values: they sum the weights. -/
def ones : FVec F (sh2 16 256) .bf16 := broadcast (sh2 16 256) (Scalar.ofBits .bf16 0x3F80#16)

/-- Sixty-four rows over sixteen are eighty. -/
theorem ext_concat : Shape.Concatenates [sh2 64 256, sh2 16 256] (sh2 80 256) 0 := by decide

/-- One head's values over the rows of ones. -/
def extended (h : ℕ) (hh : h < 2) (v : Vec F (sh4 1 1 128 256) .bf16) : FVec F (sh2 80 256) .bf16 :=
  concatenate (sh2 80 256) 0 [⟨sh2 64 256, extractStridedSlice (sh2 64 256) ![64 * h, 0]
    (shapeCast (sh2 128 256) v (casts_drop2 128 256)) (slice2 (by omega) (by omega))⟩,
    ⟨sh2 16 256, ones⟩] ext_concat

/-- The weighted sums after one more block. -/
def sums (w h : ℕ) (hh : h < 2) (v : Vec F (sh4 1 1 128 256) .bf16) (al : Vec F (sh3 1 1 w) .f32)
    (ac : Vec F (sh3 1 80 w) .f32) (pw : Vec F (sh3 1 256 w) .bf16) : FVec F (sh3 1 80 w) .f32 :=
  shapeCast (sh3 1 80 w) (addf
    (mulf (broadcastTo (sh2 80 w) (shapeCast (sh2 1 w) al (casts_drop 1 w)) (bc_row 80 w))
      (shapeCast (sh2 80 w) ac (casts_drop 80 w)))
    (matmul (DotDims.plain 80 256 w) none (extended h hh v)
      (shapeCast (sh2 256 w) pw (casts_drop 256 w))
      (constant (sh2 80 w) .f32 0x00000000#32))) (casts_add 80 w)

/-- The first `n` entries of a sequence of query blocks, each as a matrix. -/
def blocks : (n : ℕ) → (Fin n → Vec F (sh3 1 128 256) .bf16) →
    List (Σ s : Shape, s.Idx → F .bf16)
  | 0, _ => []
  | n + 1, f => ⟨sh2 128 256, shapeCast (sh2 128 256) (f 0) (casts_drop 128 256)⟩ ::
      blocks n fun u => f u.succ

/-- Their number, -/
theorem blocks_length : (n : ℕ) → (f : Fin n → Vec F (sh3 1 128 256) .bf16) →
    (blocks n f).length = n
  | 0, _ => rfl
  | n + 1, f => congrArg (· + 1) (blocks_length n _)

/-- their shapes, -/
theorem blocks_shape : (n : ℕ) → (f : Fin n → Vec F (sh3 1 128 256) .bf16) →
    (blocks n f).map (·.1) = List.replicate n (sh2 128 256)
  | 0, _ => rfl
  | n + 1, f => congrArg (sh2 128 256 :: ·) (blocks_shape n _)

/-- and that side by side they are one matrix. -/
theorem blocks_concat (n : ℕ) (hn : 2 ≤ n) (f : Fin n → Vec F (sh3 1 128 256) .bf16) :
    Shape.Concatenates ((blocks n f).map (·.1)) (sh2 128 (256 * n)) 1 := by
  rw [blocks_shape]
  refine ⟨by simpa, fun s hs => ?_, by simp [mul_comm]⟩
  obtain rfl := (List.mem_replicate.1 hs).2
  exact ⟨rfl, fun b hb => by
    fin_cases b
    · rfl
    · exact absurd rfl hb⟩

/-- The query blocks side by side. -/
def joined : (n : ℕ) → (Fin n → Vec F (sh3 1 128 256) .bf16) → FVec F (sh2 128 (256 * n)) .bf16
  | 0, _ => fun x => absurd (x 1).isLt (by simp)
  | 1, f => shapeCast (sh2 128 (256 * 1)) (f 0) (casts_drop 128 256)
  | n + 2, f => concatenate (sh2 128 (256 * (n + 2))) 1 (blocks (n + 2) f)
      (blocks_concat (n + 2) (by omega) f)

/-- The scores of one head of a block of keys against the queries. -/
def scores (n h : ℕ) (hh : h < 2) (k : Vec F (sh3 1 256 256) .bf16)
    (f : Fin n → Vec F (sh3 1 128 256) .bf16) : FVec F (sh2 256 (256 * n)) .f32 :=
  matmul (DotDims.plain 256 128 (256 * n)) none
    (extractStridedSlice (sh2 256 128) ![0, 128 * h] (shapeCast (sh2 256 256) k (casts_drop 256 256))
      (slice2 (by omega) (by omega)))
    (joined n f) (constant (sh2 256 (256 * n)) .f32 0x00000000#32)

/-- The same where a key may be later than a query of its own block: the mask's constant there,
`row` numbering the columns. -/
def masked (msk : F .f32) (n h : ℕ) (hh : h < 2) (row : IVec (sh2 1 (256 * n)) 32)
    (k : Vec F (sh3 1 256 256) .bf16)
    (f : Fin n → Vec F (sh3 1 128 256) .bf16) : FVec F (sh2 256 (256 * n)) .f32 :=
  select (cmpi .sle (iota .tc (sh2 256 (256 * n)) 32 [0] (iota_rows _ _))
      (broadcastTo (sh2 256 (256 * n)) row (bc_row _ _)))
    (scores n h hh k f) (broadcast (sh2 256 (256 * n)) msk)

/-- How a block of keys meets its queries: it precedes them all, it is one of their own blocks, or
it is the first of them. -/
inductive Meets
  | before
  | within
  | first

/-- The scores of a block of keys, masked for a block of its own queries. -/
def scoresOf (own : Meets) (msk : F .f32) (n h : ℕ) (hh : h < 2) (hn : 256 * n ≤ 4096)
    (k : Vec F (sh3 1 256 256) .bf16)
    (f : Fin n → Vec F (sh3 1 128 256) .bf16) : FVec F (sh2 256 (256 * n)) .f32 :=
  match own with
  | .before => scores n h hh k f
  | .within => masked msk n h hh (extractStridedSlice (sh2 1 (256 * n)) ![0, 0]
        (iota .tc (sh2 1 4096) 32 [1] (iota_cols _ _)) (slice2 (by omega) (by omega))) k f
  | .first => masked msk n h hh (iota .tc (sh2 1 (256 * n)) 32 [1] (iota_cols _ _)) k f

/-- Each column's largest score. -/
def tops (w : ℕ) (x : FVec F (sh2 256 w) .f32) : FVec F (sh3 1 1 w) .f32 :=
  shapeCast (sh3 1 1 w) (shapeCast (sh2 1 w)
    (multiReduction .maximumf [0] ⟨1, ![w]⟩ x 0xFF800000#32 (reduces_rows 256 w) (.inl rfl) rfl)
    (casts_row w)) (casts_add 1 w)

/-- The sums divided by the sum of the weights. -/
def quotient (ac : Vec F (sh3 1 80 4096) .f32) : FVec F (sh2 64 4096) .bf16 :=
  truncf .bf16 (divf
    (extractStridedSlice (sh2 64 4096) ![0, 0] (shapeCast (sh2 80 4096) ac (casts_drop _ _))
      (slice2 (by omega) (by omega)))
    (broadcastTo (sh2 64 4096) (extractStridedSlice (sh2 1 4096) ![64, 0]
      (shapeCast (sh2 80 4096) ac (casts_drop _ _)) (slice2 (by omega) (by omega)))
      (bc_row 64 4096))) (by decide)

/-- Block `u` of the quotient's columns. -/
def piece (u : ℕ) (hu : u < 16) (ac : Vec F (sh3 1 80 4096) .f32) : FVec F (sh3 1 64 256) .bf16 :=
  shapeCast (sh3 1 64 256) (extractStridedSlice (sh2 64 256) ![0, 256 * u] (quotient ac)
    (slice2 (by omega) (by omega))) (casts_add 64 256)

end Values

/-! ### The stages -/

section Stages
variable {F : FTy → Type} [FloatOps F] {nD : ℕ} {τ : Topo} {sig : RefSig} {Λ : Labels}

/-- The buffers of one call. -/
structure Bufs (sig : RefSig) where
  q : Memref sig .tc .vmem (sh3 16 256 256) .bf16
  hq : q.IsWhole
  k : Memref sig .tc .vmem (sh3 1 8192 256) .bf16
  hk : k.IsWhole
  v : Memref sig .tc .vmem (sh4 1 32 128 256) .bf16
  hv : v.IsWhole
  o : Memref sig .tc .vmem (sh3 16 128 256) .bf16
  ho : o.IsWhole
  s : Memref sig .tc .vmem (sh3 2 256 4096) .f32
  hs : s.IsWhole
  t : Memref sig .tc .vmem (sh3 2 1 4096) .f32
  ht : t.IsWhole
  p : Memref sig .tc .vmem (sh3 2 256 4096) .bf16
  hp : p.IsWhole
  a : Memref sig .tc .vmem (sh3 2 1 4096) .f32
  ha : a.IsWhole
  m : Memref sig .tc .vmem (sh3 2 1 4096) .f32
  hm : m.IsWhole
  c : Memref sig .tc .vmem (sh3 2 80 4096) .f32
  hc : c.IsWhole

/-- The core's programs over these buffers. -/
abbrev P (F : FTy → Type) [FloatOps F] (nD : ℕ) (τ : Topo) (sig : RefSig) (Λ : Labels) : Type 1 :=
  Prog (TpuEff nD τ sig (Elt F) Λ .tc) PUnit

/-- Read a rectangle. -/
abbrev ld {s : Shape} {e : EltTy} (M : Memref sig .tc .vmem s e) (r : Rect s)
    (h : 0 < r.shape.numel) (k : (r.shape.Idx → Elt F e) → P F nD τ sig Λ) : P F nD τ sig Λ :=
  .op (.load M r.toLoadRect (View.loadsAt_vmem h)) k

/-- Write a rectangle of words. -/
abbrev st {s : Shape} (M : Memref sig .tc .vmem s .f32) (r : Rect s)
    (h : 0 < r.shape.numel) (x : r.shape.Idx → Elt F .f32) (k : P F nD τ sig Λ) : P F nD τ sig Λ :=
  .op (.store M r x Finset.univ (View.stores_vmem_bits_univ h rfl) (.inl rfl)) fun _ => k

/-- Write a rectangle of half words. -/
abbrev st16 {s : Shape} (M : Memref sig .tc .vmem s .bf16) (hM : M.IsWhole) (r : Rect s)
    (h : 0 < r.shape.numel) (hr : r.PackedRows (EltTy.packing .bf16))
    (x : r.shape.Idx → Elt F .bf16) (k : P F nD τ sig Λ) : P F nD τ sig Λ :=
  .op (.store M r x Finset.univ (View.stores_vmem h (hM.storeExact_slice rfl _ hr) (fun _ => rfl))
    (.inl rfl)) fun _ => k

variable (B : Bufs sig)

/-- A softmax stage of one head over the columns from `o` on. -/
def softHead (h o w : ℕ) (hh : h < 2) (hw : 0 < w) (ho : o + w ≤ 4096) (k : P F nD τ sig Λ) :
    P F nD τ sig Λ :=
  ld B.m (slab 1 h o w hh ho) (pos3 Nat.one_pos Nat.one_pos hw) fun m =>
  ld B.t (slab 1 h o w hh ho) (pos3 Nat.one_pos Nat.one_pos hw) fun s =>
  ld B.s (slab 256 h o w hh ho) (pos3 Nat.one_pos (by decide) hw) fun x =>
  ld B.p (slab 256 h o w hh ho) (pos3 Nat.one_pos (by decide) hw) fun _ =>
  st16 B.p B.hp (slab 256 h o w hh ho) (pos3 Nat.one_pos (by decide) hw) (slab_packed hh ho)
    (weights w m s x) <|
  ld B.a (slab 1 h o w hh ho) (pos3 Nat.one_pos Nat.one_pos hw) fun _ =>
  st B.a (slab 1 h o w hh ho) (pos3 Nat.one_pos Nat.one_pos hw) (rescale w m s) <|
  ld B.m (slab 1 h o w hh ho) (pos3 Nat.one_pos Nat.one_pos hw) fun _ =>
  st B.m (slab 1 h o w hh ho) (pos3 Nat.one_pos Nat.one_pos hw) (storedMax w m s) k

/-- A softmax stage. -/
def soft (o w : ℕ) (hw : 0 < w) (ho : o + w ≤ 4096) (k : P F nD τ sig Λ) : P F nD τ sig Λ :=
  softHead B 0 o w (by omega) hw ho (softHead B 1 o w (by omega) hw ho k)

/-- The accumulation of one head over a block of values already read. -/
def accHead (h o w : ℕ) (hh : h < 2) (hw : 0 < w) (ho : o + w ≤ 4096)
    (v : Vec F (sh4 1 1 128 256) .bf16) (k : P F nD τ sig Λ) : P F nD τ sig Λ :=
  ld B.a (slab 1 h o w hh ho) (pos3 Nat.one_pos Nat.one_pos hw) fun al =>
  ld B.c (slab 80 h o w hh ho) (pos3 Nat.one_pos (by decide) hw) fun ac =>
  ld B.p (slab 256 h o w hh ho) (pos3 Nat.one_pos (by decide) hw) fun pw =>
  ld B.c (slab 80 h o w hh ho) (pos3 Nat.one_pos (by decide) hw) fun _ =>
  st B.c (slab 80 h o w hh ho) (pos3 Nat.one_pos (by decide) hw) (sums w h hh v al ac pw) k

/-- Where a block of values lies. -/
structure VOff where
  off : Fin 4 → ℕ
  inb : ∀ a, off a + (sh4 1 1 128 256).size a ≤ (sh4 1 32 128 256).size a

/-- Where a block of keys lies. -/
structure KOff where
  off : Fin 3 → ℕ
  inb : ∀ a, off a + (sh3 1 256 256).size a ≤ (sh3 1 8192 256).size a

/-- An accumulation stage. -/
def acc (o w : ℕ) (hw : 0 < w) (ho : o + w ≤ 4096) (j : VOff) (k : P F nD τ sig Λ) :
    P F nD τ sig Λ :=
  ld B.v (Rect.unit (s := sh4 1 32 128 256) j.off (sh4 1 1 128 256).size j.inb)
    (by simp [Shape.numel, Fin.prod_univ_succ]) fun v =>
  accHead B 0 o w (by omega) hw ho v (accHead B 1 o w (by omega) hw ho v k)

/-- The block of queries `u` of one head. -/
abbrev qrect (u h : ℕ) (hu : u < 16) (hh : h < 2) : Rect (sh3 16 256 256) :=
  Rect.unit (s := sh3 16 256 256) ![u, 128 * h, 0] (sh3 1 128 256).size
    (fun a => by fin_cases a <;> simp <;> omega)

/-- Read one head's blocks of queries `u`, `u + 1`, …, `n` of them. -/
def readQ (h : ℕ) (hh : h < 2) : (n u : ℕ) → u + n ≤ 16 →
    ((Fin n → Vec F (sh3 1 128 256) .bf16) → P F nD τ sig Λ) → P F nD τ sig Λ
  | 0, _, _, k => k Fin.elim0
  | n + 1, u, hu, k => ld B.q (qrect u h (by omega) hh) (pos3 (by decide) (by decide) (by decide))
      fun x => readQ h hh n (u + 1) (by omega) fun f => k (Fin.cons x f)

/-- The scores of one head, for a block of keys already read. -/
def qkHead (own : Meets) (msk : F .f32) (h n u : ℕ) (hh : h < 2) (hn : 0 < n) (hu : u + n = 16)
    (kb : Vec F (sh3 1 256 256) .bf16) (k : P F nD τ sig Λ) : P F nD τ sig Λ :=
  readQ B h hh n u hu.le fun f =>
  ld B.s (slab 256 h (256 * u) (256 * n) hh (by omega)) (pos3 Nat.one_pos (by decide) (by omega)) fun _ =>
  st B.s (slab 256 h (256 * u) (256 * n) hh (by omega)) (pos3 Nat.one_pos (by decide) (by omega))
    (shapeCast (sh3 1 256 (256 * n)) (scoresOf own msk n h hh (by omega) kb f) (casts_add _ _)) <|
  ld B.t (slab 1 h (256 * u) (256 * n) hh (by omega)) (pos3 Nat.one_pos Nat.one_pos (by omega)) fun _ =>
  st B.t (slab 1 h (256 * u) (256 * n) hh (by omega)) (pos3 Nat.one_pos Nat.one_pos (by omega))
    (tops (256 * n) (scoresOf own msk n h hh (by omega) kb f)) k

/-- A score stage. -/
def qk (own : Meets) (msk : F .f32) (n u : ℕ) (hn : 0 < n) (hu : u + n = 16) (j : KOff)
    (k : P F nD τ sig Λ) : P F nD τ sig Λ :=
  ld B.k (Rect.unit (s := sh3 1 8192 256) j.off (sh3 1 256 256).size j.inb)
    (pos3 (by decide) (by decide) (by decide)) fun kb =>
  qkHead B own msk 0 n u (by omega) hn hu kb (qkHead B own msk 1 n u (by omega) hn hu kb k)

/-- The whole of a buffer of two heads, or its first columns. -/
abbrev front (R w : ℕ) (hw : w ≤ 4096) : Rect (sh3 2 R 4096) :=
  Rect.unit (s := sh3 2 R 4096) ![0, 0, 0] (sh3 2 R w).size
    (fun a => by fin_cases a <;> simp; omega)

/-- The scratch buffers' first contents. -/
def start (msk : F .f32) (k : P F nD τ sig Λ) : P F nD τ sig Λ :=
  ld B.m (front 1 4096 le_rfl) (pos3 (by decide) (by decide) (by decide)) fun _ =>
  st B.m (front 1 4096 le_rfl) (pos3 (by decide) (by decide) (by decide))
    (shapeCast (sh3 2 1 4096) (broadcast (sh3 2 1 4096) msk) rfl) <|
  ld B.c (front 80 4096 le_rfl) (pos3 (by decide) (by decide) (by decide)) fun _ =>
  st B.c (front 80 4096 le_rfl) (pos3 (by decide) (by decide) (by decide))
    (shapeCast (sh3 2 80 4096) (broadcast (sh3 2 80 4096) (Scalar.ofBits .f32 0x00000000#32)) rfl) <|
  ld B.p (front 256 256 (by decide)) (pos3 (by decide) (by decide) (by decide)) fun _ =>
  st16 B.p B.hp (front 256 256 (by decide)) (pos3 (by decide) (by decide) (by decide))
    (.inr ⟨by decide, rfl, .inl ⟨by simp [Shape.rowAx, EltTy.packing], by simp [Shape.rowAx]; decide⟩⟩)
    (shapeCast (sh3 2 256 256) (broadcast (sh3 2 256 256) (Scalar.ofBits .bf16 0x0000#16)) rfl) <|
  ld B.a (front 1 256 (by decide)) (pos3 (by decide) (by decide) (by decide)) fun _ =>
  st B.a (front 1 256 (by decide)) (pos3 (by decide) (by decide) (by decide))
    (shapeCast (sh3 2 1 256) (broadcast (sh3 2 1 256) (Scalar.ofBits .f32 0x3F800000#32)) rfl) k

/-- Block `u` of one head of the result. -/
abbrev orect (u h : ℕ) (hu : u < 16) (hh : h < 2) : Rect (sh3 16 128 256) :=
  Rect.unit (s := sh3 16 128 256) ![u, 64 * h, 0] (sh3 1 64 256).size
    (fun a => by fin_cases a <;> simp <;> omega)

/-- A head's block packs. -/
theorem orect_packed {u h : ℕ} (hu : u < 16) (hh : h < 2) :
    (orect u h hu hh).PackedRows (EltTy.packing .bf16) :=
  .inr ⟨by decide, rfl, .inl ⟨⟨32 * h, by change 64 * h = 2 * (32 * h); omega⟩,
    by simp [Shape.rowAx]; decide⟩⟩

/-- Write the last `n` blocks of one head of the result. -/
def writeHead (h : ℕ) (hh : h < 2) (ac : Vec F (sh3 1 80 4096) .f32) :
    (n u : ℕ) → u + n = 16 → P F nD τ sig Λ → P F nD τ sig Λ
  | 0, _, _, k => k
  | n + 1, u, hu, k =>
    ld B.o (orect u h (by omega) hh) (pos3 (by decide) (by decide) (by decide)) fun _ =>
    st16 B.o B.ho (orect u h (by omega) hh) (pos3 (by decide) (by decide) (by decide))
      (orect_packed _ hh) (piece u (by omega) ac) <|
    writeHead h hh ac n (u + 1) (by omega) k

/-- Write the result. -/
def write (k : P F nD τ sig Λ) : P F nD τ sig Λ :=
  ld B.c (slab 80 0 0 4096 (by decide) le_rfl) (pos3 (by decide) (by decide) (by decide)) fun ac =>
  writeHead B 0 (by decide) ac 16 0 rfl <|
  ld B.c (slab 80 1 0 4096 (by decide) le_rfl) (pos3 (by decide) (by decide) (by decide)) fun ac' =>
  writeHead B 1 (by decide) ac' 16 0 rfl k

/-- Where everything one step reads lies, and its loops. -/
structure Offs where
  k1 : Fin 16 → KOff
  v1 : Fin 14 → VOff
  l1 : Scf.Loop 32
  ok1 : l1.OK
  kt : Fin l1.trips → KOff
  vt : Fin l1.trips → VOff
  l2 : Scf.Loop 32
  ok2 : l2.OK
  kt2 : Fin l2.trips → KOff
  vt2 : Fin l2.trips → VOff
  v7 : VOff
  v8 : VOff

variable (O : Offs)

/-- One unrolled round: `n` blocks of queries have been met, and one more is. -/
def round (msk : F .f32) (n : ℕ) (hn : 0 < n) (hn' : n ≤ 14) (k : P F nD τ sig Λ) : P F nD τ sig Λ :=
  qk B .within msk (n + 1) (15 - n) (by omega) (by omega) (O.k1 ⟨15 - n, by omega⟩) <|
  acc B (256 * (16 - n)) (256 * n) (by omega) (by omega) (O.v1 ⟨14 - n, by omega⟩) <|
  soft B (256 * (15 - n)) (256 * (n + 1)) (by omega) (by omega) k

/-- The last `j` of the fourteen unrolled rounds. -/
def rounds (msk : F .f32) : (j : ℕ) → j ≤ 14 → P F nD τ sig Λ → P F nD τ sig Λ
  | 0, _, k => k
  | j + 1, hj, k => round B O msk (14 - j) (by omega) (by omega) (rounds msk j (by omega) k)

/-- One trip of the loop over the earlier blocks. -/
def trip (msk : F .f32) (kj : KOff) (vj : VOff) : P F nD τ sig Λ :=
  acc B 0 4096 (by decide) le_rfl vj <| soft B 0 4096 (by decide) le_rfl <|
  qk B .before msk 16 0 (by decide) rfl kj (.ret ⟨⟩)

/-- What precedes the loops. -/
def opening (msk : F .f32) (k : P F nD τ sig Λ) : P F nD τ sig Λ :=
  start B msk <|
  qk B .within msk 1 15 (by decide) rfl (O.k1 15) <| soft B 3840 256 (by decide) le_rfl <|
  rounds B O msk 14 le_rfl <| qk B .first msk 16 0 (by decide) rfl (O.k1 0) k

/-- What follows them. -/
def finish : P F nD τ sig Λ :=
  acc B 0 4096 (by decide) le_rfl O.v7 <| soft B 0 4096 (by decide) le_rfl <|
  acc B 0 4096 (by decide) le_rfl O.v8 <| write B (.ret ⟨⟩)

/-- The loops and what follows them. -/
def ending (msk : F .f32) : P F nD τ sig Λ :=
  (Scf.Loop.for O.l1 O.ok1 (⟨⟩ : Unit) (fun t _ => trip B msk (O.kt t) (O.vt t))) >>= fun _ =>
  (Scf.Loop.for O.l2 O.ok2 (⟨⟩ : Unit) (fun t _ => trip B msk (O.kt2 t) (O.vt2 t))) >>= fun _ =>
  finish B O

/-- The whole body. -/
def body (msk : F .f32) : P F nD τ sig Λ := opening B O msk (ending B O msk)

end Stages

end Cert.Mla
-- ==== Proof.AttnRun.lean ====
module

public import proofs.«01_k».proof.Proof.AttnStages
public import Idealize.ShloMosaic.Lib.WholeRead
public import Idealize.ShloMosaic.Lib.Tactic
public import Idealize.ShloMosaic.Lib.Scf

/-! What a run of the structured body does to its buffers: each stage is a function from the buffers'
contents to their contents, and the body runs to what the composition of the stages makes. -/

@[expose] public section

noncomputable section

namespace Cert.Mla

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A rectangle of an array. -/
abbrev get {s : Shape} {α : Type} (r : Rect s) (X : s.Idx → α) : r.shape.Idx → α := fun x => X (r.toLoadRect.idx x)

section Functions
variable {F : FTy → Type} [FloatOps F]

/-- The contents the body only reads. -/
structure Ins (F : FTy → Type) where
  q : Vec F (sh3 16 256 256) .bf16
  k : Vec F (sh3 1 8192 256) .bf16
  v : Vec F (sh4 1 32 128 256) .bf16

/-- The contents it works on. -/
structure St (F : FTy → Type) where
  o : Vec F (sh3 16 128 256) .bf16
  s : Vec F (sh3 2 256 4096) .f32
  t : Vec F (sh3 2 1 4096) .f32
  p : Vec F (sh3 2 256 4096) .bf16
  a : Vec F (sh3 2 1 4096) .f32
  m : Vec F (sh3 2 1 4096) .f32
  c : Vec F (sh3 2 80 4096) .f32

/-- What a softmax stage makes of one head. -/
def softHeadF (h o w : ℕ) (hh : h < 2) (ho : o + w ≤ 4096) (S : St F) : St F :=
  { S with
    p := (slab 256 h o w hh ho).overlay S.p
      (weights w (get (slab 1 h o w hh ho) S.m) (get (slab 1 h o w hh ho) S.t) (get (slab 256 h o w hh ho) S.s))
    a := (slab 1 h o w hh ho).overlay S.a
      (rescale w (get (slab 1 h o w hh ho) S.m) (get (slab 1 h o w hh ho) S.t))
    m := (slab 1 h o w hh ho).overlay S.m
      (storedMax w (get (slab 1 h o w hh ho) S.m) (get (slab 1 h o w hh ho) S.t)) }

/-- What a softmax stage makes. -/
def softF (o w : ℕ) (ho : o + w ≤ 4096) (S : St F) : St F :=
  softHeadF 1 o w (by omega) ho (softHeadF 0 o w (by omega) ho S)

/-- What an accumulation makes of one head. -/
def accHeadF (h o w : ℕ) (hh : h < 2) (ho : o + w ≤ 4096) (v : Vec F (sh4 1 1 128 256) .bf16)
    (S : St F) : St F :=
  { S with
    c := (slab 80 h o w hh ho).overlay S.c
      (sums w h hh v (get (slab 1 h o w hh ho) S.a) (get (slab 80 h o w hh ho) S.c)
        (get (slab 256 h o w hh ho) S.p)) }

/-- The block of values at an offset. -/
def vAt (I : Ins F) (j : VOff) : Vec F (sh4 1 1 128 256) .bf16 :=
  get (Rect.unit (s := sh4 1 32 128 256) j.off (sh4 1 1 128 256).size j.inb) I.v

/-- The block of keys at an offset. -/
def kAt (I : Ins F) (j : KOff) : Vec F (sh3 1 256 256) .bf16 :=
  get (Rect.unit (s := sh3 1 8192 256) j.off (sh3 1 256 256).size j.inb) I.k

/-- What an accumulation stage makes. -/
def accF (I : Ins F) (o w : ℕ) (ho : o + w ≤ 4096) (j : VOff) (S : St F) : St F :=
  accHeadF 1 o w (by omega) ho (vAt I j) (accHeadF 0 o w (by omega) ho (vAt I j) S)

/-- The blocks of queries `u`, `u + 1`, … of one head. -/
def qsAt (I : Ins F) (h : ℕ) (hh : h < 2) : (n u : ℕ) → u + n ≤ 16 → Fin n → Vec F (sh3 1 128 256) .bf16
  | 0, _, _ => Fin.elim0
  | n + 1, u, hu => Fin.cons (get (qrect u h (by omega) hh) I.q) (qsAt I h hh n (u + 1) (by omega))

/-- What a score stage makes of one head. -/
def qkHeadF (I : Ins F) (own : Meets) (msk : F .f32) (h n u : ℕ) (hh : h < 2) (hu : u + n = 16)
    (kb : Vec F (sh3 1 256 256) .bf16) (S : St F) : St F :=
  { S with
    s := (slab 256 h (256 * u) (256 * n) hh (by omega)).overlay S.s
      (shapeCast (sh3 1 256 (256 * n)) (scoresOf own msk n h hh (by omega) kb (qsAt I h hh n u hu.le)) (casts_add _ _))
    t := (slab 1 h (256 * u) (256 * n) hh (by omega)).overlay S.t
      (tops (256 * n) (scoresOf own msk n h hh (by omega) kb (qsAt I h hh n u hu.le))) }

/-- What a score stage makes. -/
def qkF (I : Ins F) (own : Meets) (msk : F .f32) (n u : ℕ) (hu : u + n = 16) (j : KOff) (S : St F) : St F :=
  qkHeadF I own msk 1 n u (by omega) hu (kAt I j) (qkHeadF I own msk 0 n u (by omega) hu (kAt I j) S)

/-- The first contents of the scratch buffers. -/
def startF (msk : F .f32) (S : St F) : St F :=
  { S with
    m := (front 1 4096 le_rfl).overlay S.m (shapeCast (sh3 2 1 4096) (broadcast (sh3 2 1 4096) msk) rfl)
    c := (front 80 4096 le_rfl).overlay S.c
      (shapeCast (sh3 2 80 4096) (broadcast (sh3 2 80 4096) (Scalar.ofBits .f32 0x00000000#32)) rfl)
    p := (front 256 256 (by decide)).overlay S.p
      (shapeCast (sh3 2 256 256) (broadcast (sh3 2 256 256) (Scalar.ofBits .bf16 0x0000#16)) rfl)
    a := (front 1 256 (by decide)).overlay S.a
      (shapeCast (sh3 2 1 256) (broadcast (sh3 2 1 256) (Scalar.ofBits .f32 0x3F800000#32)) rfl) }

/-- The result with its last `n` blocks of one head written. -/
def writeHeadF (h : ℕ) (hh : h < 2) (ac : Vec F (sh3 1 80 4096) .f32) :
    (n u : ℕ) → u + n = 16 → St F → St F
  | 0, _, _, S => S
  | n + 1, u, hu, S => writeHeadF h hh ac n (u + 1) (by omega)
      { S with o := (orect u h (by omega) hh).overlay S.o (piece u (by omega) ac) }

/-- What the write-out makes. -/
def writeF (S : St F) : St F :=
  let S₁ := writeHeadF 0 (by decide) (get (slab 80 0 0 4096 (by decide) le_rfl) S.c) 16 0 rfl S
  writeHeadF 1 (by decide) (get (slab 80 1 0 4096 (by decide) le_rfl) S₁.c) 16 0 rfl S₁

variable (I : Ins F) (O : Offs)

/-- What an unrolled round makes. -/
def roundF (msk : F .f32) (n : ℕ) (hn : 0 < n) (hn' : n ≤ 14) (S : St F) : St F :=
  softF (256 * (15 - n)) (256 * (n + 1)) (by omega) <|
  accF I (256 * (16 - n)) (256 * n) (by omega) (O.v1 ⟨14 - n, by omega⟩) <|
  qkF I .within msk (n + 1) (15 - n) (by omega) (O.k1 ⟨15 - n, by omega⟩) S

/-- What the last `j` unrolled rounds make. -/
def roundsF (msk : F .f32) : (j : ℕ) → j ≤ 14 → St F → St F
  | 0, _, S => S
  | j + 1, hj, S => roundsF msk j (by omega) (roundF I O msk (14 - j) (by omega) (by omega) S)

/-- What one trip makes. -/
def tripF (msk : F .f32) (kj : KOff) (vj : VOff) (S : St F) : St F :=
  qkF I .before msk 16 0 rfl kj <| softF 0 4096 le_rfl <| accF I 0 4096 le_rfl vj S

/-- What precedes the loops makes. -/
def openingF (msk : F .f32) (S : St F) : St F :=
  qkF I .first msk 16 0 rfl (O.k1 0) <| roundsF I O msk 14 le_rfl <| softF 3840 256 le_rfl <|
  qkF I .within msk 1 15 rfl (O.k1 15) <| startF msk S

/-- What `j` trips of a loop make. -/
def tripsF (msk : F .f32) {N : ℕ} (kt : Fin N → KOff) (vt : Fin N → VOff) : ℕ → St F → St F
  | 0, S => S
  | j + 1, S => if h : j < N then tripF I msk (kt ⟨j, h⟩) (vt ⟨j, h⟩) (tripsF msk kt vt j S) else S

/-- What follows the loops makes. -/
def finishF (S : St F) : St F :=
  writeF <| accF I 0 4096 le_rfl O.v8 <| softF 0 4096 le_rfl <| accF I 0 4096 le_rfl O.v7 S

/-- What the body makes. -/
def bodyF (msk : F .f32) (S : St F) : St F :=
  finishF I O <| tripsF I msk O.kt2 O.vt2 O.l2.trips <| tripsF I msk O.kt O.vt O.l1.trips <|
  openingF I O msk S

end Functions

/-! ### The runs -/

section Runs
variable {F : FTy → Type} [FloatOps F] {nD : ℕ} {τ : Topo} {sig : RefSig} {Λ : Labels}

/-- The ghost state: the pipeline's alone. -/
abbrev U₀ (sig : RefSig) (nD : ℕ) (τ : Topo) : Type := URounds (GSem nD τ sig) Unit

variable (defs : Defs nD τ sig (Elt F) Λ) (d : Dev nD) (B : Bufs sig) (I : Ins F)

/-- A whole buffer held at what reads as `X`. -/
def at' {s : Shape} {e : EltTy} {M : Memref sig .tc .vmem s e} (h : M.IsWhole) (X : s.Idx → Elt F e) : sProp (MT nD τ sig Unit (Elt F) ℕ (U₀ sig nD τ) ℕ) :=
  M.view.loc (d : Thread nD τ) ↦{fullShare} h.unread X

/-- All the buffers of a call, at their contents. -/
def inv (S : St F) : sProp (MT nD τ sig Unit (Elt F) ℕ (U₀ sig nD τ) ℕ) :=
  iprop(at' d B.hq I.q ∗ at' d B.hk I.k ∗ at' d B.hv I.v ∗ at' d B.ho S.o ∗ at' d B.hs S.s ∗ at' d B.ht S.t
    ∗ at' d B.hp S.p ∗ at' d B.ha S.a ∗ at' d B.hm S.m ∗ at' d B.hc S.c)

/-- A program that runs from contents `S` to the post. -/
def Ok (Q : PUnit.{1} → sProp (MT nD τ sig Unit (Elt F) ℕ (U₀ sig nD τ) ℕ)) (S : St F) (p : P F nD τ sig Λ) : Prop :=
  inv (nD := nD) (τ := τ) d B I S ⊢ wp frame (wpE defs Variants.none (d : Thread nD τ) none) Set.univ p Q

/-- Holding everything is holding one buffer and, for any contents of it, everything else. -/
def Lens {s : Shape} {e : EltTy} {M : Memref sig .tc .vmem s e} (h : M.IsWhole) (G : St F → s.Idx → Elt F e)
    (up : St F → (s.Idx → Elt F e) → St F) : Prop :=
  ∀ S, inv (nD := nD) (τ := τ) d B I S ⊢ iprop(at' d h (G S) ∗ (∀ X, at' d h X -∗ inv (nD := nD) (τ := τ) d B I (up S X)))

/-- Taking out the result's buffer to write it. -/
theorem lens_o : Lens (nD := nD) (τ := τ) d B I B.ho (·.o) (fun S X => { S with o := X }) := fun S => by
  unfold inv; iintro ⟨H0, H1, H2, H, H4, H5, H6, H7, H8, H9⟩; isplitl [H]; · iexact H
  iintro %X H; iframe
/-- Taking out the scores' buffer to write it. -/
theorem lens_s : Lens (nD := nD) (τ := τ) d B I B.hs (·.s) (fun S X => { S with s := X }) := fun S => by
  unfold inv; iintro ⟨H0, H1, H2, H3, H, H5, H6, H7, H8, H9⟩; isplitl [H]; · iexact H
  iintro %X H; iframe
/-- Taking out the block maxima's buffer to write it. -/
theorem lens_t : Lens (nD := nD) (τ := τ) d B I B.ht (·.t) (fun S X => { S with t := X }) := fun S => by
  unfold inv; iintro ⟨H0, H1, H2, H3, H4, H, H6, H7, H8, H9⟩; isplitl [H]; · iexact H
  iintro %X H; iframe
/-- Taking out the weights' buffer to write it. -/
theorem lens_p : Lens (nD := nD) (τ := τ) d B I B.hp (·.p) (fun S X => { S with p := X }) := fun S => by
  unfold inv; iintro ⟨H0, H1, H2, H3, H4, H5, H, H7, H8, H9⟩; isplitl [H]; · iexact H
  iintro %X H; iframe
/-- Taking out the rescaling factors' buffer to write it. -/
theorem lens_a : Lens (nD := nD) (τ := τ) d B I B.ha (·.a) (fun S X => { S with a := X }) := fun S => by
  unfold inv; iintro ⟨H0, H1, H2, H3, H4, H5, H6, H, H8, H9⟩; isplitl [H]; · iexact H
  iintro %X H; iframe
/-- Taking out the running maxima's buffer to write it. -/
theorem lens_m : Lens (nD := nD) (τ := τ) d B I B.hm (·.m) (fun S X => { S with m := X }) := fun S => by
  unfold inv; iintro ⟨H0, H1, H2, H3, H4, H5, H6, H7, H, H9⟩; isplitl [H]; · iexact H
  iintro %X H; iframe
/-- Taking out the sums' buffer to write it. -/
theorem lens_c : Lens (nD := nD) (τ := τ) d B I B.hc (·.c) (fun S X => { S with c := X }) := fun S => by
  unfold inv; iintro ⟨H0, H1, H2, H3, H4, H5, H6, H7, H8, H⟩; isplitl [H]; · iexact H
  iintro %X H; iframe

/-- The part of that a reader needs. -/
def Look {s : Shape} {e : EltTy} {M : Memref sig .tc .vmem s e} (h : M.IsWhole) (G : St F → s.Idx → Elt F e) : Prop :=
  ∀ S, inv (nD := nD) (τ := τ) d B I S ⊢ iprop(at' d h (G S) ∗ (at' d h (G S) -∗ inv (nD := nD) (τ := τ) d B I S))

/-- Taking out the queries' buffer to read it. -/
theorem look_q : Look (nD := nD) (τ := τ) d B I B.hq (fun _ => I.q) := fun S => by
  unfold inv; iintro ⟨H, H1, H2, H3, H4, H5, H6, H7, H8, H9⟩; isplitl [H]; · iexact H
  iintro H; iframe
/-- Taking out the keys' buffer to read it. -/
theorem look_k : Look (nD := nD) (τ := τ) d B I B.hk (fun _ => I.k) := fun S => by
  unfold inv; iintro ⟨H0, H, H2, H3, H4, H5, H6, H7, H8, H9⟩; isplitl [H]; · iexact H
  iintro H; iframe
/-- Taking out the values' buffer to read it. -/
theorem look_v : Look (nD := nD) (τ := τ) d B I B.hv (fun _ => I.v) := fun S => by
  unfold inv; iintro ⟨H0, H1, H, H3, H4, H5, H6, H7, H8, H9⟩; isplitl [H]; · iexact H
  iintro H; iframe

/-- A buffer the body works on can be read. -/
theorem Lens.look {s : Shape} {e : EltTy} {M : Memref sig .tc .vmem s e} {h : M.IsWhole} {G : St F → s.Idx → Elt F e}
    {up : St F → (s.Idx → Elt F e) → St F} (L : Lens (nD := nD) (τ := τ) d B I h G up) (hup : ∀ S, up S (G S) = S) :
    Look (nD := nD) (τ := τ) d B I h G := fun S => (L S).trans (by
  iintro ⟨H, K⟩; isplitl [H]; · iexact H
  iintro H; ihave K := K $$ %(G S) H
  rw [hup]; iexact K)

/-- Writing a rectangle of a whole buffer held at `X`. -/
theorem write_unread {s : Shape} {e : EltTy} {M : Memref sig .tc .vmem s e} (h : M.IsWhole) (r : Rect s)
    (X : s.Idx → Elt F e) (W : r.shape.Idx → Elt F e) :
    (M.access r).write (Elt F) (h.unread X) W Finset.univ = h.unread (r.overlay X W) := by
  apply h.read_bijective.1
  rw [h.read_unread]
  funext x
  by_cases hx : x ∈ r.set
  · rw [← Rect.map_emb_univ, Finset.mem_map] at hx
    obtain ⟨j, -, rfl⟩ := hx
    rw [Rect.overlay_emb]
    exact View.read_slice_write_emb r _ _ (Finset.mem_univ j)
  · rw [Rect.overlay_of_not_mem _ _ _ hx, ← congrFun (h.read_unread X) x]
    exact View.read_slice_write_of_not_mem r _ _ _ (by rwa [Rect.map_emb_univ])

variable {defs d B I}
variable {Q : PUnit.{1} → sProp (MT nD τ sig Unit (Elt F) ℕ (U₀ sig nD τ) ℕ)}

/-- A load continues at what it reads. -/
theorem ok_ld {s : Shape} {e : EltTy} {M : Memref sig .tc .vmem s e} {h : M.IsWhole} {G : St F → s.Idx → Elt F e}
    (L : Look (nD := nD) (τ := τ) d B I h G) {r : Rect s} {hr : 0 < r.shape.numel}
    {k : (r.shape.Idx → Elt F e) → P F nD τ sig Λ} {S : St F}
    (hk : Ok defs d B I Q S (k (get r (G S)))) : Ok defs d B I Q S (ld M r hr k) := by
  unfold Ok at hk
  refine (L S).trans ?_
  have e : M.view.readAt (Elt F) r.toLoadRect (h.unread (G S)) = get r (G S) := funext fun x => h.readAt_unread _ _ _
  unfold at'
  iintro ⟨H, K⟩
  iapply (wp_load (defs := defs) (k := k) (Q := Q) Variants.none (d : Thread nD τ) none Set.univ (m := M) (r := r.toLoadRect) (Finset.subset_univ _)) $$ H
  iintro H
  ihave K := K $$ H
  rw [e]
  iapply hk; iexact K

/-- A store of words continues at the contents written over. -/
theorem ok_st {s : Shape} {M : Memref sig .tc .vmem s .f32} {h : M.IsWhole} {G : St F → s.Idx → Elt F .f32}
    {up : St F → (s.Idx → Elt F .f32) → St F} (L : Lens (nD := nD) (τ := τ) d B I h G up) {r : Rect s}
    {hr : 0 < r.shape.numel} {x : r.shape.Idx → Elt F .f32} {k : P F nD τ sig Λ} {S : St F}
    (hk : Ok defs d B I Q (up S (r.overlay (G S) x)) k) : Ok defs d B I Q S (st M r hr x k) := by
  unfold Ok at hk
  refine (L S).trans ?_
  unfold at'
  iintro ⟨H, K⟩
  iapply (wp_store (defs := defs) (k := fun _ => k) (Q := Q) Variants.none (d : Thread nD τ) none Set.univ (m := M) (r := r) (w := x) (Mk := Finset.univ) (Finset.subset_univ _)) $$ H
  iintro H
  rw [write_unread h]
  ihave K := K $$ %_ H
  iapply hk; iexact K

/-- A store of half words likewise. -/
theorem ok_st16 {s : Shape} {M : Memref sig .tc .vmem s .bf16} {h : M.IsWhole} {G : St F → s.Idx → Elt F .bf16}
    {up : St F → (s.Idx → Elt F .bf16) → St F} (L : Lens (nD := nD) (τ := τ) d B I h G up) {r : Rect s}
    {hr : 0 < r.shape.numel} {hp : r.PackedRows (EltTy.packing .bf16)} {x : r.shape.Idx → Elt F .bf16}
    {k : P F nD τ sig Λ} {S : St F}
    (hk : Ok defs d B I Q (up S (r.overlay (G S) x)) k) : Ok defs d B I Q S (st16 M h r hr hp x k) := by
  unfold Ok at hk
  refine (L S).trans ?_
  unfold at'
  iintro ⟨H, K⟩
  iapply (wp_store (defs := defs) (k := fun _ => k) (Q := Q) Variants.none (d : Thread nD τ) none Set.univ (m := M) (r := r) (w := x) (Mk := Finset.univ) (Finset.subset_univ _)) $$ H
  iintro H
  rw [write_unread h]
  ihave K := K $$ %_ H
  iapply hk; iexact K

/-- Taking out the result's buffer to read it. -/
theorem look_o : Look (nD := nD) (τ := τ) d B I B.ho (·.o) := (lens_o d B I).look d B I fun _ => rfl
/-- Taking out the scores' buffer to read it. -/
theorem look_s : Look (nD := nD) (τ := τ) d B I B.hs (·.s) := (lens_s d B I).look d B I fun _ => rfl
/-- Taking out the block maxima's buffer to read it. -/
theorem look_t : Look (nD := nD) (τ := τ) d B I B.ht (·.t) := (lens_t d B I).look d B I fun _ => rfl
/-- Taking out the weights' buffer to read it. -/
theorem look_p : Look (nD := nD) (τ := τ) d B I B.hp (·.p) := (lens_p d B I).look d B I fun _ => rfl
/-- Taking out the rescaling factors' buffer to read it. -/
theorem look_a : Look (nD := nD) (τ := τ) d B I B.ha (·.a) := (lens_a d B I).look d B I fun _ => rfl
/-- Taking out the running maxima's buffer to read it. -/
theorem look_m : Look (nD := nD) (τ := τ) d B I B.hm (·.m) := (lens_m d B I).look d B I fun _ => rfl
/-- Taking out the sums' buffer to read it. -/
theorem look_c : Look (nD := nD) (τ := τ) d B I B.hc (·.c) := (lens_c d B I).look d B I fun _ => rfl

/-- A softmax stage of one head. -/
theorem ok_softHead {h o w : ℕ} {hh : h < 2} {hw : 0 < w} {ho : o + w ≤ 4096} {k : P F nD τ sig Λ} {S : St F}
    (hk : Ok defs d B I Q (softHeadF h o w hh ho S) k) : Ok defs d B I Q S (softHead B h o w hh hw ho k) := by
  unfold softHead
  exact ok_ld look_m <| ok_ld look_t <| ok_ld look_s <| ok_ld look_p <| ok_st16 (lens_p d B I) <|
    ok_ld look_a <| ok_st (lens_a d B I) <| ok_ld look_m <| ok_st (lens_m d B I) hk

/-- A softmax stage. -/
theorem ok_soft {o w : ℕ} {hw : 0 < w} {ho : o + w ≤ 4096} {k : P F nD τ sig Λ} {S : St F}
    (hk : Ok defs d B I Q (softF o w ho S) k) : Ok defs d B I Q S (soft B o w hw ho k) :=
  ok_softHead <| ok_softHead hk

/-- The accumulation of one head. -/
theorem ok_accHead {h o w : ℕ} {hh : h < 2} {hw : 0 < w} {ho : o + w ≤ 4096} {v : Vec F (sh4 1 1 128 256) .bf16}
    {k : P F nD τ sig Λ} {S : St F}
    (hk : Ok defs d B I Q (accHeadF h o w hh ho v S) k) : Ok defs d B I Q S (accHead B h o w hh hw ho v k) := by
  unfold accHead
  exact ok_ld look_a <| ok_ld look_c <| ok_ld look_p <| ok_ld look_c <| ok_st (lens_c d B I) hk

/-- An accumulation stage. -/
theorem ok_acc {o w : ℕ} {hw : 0 < w} {ho : o + w ≤ 4096} {j : VOff} {k : P F nD τ sig Λ} {S : St F}
    (hk : Ok defs d B I Q (accF I o w ho j S) k) : Ok defs d B I Q S (acc B o w hw ho j k) := by
  unfold acc
  exact ok_ld (look_v d B I) <| ok_accHead <| ok_accHead hk

/-- Reading the blocks of queries. -/
theorem ok_readQ {h : ℕ} {hh : h < 2} {S : St F} : {n u : ℕ} → {hu : u + n ≤ 16} →
    {k : (Fin n → Vec F (sh3 1 128 256) .bf16) → P F nD τ sig Λ} →
    Ok defs d B I Q S (k (qsAt I h hh n u hu)) → Ok defs d B I Q S (readQ B h hh n u hu k)
  | 0, _, _, _, hk => hk
  | n + 1, u, hu, k, hk => by
    unfold readQ
    exact ok_ld (look_q d B I) <| ok_readQ (n := n) (u := u + 1) hk

/-- The scores of one head. -/
theorem ok_qkHead {own : Meets} {msk : F .f32} {h n u : ℕ} {hh : h < 2} {hn : 0 < n} {hu : u + n = 16}
    {kb : Vec F (sh3 1 256 256) .bf16} {k : P F nD τ sig Λ} {S : St F}
    (hk : Ok defs d B I Q (qkHeadF I own msk h n u hh hu kb S) k) :
    Ok defs d B I Q S (qkHead B own msk h n u hh hn hu kb k) := by
  unfold qkHead
  exact ok_readQ <| ok_ld look_s <| ok_st (lens_s d B I) <| ok_ld look_t <| ok_st (lens_t d B I) hk

/-- A score stage. -/
theorem ok_qk {own : Meets} {msk : F .f32} {n u : ℕ} {hn : 0 < n} {hu : u + n = 16} {j : KOff}
    {k : P F nD τ sig Λ} {S : St F}
    (hk : Ok defs d B I Q (qkF I own msk n u hu j S) k) : Ok defs d B I Q S (qk B own msk n u hn hu j k) := by
  unfold qk
  exact ok_ld (look_k d B I) <| ok_qkHead <| ok_qkHead hk

/-- The first contents. -/
theorem ok_start {msk : F .f32} {k : P F nD τ sig Λ} {S : St F}
    (hk : Ok defs d B I Q (startF msk S) k) : Ok defs d B I Q S (start B msk k) := by
  unfold start
  exact ok_ld look_m <| ok_st (lens_m d B I) <| ok_ld look_c <| ok_st (lens_c d B I) <|
    ok_ld look_p <| ok_st16 (lens_p d B I) <| ok_ld look_a <| ok_st (lens_a d B I) hk

/-- The write-out of one head. -/
theorem ok_writeHead {h : ℕ} {hh : h < 2} {ac : Vec F (sh3 1 80 4096) .f32} {k : P F nD τ sig Λ} :
    {n u : ℕ} → {hu : u + n = 16} → {S : St F} →
    Ok defs d B I Q (writeHeadF h hh ac n u hu S) k → Ok defs d B I Q S (writeHead B h hh ac n u hu k)
  | 0, _, _, _, hk => hk
  | n + 1, u, hu, S, hk => by
    unfold writeHead
    exact ok_ld look_o <| ok_st16 (lens_o d B I) <| ok_writeHead (n := n) (u := u + 1) hk

/-- The write-out. -/
theorem ok_write {k : P F nD τ sig Λ} {S : St F}
    (hk : Ok defs d B I Q (writeF S) k) : Ok defs d B I Q S (write B k) := by
  unfold write
  exact ok_ld look_c <| ok_writeHead <| ok_ld look_c <| ok_writeHead hk

variable {O : Offs}

/-- An unrolled round. -/
theorem ok_round {msk : F .f32} {n : ℕ} {hn : 0 < n} {hn' : n ≤ 14} {k : P F nD τ sig Λ} {S : St F}
    (hk : Ok defs d B I Q (roundF I O msk n hn hn' S) k) : Ok defs d B I Q S (round B O msk n hn hn' k) :=
  ok_qk <| ok_acc <| ok_soft hk

/-- The unrolled rounds. -/
theorem ok_rounds {msk : F .f32} {k : P F nD τ sig Λ} : {j : ℕ} → {hj : j ≤ 14} → {S : St F} →
    Ok defs d B I Q (roundsF I O msk j hj S) k → Ok defs d B I Q S (rounds B O msk j hj k)
  | 0, _, _, hk => hk
  | j + 1, hj, S, hk => ok_round <| ok_rounds (j := j) hk

/-- What precedes the loops. -/
theorem ok_opening {msk : F .f32} {k : P F nD τ sig Λ} {S : St F}
    (hk : Ok defs d B I Q (openingF I O msk S) k) : Ok defs d B I Q S (opening B O msk k) :=
  ok_start <| ok_qk <| ok_soft <| ok_rounds <| ok_qk hk

/-- The return. -/
theorem ok_ret {S : St F} (hk : inv (nD := nD) (τ := τ) d B I S ⊢ Q ⟨⟩) : Ok defs d B I Q S (.ret ⟨⟩) := by
  refine hk.trans ?_
  rw [wp_ret]
  exact fupd_intro

/-- One trip. -/
theorem ok_trip {msk : F .f32} {kj : KOff} {vj : VOff} {S : St F}
    (hk : inv (nD := nD) (τ := τ) d B I (tripF I msk kj vj S) ⊢ Q ⟨⟩) : Ok defs d B I Q S (trip B msk kj vj) :=
  ok_acc <| ok_soft <| ok_qk <| ok_ret hk

/-- A loop of trips. -/
theorem ok_loop {msk : F .f32} {l : Scf.Loop 32} {hl : l.OK} {kt : Fin l.trips → KOff} {vt : Fin l.trips → VOff}
    {kk : Unit → P F nD τ sig Λ} {S : St F} (hk : Ok defs d B I Q (tripsF I msk kt vt l.trips S) (kk ⟨⟩)) :
    Ok defs d B I Q S (Scf.Loop.for l hl (⟨⟩ : Unit) (fun t _ => trip B msk (kt t) (vt t)) >>= kk) := by
  unfold Ok at hk ⊢
  have hb : ∀ (t : Fin l.trips) (u : Unit), inv (nD := nD) (τ := τ) d B I (tripsF I msk kt vt t.val S)
      ⊢ wp frame (wpE defs Variants.none (d : Thread nD τ) none) Set.univ (trip B msk (kt t) (vt t))
          (fun _ => inv (nD := nD) (τ := τ) d B I (tripsF I msk kt vt (t.val + 1) S)) := fun t u => by
    refine ok_trip (defs := defs) ?_
    rw [tripsF, dif_pos t.isLt]
  have := Scf.wp_for_bind (kk := kk) (Q := Q) frame (wpE defs Variants.none (d : Thread nD τ) none) Set.univ l.lb l.ub l.st hl (⟨⟩ : Unit)
    (fun t _ => trip B msk (kt t) (vt t)) (fun t _ => inv (nD := nD) (τ := τ) d B I (tripsF I msk kt vt t S)) hb
  change inv (nD := nD) (τ := τ) d B I (tripsF I msk kt vt 0 S) ⊢ _
  iintro H
  iapply this $$ H
  iintro %u H
  iapply hk; iexact H

/-- The whole body runs to what it makes. -/
theorem ok_body {msk : F .f32} {S : St F} (hk : inv (nD := nD) (τ := τ) d B I (bodyF I O msk S) ⊢ Q ⟨⟩) :
    Ok defs d B I Q S (body B O msk) :=
  ok_opening <| ok_loop <| ok_loop <| ok_acc <| ok_soft <| ok_acc <| ok_write <| ok_ret hk

/-- A whole buffer owned at what it reads. -/
theorem owns_eq_whole {sp : Space} {s : Shape} {e : EltTy} {M : Memref sig .tc sp s e} (h : M.IsWhole) (X : s.Idx → Elt F e)
    (f : Buf (Elt F) (M.view.loc (d : Thread nD τ))) (hr : M.view.read (Elt F) f = X) :
    (owns (d : Thread nD τ) M fullShare X : sProp (MT nD τ sig Unit (Elt F) ℕ (U₀ sig nD τ) ℕ))
      = (M.view.loc (d : Thread nD τ) ↦{fullShare} f) := by
  obtain ⟨b, hsp, hsh, he, hm⟩ := h
  subst hsp hsh he
  cases hm
  rw [← hr]
  exact owns_whole ..

/-- The same, at the vector. -/
theorem owns_eq_at {s : Shape} {e : EltTy} {M : Memref sig .tc .vmem s e} (h : M.IsWhole) (X : s.Idx → Elt F e) :
    (owns (d : Thread nD τ) M fullShare X : sProp (MT nD τ sig Unit (Elt F) ℕ (U₀ sig nD τ) ℕ)) = at' d h X :=
  owns_eq_whole h X _ (h.read_unread X)

/-- A buffer at any contents. -/
theorem some_at {s : Shape} {e : EltTy} {M : Memref sig .tc .vmem s e} (h : M.IsWhole)
    (f : Buf (Elt F) (M.view.loc (d : Thread nD τ))) :
    (M.view.loc (d : Thread nD τ) ↦{fullShare} f : sProp (MT nD τ sig Unit (Elt F) ℕ (U₀ sig nD τ) ℕ))
      = at' d h (M.view.read (Elt F) f) := by
  unfold at'; rw [h.unread_read]

variable (d B I) in
/-- The buffers a call only reads, its result's, and its scratch, the last at any contents. -/
def Held (R : (Vec F (sh3 16 128 256) .bf16) → Prop) : sProp (MT nD τ sig Unit (Elt F) ℕ (U₀ sig nD τ) ℕ) :=
  iprop(owns (d : Thread nD τ) B.q fullShare I.q ∗ owns (d : Thread nD τ) B.k fullShare I.k
    ∗ owns (d : Thread nD τ) B.v fullShare I.v ∗ (∃ X, ⌜R X⌝ ∗ owns (d : Thread nD τ) B.o fullShare X)
    ∗ (∃ f, B.s.view.loc (d : Thread nD τ) ↦{fullShare} f) ∗ (∃ f, B.t.view.loc (d : Thread nD τ) ↦{fullShare} f)
    ∗ (∃ f, B.p.view.loc (d : Thread nD τ) ↦{fullShare} f) ∗ (∃ f, B.a.view.loc (d : Thread nD τ) ↦{fullShare} f)
    ∗ (∃ f, B.m.view.loc (d : Thread nD τ) ↦{fullShare} f) ∗ (∃ f, B.c.view.loc (d : Thread nD τ) ↦{fullShare} f))

/-- A call from any contents of its scratch and result leaves what it only reads as it was and its
result at what the body makes of some contents. -/
theorem held_body {msk : F .f32} :
    Held d B I (fun _ => True)
      ⊢ wp frame (wpE defs Variants.none (d : Thread nD τ) none) Set.univ (body B O msk)
          (fun _ => Held d B I fun X => ∃ S, X = (bodyF I O msk S).o) := by
  unfold Held
  simp only [owns_eq_at B.hq, owns_eq_at B.hk, owns_eq_at B.hv, owns_eq_at B.ho, some_at B.hs, some_at B.ht,
    some_at B.hp, some_at B.ha, some_at B.hm, some_at B.hc]
  iintro ⟨Hq, Hk, Hv, ⟨%o, -, Ho⟩, ⟨%s, Hs⟩, ⟨%t, Ht⟩, ⟨%p, Hp⟩, ⟨%a, Ha⟩, ⟨%m, Hm⟩, ⟨%c, Hc⟩⟩
  let S : St F := ⟨o, B.s.view.read (Elt F) s, B.t.view.read (Elt F) t, B.p.view.read (Elt F) p,
    B.a.view.read (Elt F) a, B.m.view.read (Elt F) m, B.c.view.read (Elt F) c⟩
  have hr : ∀ {s : Shape} {e : EltTy} {M : Memref sig .tc .vmem s e} (h : M.IsWhole) (X : s.Idx → Elt F e),
      (at' d h X : sProp (MT nD τ sig Unit (Elt F) ℕ (U₀ sig nD τ) ℕ)) ⊢ iprop(∃ f, at' d h (M.view.read (Elt F) f)) := fun h X => by
    iintro H; iexists h.unread X; rw [h.read_unread]; iexact H
  have hk : inv d B I (bodyF I O msk S) ⊢ Held (nD := nD) (τ := τ) d B I fun X => ∃ S, X = (bodyF I O msk S).o := by
    unfold inv Held
    simp only [owns_eq_at B.hq, owns_eq_at B.hk, owns_eq_at B.hv, owns_eq_at B.ho, some_at B.hs, some_at B.ht,
      some_at B.hp, some_at B.ha, some_at B.hm, some_at B.hc]
    iintro ⟨Hq, Hk, Hv, Ho, Hs, Ht, Hp, Ha, Hm, Hc⟩
    isplitl [Hq]; · iexact Hq
    isplitl [Hk]; · iexact Hk
    isplitl [Hv]; · iexact Hv
    isplitl [Ho]
    · iexists _; isplitr; swap; · iexact Ho
      ipureintro; exact ⟨S, rfl⟩
    isplitl [Hs]; · iapply hr; iexact Hs
    isplitl [Ht]; · iapply hr; iexact Ht
    isplitl [Hp]; · iapply hr; iexact Hp
    isplitl [Ha]; · iapply hr; iexact Ha
    isplitl [Hm]; · iapply hr; iexact Hm
    iapply hr; iexact Hc
  have hb := ok_body (defs := defs) (d := d) (B := B) (I := I) (O := O) (msk := msk) (S := S) (Q := fun _ => _) hk
  unfold Ok Held at hb
  simp only [owns_eq_at B.hq, owns_eq_at B.hk, owns_eq_at B.hv, owns_eq_at B.ho, some_at B.hs, some_at B.ht,
    some_at B.hp, some_at B.ha, some_at B.hm, some_at B.hc] at hb
  iapply hb
  unfold inv
  iframe

end Runs

end Cert.Mla
-- ==== Proof.AttnPrinted.lean ====
module

public import proofs.«01_k».proof.Proof.AttnStages

/-! The printed body of the attention kernel is the structured one. -/

@[expose] public section

noncomputable section

namespace Cert.KernelIdeal.Gen

open Idealize.ShloMosaic Idealize.SL.Sem Cert.Mla

variable {F : FTy → Type} [FloatOps F] [Named F]

/-- Where one step's reads lie. -/
def offs (i : grid0.Coords) : Offs where
  k1 c := ⟨k0_off1 i (BitVec.ofNat 32 (1 + c.val)), k0_off1_inb i c⟩
  v1 c := ⟨k0_off2 i (BitVec.ofNat 32 (1 + c.val)), k0_off2_inb i c⟩
  l1 := k0_t1_loop i
  ok1 := k0_t1_ok i
  kt t := ⟨k0_off4 i t, k0_off4_inb i t⟩
  vt t := ⟨k0_off3 i t, k0_off3_inb i t⟩
  l2 := k0_t2_loop i
  ok2 := k0_t2_ok i
  kt2 t := ⟨k0_off6 i t, k0_off6_inb i t⟩
  vt2 t := ⟨k0_off5 i t, k0_off5_inb i t⟩
  v7 := ⟨k0_off7 i, k0_off7_inb i⟩
  v8 := ⟨k0_off8 i, k0_off8_inb i⟩

set_option maxRecDepth 65536 in
set_option maxHeartbeats 4000000 in
/-- The loop's body. -/
theorem t1_body_eq (B : Bufs sig) (i : grid0.Coords) (v2366 v2369 : BitVec 32) (u : Unit) (t : Fin (k0_t1_loop i).trips) :
    k0_t1_body (F := F) i B.q B.hq B.k B.hk B.v B.hv B.o B.ho B.s B.hs B.t B.ht B.p B.hp B.a B.ha B.m B.hm
      B.c B.hc (Scalar.muli 16#32 (BitVec.ofNat 32 (i 2).val)) (k0_pay81 (F := F)) v2366 15#32 1#32 v2369 t u
      = trip B (Named.named κ "mask" 0xF149F2CA#32) ((offs i).kt t) ((offs i).vt t) := rfl

/-- The last block of keys a step meets is its own first. -/
def last (i : grid0.Coords) : BitVec 32 :=
  Scalar.subi (Scalar.addi (Scalar.muli 16#32 (BitVec.ofNat 32 (i 2).val)) 16#32) 1#32

/-- How many earlier blocks of keys the loop meets. -/
def count (i : grid0.Coords) : BitVec 32 := Scalar.divsi (Scalar.subi (last i) 15#32) 1#32

set_option maxRecDepth 65536 in
/-- The printed body from its loops on, but for the last write. -/
def loopsOn (B : Bufs sig) (i : grid0.Coords) :
    Prog (TpuEff nD τ sig (Elt F) Λ₀ .tc) (FVec F S1x64x256 .bf16) := do
  let ⟨v2397, v2399⟩ : Σ' (v2397 : FVec F S80x256 .bf16), FVec F S1x4096 .f32 ← k0_part92 i B.q B.hq B.k B.hk B.v B.hv B.o B.ho B.s B.hs B.t B.ht B.p B.hp B.a B.ha B.m B.hm B.c B.hc (Scalar.muli 16#32 (BitVec.ofNat 32 (i 2).val)) (k0_pay81 (F := F)) (last i) 15#32 1#32 (count i)
  let ⟨v2415, v2430⟩ : Σ' (v2415 : FVec F S1x4096 .f32), Vec F S1x1x4096 .f32 ← k0_part93 i B.q B.hq B.k B.hk B.v B.hv B.o B.ho B.s B.hs B.t B.ht B.p B.hp B.a B.ha B.m B.hm B.c B.hc v2397 v2399
  let v2462 : FVec F S128x256 .bf16 ← k0_part94 i B.q B.hq B.k B.hk B.v B.hv B.o B.ho B.s B.hs B.t B.ht B.p B.hp B.a B.ha B.m B.hm B.c B.hc (Scalar.muli 16#32 (BitVec.ofNat 32 (i 2).val)) (last i) v2415 v2430
  k0_part95 i B.q B.hq B.k B.hk B.v B.hv B.o B.ho B.s B.hs B.t B.ht B.p B.hp B.a B.ha B.m B.hm B.c B.hc (k0_pay81 (F := F)) v2462
  let ⟨v2499, v2524⟩ : Σ' (v2499 : FVec F S64x4096 .bf16), FVec F S64x256 .bf16 ← k0_part96 i B.q B.hq B.k B.hk B.v B.hv B.o B.ho B.s B.hs B.t B.ht B.p B.hp B.a B.ha B.m B.hm B.c B.hc
  k0_part97 i B.q B.hq B.k B.hk B.v B.hv B.o B.ho B.s B.hs B.t B.ht B.p B.hp B.a B.ha B.m B.hm B.c B.hc v2499 v2524
  let ⟨v2570, v2587⟩ : Σ' (v2570 : FVec F S64x4096 .bf16), FVec F S64x256 .bf16 ← k0_part98 i B.q B.hq B.k B.hk B.v B.hv B.o B.ho B.s B.hs B.t B.ht B.p B.hp B.a B.ha B.m B.hm B.c B.hc v2499
  let v2615 : FVec F S64x256 .bf16 ← k0_part99 i B.q B.hq B.k B.hk B.v B.hv B.o B.ho B.s B.hs B.t B.ht B.p B.hp B.a B.ha B.m B.hm B.c B.hc v2570 v2587
  Prog.lift (.store B.o (Rect.unit (s := S16x128x256) ![11, 64, 0] S1x64x256.size inb_S16x128x256_S1x64x256_11_64_0) (k0_pay648 v2615) Finset.univ (View.stores_vmem h_S1x64x256 (B.ho.storeExact_slice rfl _ packedbf16_S16x128x256_S1x64x256_11_64_0) (fun _ => rfl)) (.inl rfl))
  let v2620 : Vec F S1x64x256 .bf16 ← Prog.lift (.load B.o (Rect.unit (s := S16x128x256) ![12, 64, 0] S1x64x256.size inb_S16x128x256_S1x64x256_12_64_0).toLoadRect (View.loadsAt_vmem h_S1x64x256))
  Prog.lift (.store B.o (Rect.unit (s := S16x128x256) ![12, 64, 0] S1x64x256.size inb_S16x128x256_S1x64x256_12_64_0) (k0_pay649 v2570) Finset.univ (View.stores_vmem h_S1x64x256 (B.ho.storeExact_slice rfl _ packedbf16_S16x128x256_S1x64x256_12_64_0) (fun _ => rfl)) (.inl rfl))
  let v2624 : Vec F S1x64x256 .bf16 ← Prog.lift (.load B.o (Rect.unit (s := S16x128x256) ![13, 64, 0] S1x64x256.size inb_S16x128x256_S1x64x256_13_64_0).toLoadRect (View.loadsAt_vmem h_S1x64x256))
  Prog.lift (.store B.o (Rect.unit (s := S16x128x256) ![13, 64, 0] S1x64x256.size inb_S16x128x256_S1x64x256_13_64_0) (k0_pay650 v2570) Finset.univ (View.stores_vmem h_S1x64x256 (B.ho.storeExact_slice rfl _ packedbf16_S16x128x256_S1x64x256_13_64_0) (fun _ => rfl)) (.inl rfl))
  let v2628 : Vec F S1x64x256 .bf16 ← Prog.lift (.load B.o (Rect.unit (s := S16x128x256) ![14, 64, 0] S1x64x256.size inb_S16x128x256_S1x64x256_14_64_0).toLoadRect (View.loadsAt_vmem h_S1x64x256))
  Prog.lift (.store B.o (Rect.unit (s := S16x128x256) ![14, 64, 0] S1x64x256.size inb_S16x128x256_S1x64x256_14_64_0) (k0_pay651 v2570) Finset.univ (View.stores_vmem h_S1x64x256 (B.ho.storeExact_slice rfl _ packedbf16_S16x128x256_S1x64x256_14_64_0) (fun _ => rfl)) (.inl rfl))
  let v2632 : Vec F S1x64x256 .bf16 ← Prog.lift (.load B.o (Rect.unit (s := S16x128x256) ![15, 64, 0] S1x64x256.size inb_S16x128x256_S1x64x256_15_64_0).toLoadRect (View.loadsAt_vmem h_S1x64x256))
  pure (k0_pay652 v2570)

/-- The printed body from its loops on. -/
def closing (B : Bufs sig) (i : grid0.Coords) : Prog (TpuEff nD τ sig (Elt F) Λ₀ .tc) PUnit := do
  let v2634 : FVec F S1x64x256 .bf16 ← loopsOn B i
  Prog.lift (.store B.o (Rect.unit (s := S16x128x256) ![15, 64, 0] S1x64x256.size inb_S16x128x256_S1x64x256_15_64_0) v2634 Finset.univ (View.stores_vmem h_S1x64x256 (B.ho.storeExact_slice rfl _ packedbf16_S16x128x256_S1x64x256_15_64_0) (fun _ => rfl)) (.inl rfl))
  pure ⟨⟩

set_option maxRecDepth 65536 in
set_option maxHeartbeats 1000000 in
/-- The whole body. -/
theorem body_eq (B : Bufs sig) (i : grid0.Coords) :
    cc0_mla_attn (F := F) i B.q B.hq B.k B.hk B.v B.hv B.o B.ho B.s B.hs B.t B.ht B.p B.hp B.a B.ha B.m B.hm
      B.c B.hc = opening B (offs i) (Named.named κ "mask" 0xF149F2CA#32) (closing B i) := rfl

set_option maxRecDepth 65536 in
set_option maxHeartbeats 1000000 in
/-- From the loops on, it is the structured body. -/
theorem closing_eq (B : Bufs sig) (i : grid0.Coords) :
    closing (F := F) B i = ending B (offs i) (Named.named κ "mask" 0xF149F2CA#32) := by
  unfold closing loopsOn
  rw [k0_part92_eq_skeleton]
  unfold k0_part92_skel
  simp only [Prog.bind_assoc]
  rfl

/-- The printed body is the structured one. -/
theorem printed_eq (B : Bufs sig) (i : grid0.Coords) :
    cc0_mla_attn (F := F) i B.q B.hq B.k B.hk B.v B.hv B.o B.ho B.s B.hs B.t B.ht B.p B.hp B.a B.ha B.m B.hm
      B.c B.hc = body B (offs i) (Named.named κ "mask" 0xF149F2CA#32) :=
  (body_eq B i).trans (congrArg _ (closing_eq B i))

end Cert.KernelIdeal.Gen
-- ==== Proof.AttnIdealRun.lean ====
module

public import proofs.«01_k».proof.Proof.AttnPrinted
public import proofs.«01_k».proof.Proof.AttnRun
public import Idealize.ShloMosaic.Lib.Pipeline.FrameBody

/-! The attention kernel at each step, and its launch, with the mask constant named. -/

@[expose] public section

noncomputable section

namespace Cert.KernelIdeal.Gen

open Idealize.ShloMosaic Idealize.ShloMosaic.TcCoe Idealize.ShloMosaic.Tactic Cert.Mla
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable (m : (ℓ : Loc nD τ sig) → Buf (Elt F) ℓ) (ρ : Dev nD → PrngReg)

/-- The buffers of one step. -/
def bufs (t : Fin cfg0.N) : Bufs sig where
  q := win0_0.stage (cfg0.slots t 0)
  hq := hstage0_0 ((cfg0.slots t 0).cast nbuf0_0)
  k := win0_1.stage (cfg0.slots t 1)
  hk := hstage0_1 ((cfg0.slots t 1).cast nbuf0_1)
  v := win0_2.stage (cfg0.slots t 2)
  hv := hstage0_2 ((cfg0.slots t 2).cast nbuf0_2)
  o := win0_3.stage (cfg0.slots t 3)
  ho := hstage0_3 ((cfg0.slots t 3).cast nbuf0_3)
  s := Memref.whole cc0_scratch0
  hs := Memref.isWhole_whole _
  t := Memref.whole cc0_scratch1
  ht := Memref.isWhole_whole _
  p := Memref.whole cc0_scratch2
  hp := Memref.isWhole_whole _
  a := Memref.whole cc0_scratch3
  ha := Memref.isWhole_whole _
  m := Memref.whole cc0_scratch4
  hm := Memref.isWhole_whole _
  c := Memref.whole cc0_scratch5
  hc := Memref.isWhole_whole _

/-- What one step reads. -/
def ins (c : Dev nD) (t : Fin cfg0.N) : Ins F := ⟨iblk m c 0 t, iblk m c 1 t, iblk m c 2 t⟩

/-- What one step leaves of its result, from given contents of its scratch and result. -/
def leaves (c : Dev nD) (t : Fin cfg0.N) (S : St F) : Vec F (sh3 16 128 256) .bf16 :=
  (bodyF (ins m c t) (offs (grid0.coords t)) (Named.named κ "mask" 0xF149F2CA#32) S).o

/-- One step, from what the pipeline hands it to what it hands back. -/
theorem step_run (c : Dev nD) (t : Fin cfg0.N) :
    (iprop(Pipeline.ΦA spec0 c
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ ∃ X, owns (c : Thread nD τ) (st0_3 t) fullShare X)
      : sProp (MT nD τ sig Unit (Elt F) ℕ (UR sig nD τ) ℕ))
      ⊢ wp frame (wpE (defs₀ (F := F)) Variants.none (c : Thread nD τ) none) Set.univ (bodyAt0 t) (fun _ =>
        iprop(Pipeline.ΦA spec0 c
          ∗ owns (c : Thread nD τ) (st0_0 t) fullShare (iblk m c 0 t) ∗ owns (c : Thread nD τ) (st0_1 t) fullShare (iblk m c 1 t)
          ∗ owns (c : Thread nD τ) (st0_2 t) fullShare (iblk m c 2 t)
          ∗ ∃ S, owns (c : Thread nD τ) (st0_3 t) fullShare (leaves m c t S))) := by
  have h := held_body (defs := defs₀ (F := F)) (d := c) (B := bufs t) (I := ins m c t) (O := offs (grid0.coords t))
    (msk := Named.named κ "mask" 0xF149F2CA#32)
  rw [← printed_eq (bufs t)] at h
  have h' := sep_mono_left (Q := iprop(∃ r, prngReg c r)) h |>.trans (wp_frame_r _ _ _)
  unfold Pipeline.ΦA
  rw [scopedRest0_eq]
  refine triple_restated h' rfl ?_ fun _ => ?_
  · unfold Held
    iintro ⟨⟨⟨Hs, Ht, Hp, Ha, Hm, Hc⟩, Hr⟩, Hq, Hk, Hv, ⟨%X, Ho⟩⟩
    isplitr [Hr]; swap; · iexact Hr
    isplitl [Hq]; · iexact Hq
    isplitl [Hk]; · iexact Hk
    isplitl [Hv]; · iexact Hv
    isplitl [Ho]
    · iexists X; isplitr; · ipureintro; trivial
      iexact Ho
    isplitl [Hs]; · iexact Hs
    isplitl [Ht]; · iexact Ht
    isplitl [Hp]; · iexact Hp
    isplitl [Ha]; · iexact Ha
    isplitl [Hm]; · iexact Hm
    iexact Hc
  · unfold Held
    iintro ⟨⟨Hq, Hk, Hv, ⟨%X, ⟨%S, %hS⟩, Ho⟩, Hs, Ht, Hp, Ha, Hm, Hc⟩, Hr⟩
    isplitl [Hs Ht Hp Ha Hm Hc Hr]
    · isplitr [Hr]; swap; · iexact Hr
      isplitl [Hs]; · iexact Hs
      isplitl [Ht]; · iexact Ht
      isplitl [Hp]; · iexact Hp
      isplitl [Ha]; · iexact Ha
      isplitl [Hm]; · iexact Hm
      iexact Hc
    isplitl [Hq]; · iexact Hq
    isplitl [Hk]; · iexact Hk
    isplitl [Hv]; · iexact Hv
    iexists S
    subst hS
    iexact Ho

variable (out : Dev nD → Fin cfg0.N → Vec F (sh3 16 128 256) .bf16)

/-- The launch's proof data: each input's block stays, the result's is the given one. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t
  Φ _ := Pipeline.ΦA spec0 c
  q _ := fullShare
  owed _ := 0

/-- A step of the pipeline is the body at the step's buffers. -/
theorem row_eq (t : Fin cfg0.N) : defs₀ (F := F) .tc cfg0.body (cfg0.bodyArgs t (cfg0.slots t)) = bodyAt0 t := by
  unfold defs₀; rw [Defs.onTc_tc]

/-- What the launch asks of a step whose result's block is not followed. -/
theorem any_step (c : Dev nD) :
    BodyObligation (dats m out 0 c) (defs₀ (F := F)) Variants.none () Set.univ (fun w => w == 3) := fun t => by
  rw [bigSep_W0, bigSep_W0, row_eq]
  refine triple_restated ((sep_mono_left (Q := (dats m out 0 c).owesAt () t.castSucc) (step_run m c t)).trans (wp_frame_r _ _ _))
    rfl ?_ fun _ => ?_
  · show iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ X, owns (c : Thread nD τ) (st0_3 t) fullShare X)) ⊢ _
    simp only [before0_0_of m (dats m out 0 c) rfl (fun _ => rfl), before0_1_of m (dats m out 0 c) rfl (fun _ => rfl),
      before0_2_of m (dats m out 0 c) rfl (fun _ => rfl)]
    iintro ⟨HΦ, Hw, ⟨%d0, H0⟩, ⟨%d1, H1⟩, ⟨%d2, H2⟩, ⟨%d3, H3⟩⟩
    isplitr [Hw]; swap; · iexact Hw
    isplitl [HΦ]; · iexact HΦ
    isplitl [H0]; · iexact H0
    isplitl [H1]; · iexact H1
    isplitl [H2]; · iexact H2
    iexists d3; iexact H3
  · show _ ⊢ iprop(Pipeline.ΦA spec0 c ∗ (dats m out 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ (∃ X, owns (c : Thread nD τ) (st0_3 t) fullShare X))
    iintro ⟨⟨HΦ, H0, H1, H2, ⟨%S, H3⟩⟩, Hw⟩
    isplitl [HΦ]; · iexact HΦ
    isplitl [Hw]; · iexact Hw
    isplitl [H0]; · iexact H0
    isplitl [H1]; · iexact H1
    isplitl [H2]; · iexact H2
    iexists _; iexact H3

/-- What the launch asks of a step that leaves the given block of its result. -/
theorem exact_step (hout : ∀ c t S, leaves m c t S = out c t) (c : Dev nD) :
    BodyObligation (dats m out 0 c) (defs₀ (F := F)) Variants.none () Set.univ := fun t => by
  rw [bigSep_W0, bigSep_W0, row_eq]
  refine triple_restated ((sep_mono_left (Q := (dats m out 0 c).owesAt () t.castSucc) (step_run m c t)).trans (wp_frame_r _ _ _))
    rfl ?_ fun _ => ?_
  · show iprop(Pipeline.ΦA spec0 c ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))) ⊢ _
    simp only [before0_0_of m (dats m out 0 c) rfl (fun _ => rfl), before0_1_of m (dats m out 0 c) rfl (fun _ => rfl),
      before0_2_of m (dats m out 0 c) rfl (fun _ => rfl)]
    iintro ⟨HΦ, Hw, ⟨%d0, H0⟩, ⟨%d1, H1⟩, ⟨%d2, H2⟩, ⟨%d3, H3⟩⟩
    isplitr [Hw]; swap; · iexact Hw
    isplitl [HΦ]; · iexact HΦ
    isplitl [H0]; · iexact H0
    isplitl [H1]; · iexact H1
    isplitl [H2]; · iexact H2
    iexists _; iexact H3
  · simp only [hout]
    show _ ⊢ iprop(Pipeline.ΦA spec0 c ∗ (dats m out 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (out c t))
    iintro ⟨⟨HΦ, H0, H1, H2, ⟨%S, H3⟩⟩, Hw⟩
    isplitl [HΦ]; · iexact HΦ
    isplitl [Hw]; · iexact Hw
    isplitl [H0]; · iexact H0
    isplitl [H1]; · iexact H1
    isplitl [H2]; · iexact H2
    iexact H3

set_option backward.isDefEq.respectTransparency.types false in
set_option maxHeartbeats 800000 in
/-- The launch ends, its counters at zero, with nothing said of the result. -/
theorem any_run : θ_run defs (onTc (τ := τ) (main (F := F))) (s₀ m ρ) (fun r =>
    Pipeline.RDat.FramePost cfg0 (fun c => (dats m out 0 c).toRForget fun w => w == 3) (V m) r ∧ r.2.sem = fun _ => 0) :=
  Pipeline.θ_run_frame_forget (Q' := _) cfgs (dats m out) (0 : Fin 1) launch0 defs₀ Variants.none (fun w => w == 3) m ρ main
    (hbody := fun c => (any_step m out c).loose) (hshare := fun c => (dats m out 0 c).share_full fun _ => rfl)
    (howed := fun _ _ => rfl) (V := V m) (hmain := hmain m Variants.none) (hA := fun _ _ => rfl) (hΦ := fun _ _ => rfl)

set_option backward.isDefEq.respectTransparency.types false in
set_option maxHeartbeats 800000 in
/-- The launch ends with its result at the given blocks. -/
theorem exact_run (hout : ∀ c t S, leaves m c t S = out c t) :
    θ_run defs (onTc (τ := τ) (main (F := F))) (s₀ m ρ) (Pipeline.FramePost cfgs (dats m out) 0 (V m)) :=
  Pipeline.θ_run_frame cfgs (dats m out) (0 : Fin 1) launch0 defs₀ Variants.none m ρ main
    (hbody := fun c => (exact_step m out hout c).loose) (hshare := fun c => (dats m out 0 c).share_full fun _ => rfl)
    (howed := fun _ _ => rfl) (V := V m) (hmain := hmain m Variants.none) (hA := fun _ _ => rfl) (hΦ := fun _ _ => rfl)

/-- The launch leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨Pipeline.RDat.FramePost.arr_in h.1 c 0 rfl, Pipeline.RDat.FramePost.arr_in h.1 c 1 rfl, Pipeline.RDat.FramePost.arr_in h.1 c 2 rfl⟩, h.2⟩)
    (any_run m ρ fun c t => iblk m c 3 t)

end Cert.KernelIdeal.Gen
-- ==== Proof.AttnCols.lean ====
module

public import proofs.«01_k».proof.Proof.AttnRun
public import Idealize.ShloMosaic.Lib.ValueLayout
public import Idealize.ShloMosaic.Lib.MatmulPlain

@[expose] public section

/-! The attention's body column by column: what each stage does to one column of one head, and the
products and maxima of its blocks as sums and suprema. -/

noncomputable section

namespace Cert.Mla

open Idealize.ShloMosaic Idealize.SL.Sem Idealize.ShloMosaic.WordCmp

/-- Which way a block is met is decided by its name. -/
instance : DecidableEq Meets := fun a b => by
  cases a <;> cases b <;> first | exact isTrue rfl | exact isFalse (by intro h; cases h)

/-- A leading unit axis dropped. -/
theorem drop_at {α : Type} {a b : ℕ} (x : (sh3 1 a b).Idx → α) (h : (sh3 1 a b).ShapeCasts (sh2 a b)) (i : Fin a) (j : Fin b) :
    shapeCast (sh2 a b) x h (ix2 i j) = x (ix3 0 i j) := by
  rw [ix2_eq_valueIdx, ix3_eq_valueIdx]; exact ValueIdx.shapeCast_1ab_ab_apply ..

/-- A leading unit axis added. -/
theorem add_at {α : Type} {a b : ℕ} (x : (sh2 a b).Idx → α) (h : (sh2 a b).ShapeCasts (sh3 1 a b)) (u : Fin 1) (i : Fin a) (j : Fin b) :
    shapeCast (sh3 1 a b) x h (ix3 u i j) = x (ix2 i j) := by
  rw [ix2_eq_valueIdx, ix3_eq_valueIdx]; exact ValueIdx.shapeCast_ab_1ab_apply ..

/-- A vector as a matrix of one row. -/
theorem row_at {α : Type} {a : ℕ} (x : (⟨1, ![a]⟩ : Shape).Idx → α) (h : (⟨1, ![a]⟩ : Shape).ShapeCasts (sh2 1 a)) (u : Fin 1) (i : Fin a) :
    shapeCast (sh2 1 a) x h (ix2 u i) = x (ix1 i) := by
  rw [ix2_eq_valueIdx, ix1_eq_valueIdx]; exact ValueIdx.shapeCast_a_1a_apply ..

/-- One row repeated. -/
theorem spread_at {α : Type} {a b : ℕ} (x : (sh2 1 b).Idx → α) (h : (sh2 1 b).Broadcasts (sh2 a b)) (i : Fin a) (j : Fin b) :
    broadcastTo (sh2 a b) x h (ix2 i j) = x (ix2 0 j) := by
  rw [ix2_eq_valueIdx, ix2_eq_valueIdx]; exact ValueIdx.broadcastTo_1b_ab_apply ..

/-- A plain product onto a zero accumulator. -/
theorem mm_at {M K N : ℕ} (l : FVec Ideal (sh2 M K) .bf16) (r : FVec Ideal (sh2 K N) .bf16) (i : Fin M) (j : Fin N) :
    matmul (DotDims.plain M K N) none l r (constant (sh2 M N) .f32 0x00000000#32) (ix2 i j) = ∑ k, l (ix2 i k) * r (ix2 k j) := by
  simp only [ix2_eq_valueIdx]
  refine (Ideal.matmul_plain_apply none l r _ i j).trans ((congrArg (· + _) ?_).trans (zero_add _))
  rw [← ix2_eq_valueIdx]
  pointwise []

/-- The weights of a column. -/
theorem weights_at (w : ℕ) (m s : Vec Ideal (sh3 1 1 w) .f32) (x : Vec Ideal (sh3 1 256 w) .f32) (k : Fin 256) (c : Fin w) :
    weights w m s x (ix3 0 k c) = Ideal.exp2 (x (ix3 0 k c) - max (m (ix3 0 0 c)) (s (ix3 0 0 c))) := by
  unfold weights newMax
  rw [add_at]
  show Ideal.exp2 (_ - _) = _
  rw [drop_at, spread_at]
  show Ideal.exp2 (_ - max _ _) = _
  rw [drop_at, drop_at]

/-- A column's rescaling. -/
theorem rescale_at (w : ℕ) (m s : Vec Ideal (sh3 1 1 w) .f32) (c : Fin w) :
    rescale w m s (ix3 0 0 c) = Ideal.exp2 (m (ix3 0 0 c) - max (m (ix3 0 0 c)) (s (ix3 0 0 c))) := by
  pointwise [rescale, newMax]
  rfl

/-- A column's maximum. -/
theorem storedMax_at (w : ℕ) (m s : Vec Ideal (sh3 1 1 w) .f32) (c : Fin w) :
    storedMax w m s (ix3 0 0 c) = max (m (ix3 0 0 c)) (s (ix3 0 0 c)) := by
  pointwise [storedMax, newMax]

/-- The values, and ones below them. -/
theorem extended_at (h : ℕ) (hh : h < 2) (v : Vec Ideal (sh4 1 1 128 256) .bf16) (r : Fin 80) (k : Fin 256) :
    extended h hh v (ix2 r k) = if hr : r.val < 64 then v (ix4 0 0 ⟨64 * h + r.val, by omega⟩ k) else 1 := by
  pointwise [extended, ones]

/-- The weighted sums of a column. -/
theorem sums_at (w h : ℕ) (hh : h < 2) (v : Vec Ideal (sh4 1 1 128 256) .bf16) (al : Vec Ideal (sh3 1 1 w) .f32)
    (ac : Vec Ideal (sh3 1 80 w) .f32) (pw : Vec Ideal (sh3 1 256 w) .bf16) (r : Fin 80) (c : Fin w) :
    sums w h hh v al ac pw (ix3 0 r c) = al (ix3 0 0 c) * ac (ix3 0 r c) + ∑ k, extended h hh v (ix2 r k) * pw (ix3 0 k c) := by
  unfold sums
  rw [add_at]
  show _ * _ + _ = _
  rw [mm_at, spread_at, drop_at, drop_at]
  simp only [drop_at]

/-- The bits of minus infinity. -/
theorem bottom : Ideal.ofBits .f32 0xFF800000#32 = ⊥ := by
  simp [Ideal.ofBits, Ideal.ieee]

/-- A column's largest score. -/
theorem tops_at (w : ℕ) (x : FVec Ideal (sh2 256 w) .f32) (c : Fin w) :
    tops w x (ix3 0 0 c) = Finset.univ.sup fun k => x (ix2 k c) := by
  unfold tops
  rw [add_at, row_at]
  pointwise []
  exact congrArg (fun z => Finset.univ.fold max z fun k => x (ix2 k c)) bottom

/-- A block of the result: the sums over the sum of the weights. -/
theorem piece_at (u : ℕ) (hu : u < 16) (ac : Vec Ideal (sh3 1 80 4096) .f32) (r : Fin 64) (c : Fin 256) :
    piece u hu ac (ix3 0 r c) = Ideal.div (ac (ix3 0 ⟨r.val, by omega⟩ ⟨256 * u + c.val, by omega⟩))
      (ac (ix3 0 64 ⟨256 * u + c.val, by omega⟩)) := by
  pointwise [piece, quotient]

/-- The scores of a column. -/
theorem scores_at (n h : ℕ) (hh : h < 2) (k : Vec Ideal (sh3 1 256 256) .bf16)
    (f : Fin n → Vec Ideal (sh3 1 128 256) .bf16) (r : Fin 256) (c : Fin (256 * n)) :
    scores n h hh k f (ix2 r c) = ∑ d : Fin 128, k (ix3 0 r ⟨128 * h + d.val, by omega⟩) * joined n f (ix2 d c) := by
  unfold scores
  rw [mm_at]
  refine Finset.sum_congr rfl fun d _ => congrArg (· * _) ?_
  pointwise []

/-- Overlaying a slab. -/
theorem overlay_slab {α : Type} {R h o w : ℕ} (hh : h < 2) (ho : o + w ≤ 4096) (X : (sh3 2 R 4096).Idx → α)
    (Y : (sh3 1 R w).Idx → α) (g : Fin 2) (r : Fin R) (c : Fin 4096) :
    (slab R h o w hh ho).overlay X Y (ix3 g r c)
      = if hc : g.val = h ∧ o ≤ c.val ∧ c.val < o + w then Y (ix3 0 r ⟨c.val - o, by omega⟩) else X (ix3 g r c) := by
  split_ifs with hc
  · have : ix3 g r c = (slab R h o w hh ho).emb (ix3 0 r ⟨c.val - o, by omega⟩) := by
      funext a; apply Fin.ext
      fin_cases a
      · show g.val = h + 1 * 0; omega
      · show r.val = 0 + 1 * r.val; omega
      · show c.val = o + 1 * (c.val - o); omega
    rw [this, Rect.overlay_emb]
  · refine Rect.overlay_of_not_mem _ _ _ fun hm => hc ?_
    have h0 := Rect.mem_set_unit.1 hm 0
    have h2 := Rect.mem_set_unit.1 hm 2
    change h ≤ g.val ∧ g.val < h + 1 at h0
    change o ≤ c.val ∧ c.val < o + w at h2
    omega

/-- Reading a slab. -/
theorem get_slab {α : Type} {R h o w : ℕ} (hh : h < 2) (ho : o + w ≤ 4096) (X : (sh3 2 R 4096).Idx → α)
    (r : Fin R) (c : Fin w) :
    get (slab R h o w hh ho) X (ix3 0 r c) = X (ix3 ⟨h, hh⟩ r ⟨o + c.val, by omega⟩) := by
  refine congrArg X (funext fun a => Fin.ext ?_)
  fin_cases a
  · show h + 1 * 0 = h; omega
  · show 0 + 1 * r.val = r.val; omega
  · show o + 1 * c.val = o + c.val; omega

/-- A block of queries in its list. -/
theorem blocks_get : (n : ℕ) → (f : Fin n → Vec Ideal (sh3 1 128 256) .bf16) → (u : ℕ) → (hu : u < n) →
    (blocks n f)[u]'(by rw [blocks_length]; exact hu) = ⟨sh2 128 256, shapeCast (sh2 128 256) (f ⟨u, hu⟩) (casts_drop 128 256)⟩
  | n + 1, f, 0, hu => rfl
  | n + 1, f, u + 1, hu => blocks_get n (fun v => f v.succ) u (by omega)

/-- The blocks of queries side by side, read at a column. -/
theorem joined_at (n : ℕ) (f : Fin n → Vec Ideal (sh3 1 128 256) .bf16) (d : Fin 128) (c : Fin (256 * n)) :
    joined n f (ix2 d c) = f ⟨c.val / 256, by omega⟩ (ix3 0 d ⟨c.val % 256, by omega⟩) := by
  match n with
  | 0 => exact absurd c.isLt (by simp)
  | 1 =>
    show shapeCast (sh2 128 (256 * 1)) (f 0) _ (ix2 d c) = _
    rw [drop_at]
    have h0 : (⟨c.val / 256, by omega⟩ : Fin 1) = 0 := by omega
    have h1 : (⟨c.val % 256, by omega⟩ : Fin 256) = c := by apply Fin.ext; show c.val % 256 = c.val; omega
    rw [h0, h1]
  | n + 2 =>
    unfold joined
    refine (concatenate_apply_piece (t := sh2 128 (256 * (n + 2))) 1 (blocks (n + 2) f) _ (ix2 d c) (c.val / 256)
      (by rw [blocks_length]; omega) (sh2 128 256)
      (shapeCast (sh2 128 256) (f ⟨c.val / 256, by omega⟩) (casts_drop 128 256)) (blocks_get _ f _ (by omega)) rfl
      (256 * (c.val / 256)) ?_ (ix2 d ⟨c.val % 256, by omega⟩) ?_ ?_).trans (drop_at ..)
    · rw [List.map_take, blocks_shape, List.take_replicate]
      simp
      omega
    · intro b hb
      fin_cases b
      · rfl
      · exact absurd rfl hb
    · show 256 * (c.val / 256) + c.val % 256 = c.val
      omega

/-- The masked scores of a column. -/
theorem masked_at (msk : Ideal .f32) (n h : ℕ) (hh : h < 2) (hn : 256 * n ≤ 4096) (row : IVec (sh2 1 (256 * n)) 32)
    (k : Vec Ideal (sh3 1 256 256) .bf16) (f : Fin n → Vec Ideal (sh3 1 128 256) .bf16) (r : Fin 256) (c : Fin (256 * n))
    (hrow : row (ix2 0 c) = BitVec.ofNat 32 c.val) :
    masked msk n h hh row k f (ix2 r c) = if r.val ≤ c.val then scores n h hh k f (ix2 r c) else msk := by
  show Scalar.select (IntOp.cmpi .sle (iota .tc (sh2 256 (256 * n)) 32 [0] (iota_rows _ _) (ix2 r c))
    (broadcastTo (sh2 256 (256 * n)) row (bc_row _ _) (ix2 r c))) (scores n h hh k f (ix2 r c)) msk = _
  rw [spread_at, hrow, show iota .tc (sh2 256 (256 * n)) 32 [0] (iota_rows _ _) (ix2 r c) = BitVec.ofNat 32 r.val from by
    pointwise [], cmpi_sle_ofNat (by omega) (by omega)]
  unfold Scalar.select
  by_cases hrc : r.val ≤ c.val <;> simp [hrc]

/-- The scores a stage stores, at a column. -/
theorem scoresOf_at (own : Meets) (msk : Ideal .f32) (n h : ℕ) (hh : h < 2) (hn : 256 * n ≤ 4096)
    (k : Vec Ideal (sh3 1 256 256) .bf16) (f : Fin n → Vec Ideal (sh3 1 128 256) .bf16) (r : Fin 256) (c : Fin (256 * n)) :
    scoresOf own msk n h hh hn k f (ix2 r c)
      = if own = .before ∨ r.val ≤ c.val then
          ∑ d : Fin 128, k (ix3 0 r ⟨128 * h + d.val, by omega⟩) * f ⟨c.val / 256, by omega⟩ (ix3 0 d ⟨c.val % 256, by omega⟩)
        else msk := by
  have hs := (scores_at n h hh k f r c).trans (Finset.sum_congr rfl fun d _ => congrArg (k (ix3 0 r ⟨128 * h + d.val, by omega⟩) * ·) (joined_at n f d c))
  rw [← hs]
  match own with
  | .before => simp [scoresOf]
  | .within =>
    refine (masked_at msk n h hh hn _ k f r c ?_).trans (by simp)
    pointwise []
  | .first =>
    refine (masked_at msk n h hh hn _ k f r c ?_).trans (by simp)
    pointwise []

/-- The blocks of queries read from block `u` on. -/
theorem qsAt_at (I : Ins Ideal) (h : ℕ) (hh : h < 2) : (n u : ℕ) → (hu : u + n ≤ 16) → (j : Fin n) → (d : Fin 128) → (c : Fin 256) →
    qsAt I h hh n u hu j (ix3 0 d c) = I.q (ix3 ⟨u + j.val, by omega⟩ ⟨128 * h + d.val, by omega⟩ c)
  | n + 1, u, hu, ⟨0, _⟩, d, c => by
    refine congrArg I.q (funext fun a => Fin.ext ?_)
    fin_cases a
    · show u + 1 * 0 = u + 0; omega
    · show 128 * h + 1 * d.val = 128 * h + d.val; omega
    · show 0 + 1 * c.val = c.val; omega
  | n + 1, u, hu, ⟨j + 1, hj⟩, d, c => by
    refine (qsAt_at I h hh n (u + 1) (by omega) ⟨j, by omega⟩ d c).trans ?_
    congr 2
    apply Fin.ext; show u + 1 + j = u + (j + 1); omega

/-! ### One column of one head -/

/-- What the working buffers hold of one column of one head. -/
structure Col where
  s : Fin 256 → EReal
  t : EReal
  p : Fin 256 → EReal
  a : EReal
  m : EReal
  c : Fin 80 → EReal

/-- A column of the buffers. -/
def col (S : St Ideal) (g : Fin 2) (c : Fin 4096) : Col :=
  ⟨fun k => S.s (ix3 g k c), S.t (ix3 g 0 c), fun k => S.p (ix3 g k c), S.a (ix3 g 0 c), S.m (ix3 g 0 c),
    fun r => S.c (ix3 g r c)⟩

/-- A softmax stage on a column. -/
def softC (x : Col) : Col :=
  { x with p := fun k => Ideal.exp2 (x.s k - max x.m x.t), a := Ideal.exp2 (x.m - max x.m x.t), m := max x.m x.t }

/-- An accumulation on a column, over values `v`. -/
def accC (v : Fin 80 → Fin 256 → EReal) (x : Col) : Col :=
  { x with c := fun r => x.a * x.c r + ∑ k, v r k * x.p k }

/-- A score stage on a column: the scores and their largest. -/
def qkC (s : Fin 256 → EReal) (x : Col) : Col := { x with s := s, t := Finset.univ.sup s }

/-- One head's softmax stage, column by column. -/
theorem col_softHead (h o w : ℕ) (hh : h < 2) (ho : o + w ≤ 4096) (S : St Ideal) (g : Fin 2) (c : Fin 4096) :
    col (softHeadF h o w hh ho S) g c
      = if g.val = h ∧ o ≤ c.val ∧ c.val < o + w then softC (col S g c) else col S g c := by
  unfold col softHeadF softC
  simp only [overlay_slab]
  split_ifs with hc
  · have hg : (⟨h, hh⟩ : Fin 2) = g := Fin.ext hc.1.symm
    have hcc : ∀ hx, (⟨o + (c.val - o), hx⟩ : Fin 4096) = c := fun _ => Fin.ext (by show o + (c.val - o) = c.val; omega)
    have e1 : ∀ {R : ℕ} (X : (sh3 2 R 4096).Idx → EReal) (r : Fin R) hx,
        get (slab R h o w hh ho) X (ix3 0 r ⟨c.val - o, hx⟩) = X (ix3 g r c) := fun X r hx => by
      rw [get_slab, hg, hcc]
    simp only [weights_at, rescale_at, storedMax_at]
    congr 1
    · funext k
      rw [e1, e1, e1]
    · rw [e1, e1]
    · rw [e1, e1]
  · rfl

/-- The softmax stage, column by column. -/
theorem col_soft (o w : ℕ) (ho : o + w ≤ 4096) (S : St Ideal) (g : Fin 2) (c : Fin 4096) :
    col (softF o w ho S) g c = if o ≤ c.val ∧ c.val < o + w then softC (col S g c) else col S g c := by
  unfold softF
  rw [col_softHead, col_softHead]
  fin_cases g <;> simp

/-- A block of values over ones. -/
def vrow (v : Vec Ideal (sh4 1 1 128 256) .bf16) (g : Fin 2) (r : Fin 80) (k : Fin 256) : EReal :=
  if hr : r.val < 64 then v (ix4 0 0 ⟨64 * g.val + r.val, by omega⟩ k) else 1

/-- One head's accumulation, column by column. -/
theorem col_accHead (h o w : ℕ) (hh : h < 2) (ho : o + w ≤ 4096) (v : Vec Ideal (sh4 1 1 128 256) .bf16)
    (S : St Ideal) (g : Fin 2) (c : Fin 4096) :
    col (accHeadF h o w hh ho v S) g c
      = if g.val = h ∧ o ≤ c.val ∧ c.val < o + w then accC (vrow v g) (col S g c) else col S g c := by
  unfold col accHeadF accC
  simp only [overlay_slab]
  split_ifs with hc
  · have hg : (⟨h, hh⟩ : Fin 2) = g := Fin.ext hc.1.symm
    have hcc : ∀ hx, (⟨o + (c.val - o), hx⟩ : Fin 4096) = c := fun _ => Fin.ext (by show o + (c.val - o) = c.val; omega)
    obtain ⟨rfl, -⟩ := hc
    have e1 : ∀ {R : ℕ} (X : (sh3 2 R 4096).Idx → EReal) (r : Fin R) hx,
        get (slab R g.val o w hh ho) X (ix3 0 r ⟨c.val - o, hx⟩) = X (ix3 g r c) := fun X r hx => by
      rw [get_slab, hg, hcc]
    congr 1
    funext r
    rw [sums_at, e1, e1]
    congr 1
    refine Finset.sum_congr rfl fun k _ => ?_
    rw [extended_at, e1]
    rfl
  · rfl

/-- The accumulation, column by column. -/
theorem col_acc (I : Ins Ideal) (o w : ℕ) (ho : o + w ≤ 4096) (j : VOff) (S : St Ideal) (g : Fin 2) (c : Fin 4096) :
    col (accF I o w ho j S) g c
      = if o ≤ c.val ∧ c.val < o + w then accC (vrow (vAt I j) g) (col S g c) else col S g c := by
  unfold accF
  rw [col_accHead, col_accHead]
  fin_cases g <;> simp

/-- The scores of a block of keys against a column's query. -/
def srow (I : Ins Ideal) (own : Meets) (msk : EReal) (u : ℕ) (kb : Vec Ideal (sh3 1 256 256) .bf16) (g : Fin 2) (c : Fin 4096)
    (k : Fin 256) : EReal :=
  if own = .before ∨ k.val ≤ c.val - 256 * u then
    ∑ d : Fin 128, kb (ix3 0 k ⟨128 * g.val + d.val, by omega⟩)
      * I.q (ix3 ⟨c.val / 256, by omega⟩ ⟨128 * g.val + d.val, by omega⟩ ⟨c.val % 256, by omega⟩)
  else msk

/-- One head's score stage, column by column. -/
theorem col_qkHead (I : Ins Ideal) (own : Meets) (msk : EReal) (h n u : ℕ) (hh : h < 2) (hu : u + n = 16)
    (kb : Vec Ideal (sh3 1 256 256) .bf16) (S : St Ideal) (g : Fin 2) (c : Fin 4096) :
    col (qkHeadF I own msk h n u hh hu kb S) g c
      = if g.val = h ∧ 256 * u ≤ c.val then qkC (srow I own msk u kb g c) (col S g c) else col S g c := by
  unfold col qkHeadF qkC
  simp only [overlay_slab]
  by_cases hc : g.val = h ∧ 256 * u ≤ c.val
  · have hc' : g.val = h ∧ 256 * u ≤ c.val ∧ c.val < 256 * u + 256 * n := by omega
    have hs : ∀ (k : Fin 256) hx, scoresOf own msk n h hh (by omega) kb (qsAt I h hh n u hu.le) (ix2 k ⟨c.val - 256 * u, hx⟩)
        = srow I own msk u kb g c k := fun k hx => by
      rw [scoresOf_at]
      unfold srow
      obtain ⟨rfl, -⟩ := hc
      refine if_congr Iff.rfl (Finset.sum_congr rfl fun d _ => congrArg (_ * ·) ?_) rfl
      rw [qsAt_at]
      congr 2
      · apply Fin.ext; show u + (c.val - 256 * u) / 256 = c.val / 256; omega
      · apply Fin.ext; show (c.val - 256 * u) % 256 = c.val % 256; omega
    simp only [hc, hc', true_and, and_self, dite_true, if_true, add_at, tops_at, hs]
  · have hc' : ¬ (g.val = h ∧ 256 * u ≤ c.val ∧ c.val < 256 * u + 256 * n) := by omega
    simp only [hc, hc', dite_false, if_false]

/-- The score stage, column by column. -/
theorem col_qk (I : Ins Ideal) (own : Meets) (msk : EReal) (n u : ℕ) (hu : u + n = 16) (j : KOff) (S : St Ideal) (g : Fin 2)
    (c : Fin 4096) :
    col (qkF I own msk n u hu j S) g c
      = if 256 * u ≤ c.val then qkC (srow I own msk u (kAt I j) g c) (col S g c) else col S g c := by
  unfold qkF
  rw [col_qkHead, col_qkHead]
  fin_cases g <;> simp

end Cert.Mla
-- ==== Proof.AttnMath.lean ====
module

public import Idealize.ShloMosaic.PureOps.Ideal
public import Idealize.ShloMosaic.Lib.Pipeline.ValueKit

@[expose] public section

/-! The running softmax, as mathematics: a column's sums kept against a running maximum are, after
all its blocks, its sums against the maximum of all its scores. -/

noncomputable section

namespace Cert.Mla

open Idealize.ShloMosaic

/-- Powers of two of differences multiply. -/
theorem exp2_mul {s M M' : EReal} (h : s ≤ M) (h' : M ≤ M') (ht : M' ≠ ⊤) :
    Ideal.exp2 (M - M') * Ideal.exp2 (s - M) = Ideal.exp2 (s - M') := by
  induction M' with
  | top => exact absurd rfl ht
  | bot =>
    obtain rfl := le_bot_iff.1 h'
    obtain rfl := le_bot_iff.1 h
    simp
  | coe M' =>
    induction M with
    | top => exact absurd (top_le_iff.1 h') (by simp)
    | bot =>
      obtain rfl := le_bot_iff.1 h
      simp
    | coe M =>
      induction s with
      | top => exact absurd (top_le_iff.1 h) (by simp)
      | bot => simp
      | coe s =>
        rw [← EReal.coe_sub, ← EReal.coe_sub, ← EReal.coe_sub, Ideal.exp2_coe, Ideal.exp2_coe, Ideal.exp2_coe,
          ← EReal.coe_mul]
        congr 1
        show (2 : ℝ) ^ (M - M') * (2 : ℝ) ^ (s - M) = (2 : ℝ) ^ (s - M')
        rw [← Real.rpow_add (by norm_num)]
        congr 1
        ring

/-- A power of two of a difference that is no positive infinity is a nonnegative real. -/
theorem exp2_real {x : EReal} (h : x ≠ ⊤) : ∃ r : ℝ, 0 ≤ r ∧ Ideal.exp2 x = r := by
  induction x with
  | top => exact absurd rfl h
  | bot => exact ⟨0, le_rfl, by simp⟩
  | coe x => exact ⟨_, Real.rpow_nonneg (by norm_num) _, Ideal.exp2_coe x⟩

/-- Taking away a larger number that is not the top does not give the top. -/
theorem sub_ne_top {M M' : EReal} (h : M ≤ M') (ht : M' ≠ ⊤) : M - M' ≠ ⊤ := by
  induction M' with
  | top => exact absurd rfl ht
  | bot => obtain rfl := le_bot_iff.1 h; simp
  | coe M' =>
    induction M with
    | top => exact absurd (top_le_iff.1 h) (by simp)
    | bot => simp
    | coe M => rw [← EReal.coe_sub]; exact EReal.coe_ne_top _

/-- A nonnegative real times a sum. -/
theorem real_mul_sum {ι : Type} (A : Finset ι) (f : ι → EReal) {r : ℝ} (hr : 0 ≤ r) :
    (r : EReal) * ∑ i ∈ A, f i = ∑ i ∈ A, (r : EReal) * f i := by
  classical
  induction A using Finset.induction_on with
  | empty => simp
  | insert a A ha ih =>
    rw [Finset.sum_insert ha, Finset.sum_insert ha, ← ih,
      EReal.left_distrib_of_nonneg_of_ne_top (by exact_mod_cast hr) (EReal.coe_ne_top _)]

section Running

variable (sc : ℕ → Fin 256 → EReal) (V : ℕ → Fin 80 → Fin 256 → EReal)

/-- The largest score of the first `t` blocks. -/
def Mx : ℕ → EReal
  | 0 => ⊥
  | t + 1 => max (Mx t) (Finset.univ.sup (sc t))

/-- The sums of the first `t` blocks, as they are kept. -/
def Acc : ℕ → Fin 80 → EReal
  | 0, _ => 0
  | t + 1, r => Ideal.exp2 (Mx sc t - Mx sc (t + 1)) * Acc t r
      + ∑ k, V t r k * Ideal.exp2 (sc t k - Mx sc (t + 1))

/-- A score is no larger than the maximum kept after its block. -/
theorem le_Mx (t : ℕ) (k : Fin 256) : sc t k ≤ Mx sc (t + 1) :=
  le_max_of_le_right (Finset.le_sup (f := sc t) (Finset.mem_univ k))

/-- The kept maximum only grows. -/
theorem Mx_mono {t u : ℕ} (h : t ≤ u) : Mx sc t ≤ Mx sc u := by
  induction h with
  | refl => exact le_rfl
  | step _ ih => exact ih.trans (le_max_left _ _)

/-- The kept maximum is the least bound of the scores met. -/
theorem Mx_le (T : ℕ) (X : EReal) : Mx sc T ≤ X ↔ ∀ t < T, ∀ k, sc t k ≤ X := by
  induction T with
  | zero => simp [Mx]
  | succ T ih =>
    rw [Mx, max_le_iff, ih, Finset.sup_le_iff]
    constructor
    · rintro ⟨h, h'⟩ t ht k
      rcases Nat.lt_succ_iff_lt_or_eq.1 ht with h1 | rfl
      · exact h t h1 k
      · exact h' k (Finset.mem_univ k)
    · exact fun h => ⟨fun t ht => h t (by omega), fun k _ => h T (by omega) k⟩

/-- Without a top score the kept maximum is not the top. -/
theorem Mx_ne_top (h : ∀ t k, sc t k ≠ ⊤) (T : ℕ) : Mx sc T ≠ ⊤ := by
  induction T with
  | zero => simp [Mx]
  | succ T ih =>
    rw [Mx]
    have : Finset.univ.sup (sc T) < ⊤ := by
      rw [Finset.sup_lt_iff (by simp)]
      exact fun k _ => lt_top_iff_ne_top.2 (h T k)
    exact (max_lt (lt_top_iff_ne_top.2 ih) this).ne

/-- The kept sums are the sums against the maximum. -/
theorem Acc_eq (h : ∀ t k, sc t k ≠ ⊤) (T : ℕ) (r : Fin 80) :
    Acc sc V T r = ∑ t ∈ Finset.range T, ∑ k, V t r k * Ideal.exp2 (sc t k - Mx sc T) := by
  induction T with
  | zero => simp [Acc]
  | succ T ih =>
    rw [Acc, ih, Finset.sum_range_succ]
    congr 1
    have hM := Mx_mono sc (Nat.le_succ T)
    have ht := Mx_ne_top sc h (T + 1)
    obtain ⟨q, hq, e⟩ := exp2_real (sub_ne_top hM ht)
    rw [e, real_mul_sum _ _ hq]
    refine Finset.sum_congr rfl fun t ht' => ?_
    rw [real_mul_sum _ _ hq]
    refine Finset.sum_congr rfl fun k _ => ?_
    rw [mul_left_comm, ← e, exp2_mul ((le_Mx sc t k).trans (Mx_mono sc (by have := Finset.mem_range.1 ht'; omega))) hM ht]

/-- Before a column's first block its maximum is the bottom. -/
theorem Mx_bot {t₀ : ℕ} (h : ∀ t < t₀, ∀ k, sc t k = ⊥) {t : ℕ} (ht : t ≤ t₀) : Mx sc t = ⊥ :=
  le_bot_iff.1 ((Mx_le sc t ⊥).2 fun u hu k => (h u (by omega) k).le)

/-- Before a column's first block its sums are zero. -/
theorem Acc_zero {t₀ : ℕ} (h : ∀ t < t₀, ∀ k, sc t k = ⊥) (r : Fin 80) : {t : ℕ} → t ≤ t₀ → Acc sc V t r = 0
  | 0, _ => rfl
  | t + 1, ht => by
    rw [Acc, Acc_zero h r (by omega : t ≤ t₀), mul_zero, zero_add]
    refine Finset.sum_eq_zero fun k _ => ?_
    rw [h t (by omega) k]
    simp

end Running

end Cert.Mla
-- ==== Proof.AttnBlock.lean ====
module

public import proofs.«01_k».proof.Proof.AttnCols
public import proofs.«01_k».proof.Proof.AttnMath

@[expose] public section

/-! What the attention's body leaves in one column of its result: the column's sums over all its
blocks of keys, divided by the sum of its weights. -/

noncomputable section

namespace Cert.Mla

open Idealize.ShloMosaic Idealize.SL.Sem

/-- The first columns of a buffer overlaid. -/
theorem overlay_front {α : Type} {R w : ℕ} (hw : w ≤ 4096) (X : (sh3 2 R 4096).Idx → α)
    (Y : (sh3 2 R w).Idx → α) (g : Fin 2) (r : Fin R) (c : Fin 4096) :
    (front R w hw).overlay X Y (ix3 g r c) = if hc : c.val < w then Y (ix3 g r ⟨c.val, hc⟩) else X (ix3 g r c) := by
  split_ifs with hc
  · have : ix3 g r c = (front R w hw).emb (ix3 g r ⟨c.val, hc⟩) := by
      funext a; apply Fin.ext
      fin_cases a
      · show g.val = 0 + 1 * g.val; omega
      · show r.val = 0 + 1 * r.val; omega
      · show c.val = 0 + 1 * c.val; omega
    rw [this]
    exact Rect.overlay_emb ..
  · apply Rect.overlay_of_not_mem
    rw [Rect.mem_set_unit]
    intro h
    have := h 2
    simp at this
    omega

/-- The first contents, at a column. -/
theorem col_start (msk : EReal) (S : St Ideal) (g : Fin 2) (c : Fin 4096) :
    (col (startF msk S) g c).m = msk ∧ (∀ r, (col (startF msk S) g c).c r = 0)
      ∧ (c.val < 256 → (∀ k, (col (startF msk S) g c).p k = 0) ∧ (col (startF msk S) g c).a = 1) := by
  have h0 : (Scalar.ofBits .f32 0x00000000#32 : Ideal .f32) = 0 := by simp [Scalar.ofBits]
  have h1 : (Scalar.ofBits .bf16 0x0000#16 : Ideal .bf16) = 0 := by simp [Scalar.ofBits]
  have h2 : (Scalar.ofBits .f32 0x3F800000#32 : Ideal .f32) = 1 := by simp [Scalar.ofBits]
  refine ⟨?_, fun r => ?_, fun hc => ⟨fun k => ?_, ?_⟩⟩
  · exact (overlay_front le_rfl _ _ g 0 c).trans (by rw [dif_pos c.2]; rfl)
  · exact (overlay_front le_rfl _ _ g r c).trans (by rw [dif_pos c.2]; exact h0)
  · exact (overlay_front (by decide) _ _ g k c).trans (by rw [dif_pos hc]; exact h1)
  · exact (overlay_front (by decide) _ _ g 0 c).trans (by rw [dif_pos hc]; exact h2)

section Column

variable (sc : ℕ → Fin 256 → EReal) (V : ℕ → Fin 80 → Fin 256 → EReal) (t₀ : ℕ)

/-- The sums a column would hold were its last weights added. -/
def pend (v : Fin 80 → Fin 256 → EReal) (x : Col) (r : Fin 80) : EReal := x.a * x.c r + ∑ k, v r k * x.p k

/-- A column whose next scores are not yet made. -/
def Idle (t : ℕ) (x : Col) : Prop :=
  x.m = Mx sc t ∧ (t ≤ t₀ → (∀ r, x.c r = 0) ∧ (t₀ = 15 → (∀ k, x.p k = 0) ∧ x.a = 1))
    ∧ (t₀ < t → ∀ r, pend (V (t - 1)) x r = Acc sc V t r)

/-- A column whose next scores are made. -/
def Ready (t : ℕ) (x : Col) : Prop :=
  x.m = Mx sc t ∧ x.s = sc t ∧ x.t = Finset.univ.sup (sc t) ∧ ∀ r, pend (V (t - 1)) x r = Acc sc V t r

variable {sc V t₀}

/-- A softmax stage on a column whose sums are all added. -/
theorem softC_step {t : ℕ} {x : Col} (hm : x.m = Mx sc t) (hs : x.s = sc t) (ht : x.t = Finset.univ.sup (sc t))
    (hc : ∀ r, x.c r = Acc sc V t r) : (softC x).m = Mx sc (t + 1) ∧ ∀ r, pend (V t) (softC x) r = Acc sc V (t + 1) r := by
  refine ⟨by show max x.m x.t = _; rw [hm, ht]; rfl, fun r => ?_⟩
  show Ideal.exp2 (x.m - max x.m x.t) * x.c r + ∑ k, V t r k * Ideal.exp2 (x.s k - max x.m x.t) = _
  rw [hm, hs, ht, hc]
  rfl

/-- A column that has not met its first block. -/
theorem idle_skip (hb : ∀ t < t₀, ∀ k, sc t k = ⊥) {t : ℕ} {x : Col} (h : Idle sc V t₀ t x) (ht : t < t₀) :
    Idle sc V t₀ (t + 1) x :=
  ⟨by rw [h.1, Mx_bot sc hb ht.le, Mx_bot sc hb (by omega)], fun _ => h.2.1 ht.le, fun h' => by omega⟩

/-- A column meeting its first block. -/
theorem idle_first (hb : ∀ t < t₀, ∀ k, sc t k = ⊥) {t : ℕ} {x : Col} (h : Idle sc V t₀ t x) (ht : t = t₀) :
    Idle sc V t₀ (t + 1) (softC (qkC (sc t) x)) := by
  obtain ⟨h1, h2⟩ := softC_step (V := V) (x := qkC (sc t) x) h.1 rfl rfl
    (fun r => ((h.2.1 ht.le).1 r).trans (Acc_zero sc V hb r ht.le).symm)
  exact ⟨h1, fun h' => by omega, fun _ => h2⟩

/-- A column meeting a later block. -/
theorem idle_step {t : ℕ} {x : Col} (h : Idle sc V t₀ t x) (ht : t₀ < t) :
    Idle sc V t₀ (t + 1) (softC (accC (V (t - 1)) (qkC (sc t) x))) := by
  obtain ⟨h1, h2⟩ := softC_step (V := V) (x := accC (V (t - 1)) (qkC (sc t) x)) h.1 rfl rfl (fun r => h.2.2 ht r)
  exact ⟨h1, fun h' => by omega, fun _ => h2⟩

/-- The scores made. -/
theorem idle_ready (hb : ∀ t < t₀, ∀ k, sc t k = ⊥) (ht : t₀ ≤ 15) {x : Col} (h : Idle sc V t₀ 15 x) :
    Ready sc V 15 (qkC (sc 15) x) := by
  refine ⟨h.1, rfl, rfl, fun r => ?_⟩
  by_cases h' : t₀ < 15
  · exact h.2.2 h' r
  · obtain ⟨hc, hp⟩ := h.2.1 (by omega)
    obtain ⟨hp, ha⟩ := hp (by omega)
    show x.a * x.c r + ∑ k, V 14 r k * x.p k = _
    rw [ha, hc, Acc_zero sc V hb r (by omega : 15 ≤ t₀)]
    simp [hp]

/-- A trip on a column. -/
theorem ready_step {t : ℕ} {x : Col} (h : Ready sc V t x) :
    Ready sc V (t + 1) (qkC (sc (t + 1)) (softC (accC (V (t - 1)) x))) := by
  obtain ⟨h1, h2⟩ := softC_step (V := V) (x := accC (V (t - 1)) x) h.1 h.2.1 h.2.2.1 h.2.2.2
  exact ⟨h1, rfl, rfl, h2⟩

/-- The last sums of a column. -/
theorem ready_last {t : ℕ} {x : Col} (h : Ready sc V t x) (r : Fin 80) :
    (accC (V t) (softC (accC (V (t - 1)) x))).c r = Acc sc V (t + 1) r :=
  (softC_step (V := V) (x := accC (V (t - 1)) x) h.1 h.2.1 h.2.2.1 h.2.2.2).2 r

end Column

section Body

variable {I : Ins Ideal} {O : Offs} {g : Fin 2} {c : Fin 4096} {msk : EReal}

/-- What a column's scores and values are, block by block. -/
structure Reads (I : Ins Ideal) (O : Offs) (g : Fin 2) (c : Fin 4096) (sc : ℕ → Fin 256 → EReal)
    (V : ℕ → Fin 80 → Fin 256 → EReal) : Prop where
  bot : ∀ t, t < 15 - c.val / 256 → ∀ k, sc t k = ⊥
  within : ∀ t, (ht : t < 15) → 15 - c.val / 256 ≤ t →
    srow I .within ⊥ (15 - t) (kAt I (O.k1 ⟨15 - t, by omega⟩)) g c = sc t
  first : srow I .first ⊥ 0 (kAt I (O.k1 0)) g c = sc 15
  before : ∀ j : Fin O.l1.trips, srow I .before ⊥ 0 (kAt I (O.kt j)) g c = sc (16 + j.val)
  near : ∀ t, (ht : t < 14) → vrow (vAt I (O.v1 ⟨13 - t, by omega⟩)) g = V t
  far : ∀ j : Fin O.l1.trips, vrow (vAt I (O.vt j)) g = V (14 + j.val)
  none : O.l2.trips = 0
  last : vrow (vAt I O.v7) g = V (14 + O.l1.trips)
  last' : vrow (vAt I O.v8) g = V (15 + O.l1.trips)

variable {sc : ℕ → Fin 256 → EReal} {V : ℕ → Fin 80 → Fin 256 → EReal} (H : Reads I O g c sc V)
include H

/-- A round on a column. -/
theorem idle_round {n : ℕ} (hn : 0 < n) (hn' : n ≤ 14) {S : St Ideal} (h : Idle sc V (15 - c.val / 256) n (col S g c)) :
    Idle sc V (15 - c.val / 256) (n + 1) (col (roundF I O ⊥ n hn hn' S) g c) := by
  have hb := H.bot
  have hc := c.2
  unfold roundF
  rw [col_soft, col_acc, col_qk]
  have hv : vrow (vAt I (O.v1 ⟨14 - n, by omega⟩)) g = V (n - 1) := by
    have := H.near (n - 1) (by omega)
    rwa [show (⟨13 - (n - 1), by omega⟩ : Fin 14) = ⟨14 - n, by omega⟩ from Fin.ext (by show 13 - (n - 1) = 14 - n; omega)] at this
  rcases Nat.lt_trichotomy n (15 - c.val / 256) with h' | h' | h'
  · rw [if_neg (by omega), if_neg (by omega), if_neg (by omega)]
    exact idle_skip hb h h'
  · rw [if_pos (by omega), if_neg (by omega), if_pos (by omega), H.within n (by omega) (by omega)]
    exact idle_first hb h h'
  · rw [if_pos (by omega), if_pos (by omega), if_pos (by omega), H.within n (by omega) (by omega), hv]
    exact idle_step h h'

/-- The rounds on a column. -/
theorem idle_rounds : (j : ℕ) → (hj : j ≤ 14) → {S : St Ideal} → Idle sc V (15 - c.val / 256) (15 - j) (col S g c) →
    Idle sc V (15 - c.val / 256) 15 (col (roundsF I O ⊥ j hj S) g c)
  | 0, _, _, h => h
  | j + 1, hj, S, h => by
    refine idle_rounds j (by omega) ?_
    have := idle_round H (n := 14 - j) (by omega) (by omega) (S := S) (by rwa [show 14 - j = 15 - (j + 1) by omega])
    rwa [show 14 - j + 1 = 15 - j by omega] at this

/-- What precedes the loops, on a column. -/
theorem ready_opening (S : St Ideal) : Ready sc V 15 (col (openingF I O ⊥ S) g c) := by
  have hb := H.bot
  have hc := c.2
  obtain ⟨hm, hz, hp⟩ := col_start ⊥ S g c
  have h0 : Idle sc V (15 - c.val / 256) 0 (col (startF ⊥ S) g c) :=
    ⟨hm, fun _ => ⟨hz, fun h => hp (by omega)⟩, fun h => by omega⟩
  unfold openingF
  rw [col_qk, if_pos (by omega), H.first]
  refine idle_ready hb (by omega) (idle_rounds H 14 le_rfl ?_)
  rw [col_soft, col_qk]
  by_cases h : 3840 ≤ c.val
  · rw [if_pos (by omega), if_pos (by omega)]
    have := H.within 0 (by omega) (by omega)
    rw [show srow I .within ⊥ 15 (kAt I (O.k1 15)) g c = sc 0 from this]
    exact idle_first hb h0 (by omega)
  · rw [if_neg (by omega), if_neg (by omega)]
    exact idle_skip hb h0 (by omega)

/-- The trips on a column. -/
theorem ready_trips {S : St Ideal} (h : Ready sc V 15 (col S g c)) : (j : ℕ) → j ≤ O.l1.trips →
    Ready sc V (15 + j) (col (tripsF I ⊥ O.kt O.vt j S) g c)
  | 0, _ => h
  | j + 1, hj => by
    have hc := c.2
    have ih := ready_trips h j (by omega)
    unfold tripsF
    rw [dif_pos (by omega)]
    unfold tripF
    rw [col_qk, if_pos (by omega), col_soft, if_pos (by omega), col_acc, if_pos (by omega), H.before, H.far]
    have := ready_step ih
    rw [show 15 + j - 1 = 14 + j by omega, show 15 + j + 1 = 16 + j by omega] at this
    rw [show 15 + (j + 1) = 16 + j by omega]
    exact this

/-- What the write-out reads, on a column. -/
theorem last_col (S : St Ideal) (r : Fin 80) :
    (col (accF I 0 4096 le_rfl O.v8 <| softF 0 4096 le_rfl <| accF I 0 4096 le_rfl O.v7 <|
      tripsF I ⊥ O.kt2 O.vt2 O.l2.trips <| tripsF I ⊥ O.kt O.vt O.l1.trips <| openingF I O ⊥ S) g c).c r
      = Acc sc V (16 + O.l1.trips) r := by
  have hc := c.2
  have h := ready_trips H (ready_opening H S) O.l1.trips le_rfl
  have e2 : ∀ X, tripsF I ⊥ O.kt2 O.vt2 O.l2.trips X = X := fun X => by
    generalize O.kt2 = kt, O.vt2 = vt
    revert kt vt
    rw [H.none]
    exact fun _ _ => rfl
  rw [e2]
  rw [col_acc, if_pos (by omega), col_soft, if_pos (by omega), col_acc, if_pos (by omega), H.last, H.last']
  have := ready_last h r
  rwa [show 15 + O.l1.trips - 1 = 14 + O.l1.trips by omega, show 15 + O.l1.trips + 1 = 16 + O.l1.trips by omega] at this

end Body

/-! ### The write-out -/

/-- A block of a head's result overlaid. -/
theorem overlay_orect {α : Type} {u h : ℕ} (hu : u < 16) (hh : h < 2) (X : (sh3 16 128 256).Idx → α)
    (Y : (sh3 1 64 256).Idx → α) (v : Fin 16) (r : Fin 128) (c : Fin 256) :
    (orect u h hu hh).overlay X Y (ix3 v r c)
      = if hc : v.val = u ∧ 64 * h ≤ r.val ∧ r.val < 64 * h + 64 then Y (ix3 0 ⟨r.val - 64 * h, by omega⟩ c)
        else X (ix3 v r c) := by
  split_ifs with hc
  · have : ix3 v r c = (orect u h hu hh).emb (ix3 0 ⟨r.val - 64 * h, by omega⟩ c) := by
      funext a; apply Fin.ext
      fin_cases a
      · show v.val = u + 1 * 0; omega
      · show r.val = 64 * h + 1 * (r.val - 64 * h); omega
      · show c.val = 0 + 1 * c.val; omega
    rw [this]
    exact Rect.overlay_emb ..
  · apply Rect.overlay_of_not_mem
    rw [Rect.mem_set_unit]
    intro h3
    have a0 := h3 0
    have a1 := h3 1
    simp at a0 a1
    omega

/-- One head's blocks written. -/
theorem writeHead_at (h : ℕ) (hh : h < 2) (ac : Vec Ideal (sh3 1 80 4096) .f32) : (n u : ℕ) → (hu : u + n = 16) →
    (S : St Ideal) → (v : Fin 16) → (r : Fin 128) → (c : Fin 256) →
    (writeHeadF h hh ac n u hu S).o (ix3 v r c)
      = if hc : u ≤ v.val ∧ 64 * h ≤ r.val ∧ r.val < 64 * h + 64 then
          Ideal.div (ac (ix3 0 ⟨r.val - 64 * h, by omega⟩ ⟨256 * v.val + c.val, by omega⟩))
            (ac (ix3 0 64 ⟨256 * v.val + c.val, by omega⟩))
        else S.o (ix3 v r c)
  | 0, u, hu, S, v, r, c => by rw [dif_neg (by omega)]; rfl
  | n + 1, u, hu, S, v, r, c => by
    unfold writeHeadF
    rw [writeHead_at h hh ac n (u + 1)]
    by_cases h1 : u + 1 ≤ v.val ∧ 64 * h ≤ r.val ∧ r.val < 64 * h + 64
    · rw [dif_pos h1, dif_pos (by omega)]
    · rw [dif_neg h1]
      show (orect u h _ hh).overlay S.o (piece u _ ac) (ix3 v r c) = _
      rw [overlay_orect]
      by_cases h2 : u ≤ v.val ∧ 64 * h ≤ r.val ∧ r.val < 64 * h + 64
      · rw [dif_pos (by omega), dif_pos h2, piece_at]
        have e : v.val = u := by omega
        simp only [e]
      · rw [dif_neg (by omega), dif_neg h2]

/-- A write-out of one head leaves the sums. -/
theorem writeHead_c (h : ℕ) (hh : h < 2) (ac : Vec Ideal (sh3 1 80 4096) .f32) : (n u : ℕ) → (hu : u + n = 16) →
    (S : St Ideal) → (writeHeadF h hh ac n u hu S).c = S.c
  | 0, _, _, _ => rfl
  | n + 1, u, hu, S => by unfold writeHeadF; rw [writeHead_c h hh ac n (u + 1)]

/-- A head's sums read. -/
theorem get_sums (S : St Ideal) (h : ℕ) (hh : h < 2) (r : Fin 80) (x : Fin 4096) :
    get (slab 80 h 0 4096 hh le_rfl) S.c (ix3 0 r x) = S.c (ix3 ⟨h, hh⟩ r x) := by
  rw [get_slab]
  congr 2
  apply Fin.ext; show 0 + x.val = x.val; omega

/-- The result written. -/
theorem write_at (S : St Ideal) (v : Fin 16) (g : Fin 2) (r : Fin 64) (c : Fin 256) :
    (writeF S).o (ix3 v ⟨64 * g.val + r.val, by omega⟩ c)
      = Ideal.div ((col S g ⟨256 * v.val + c.val, by omega⟩).c ⟨r.val, by omega⟩)
          ((col S g ⟨256 * v.val + c.val, by omega⟩).c 64) := by
  unfold writeF col
  simp only []
  rw [writeHead_at, writeHead_c]
  obtain ⟨g, hg⟩ := g
  obtain rfl | rfl : g = 0 ∨ g = 1 := by omega
  · rw [dif_neg (by simp), writeHead_at, dif_pos (by simp), get_sums, get_sums]
    congr 4
    simp
  · rw [dif_pos (by simp; omega), get_sums, get_sums]
    congr 4
    simp

/-- The result of the body: a column's sums over the sum of its weights. -/
theorem body_at {I : Ins Ideal} {O : Offs} {g : Fin 2} {v : Fin 16} {c : Fin 256}
    {sc : ℕ → Fin 256 → EReal} {V : ℕ → Fin 80 → Fin 256 → EReal}
    (H : Reads I O g ⟨256 * v.val + c.val, by omega⟩ sc V) (S : St Ideal) (r : Fin 64) :
    (bodyF I O ⊥ S).o (ix3 v ⟨64 * g.val + r.val, by omega⟩ c)
      = Ideal.div (Acc sc V (16 + O.l1.trips) ⟨r.val, by omega⟩) (Acc sc V (16 + O.l1.trips) 64) := by
  unfold bodyF finishF
  rw [write_at, last_col H, last_col H]

end Cert.Mla
-- ==== Proof.AttnSum.lean ====
module

public import proofs.«01_k».proof.Proof.AttnMath

@[expose] public section

/-! A softmax with scores in base two is the softmax with scores in base e, and a running softmax over
blocks of keys in any order is the softmax over all the keys. -/

noncomputable section

namespace Cert.Mla

open Idealize.ShloMosaic

/-- The sum of the values weighted by powers of two of the scores, over the sum of the weights. -/
def softmax2 {n : ℕ} (g v : Fin n → EReal) : EReal :=
  Ideal.div (∑ x, v x * Ideal.exp2 (g x - Finset.univ.sup g)) (∑ x, 1 * Ideal.exp2 (g x - Finset.univ.sup g))

/-- The scores have a largest one, a real. -/
theorem exists_top {n : ℕ} (g : Fin n → EReal) (ht : ∀ x, g x ≠ ⊤) (hb : ∃ x, g x ≠ ⊥) :
    ∃ (x₀ : Fin n) (G : ℝ), g x₀ = G ∧ (∀ x, g x ≤ g x₀) ∧ Finset.univ.sup g = G := by
  obtain ⟨y, hy⟩ := hb
  obtain ⟨x₀, -, hx₀⟩ := Finset.exists_max_image Finset.univ g ⟨y, Finset.mem_univ y⟩
  have hx : ∀ x, g x ≤ g x₀ := fun x => hx₀ x (Finset.mem_univ x)
  have h1 : g x₀ ≠ ⊥ := fun h => hy (le_bot_iff.1 (h ▸ hx y))
  have h2 : g x₀ = ((g x₀).toReal : ℝ) := (EReal.coe_toReal (ht x₀) h1).symm
  refine ⟨x₀, (g x₀).toReal, h2, hx, ?_⟩
  rw [← h2]
  exact le_antisymm (Finset.sup_le fun x _ => hx x) (Finset.le_sup (f := g) (Finset.mem_univ x₀))

/-- A bounded score times a positive real. -/
theorem mul_le_of_le {a b : EReal} {L : ℝ} (hL : 0 < L) (h : a ≤ b) : a * L ≤ b * L :=
  mul_le_mul_of_nonneg_right h (by exact_mod_cast hL.le)

/-- A power of e of the scaled difference is the power of two of the difference. -/
theorem exp_scaled {x : EReal} (hx : x ≠ ⊤) (G : ℝ) :
    Ideal.exp (x * ((Real.log 2 : ℝ) : EReal) - ((G * Real.log 2 : ℝ) : EReal)) = Ideal.exp2 (x - (G : EReal)) := by
  induction x with
  | top => exact absurd rfl hx
  | bot =>
    rw [EReal.bot_mul_coe_of_pos (Real.log_pos (by norm_num))]
    simp
  | coe x =>
    rw [← EReal.coe_mul, ← EReal.coe_sub, ← EReal.coe_sub, Ideal.exp2_coe]
    show ((Real.exp (x * Real.log 2 - G * Real.log 2) : ℝ) : EReal) = _
    congr 1
    show _ = (2 : ℝ) ^ (x - G)
    rw [Real.rpow_def_of_pos (by norm_num)]
    congr 1
    ring

/-- A sum of nonnegative reals. -/
theorem sum_real {ι : Type} (A : Finset ι) (f : ι → EReal) (h : ∀ i, ∃ r : ℝ, 0 ≤ r ∧ f i = r) :
    ∃ r : ℝ, 0 ≤ r ∧ ∑ i ∈ A, f i = r ∧ ∀ i ∈ A, f i ≤ r := by
  choose F h0 hF using h
  refine ⟨∑ i ∈ A, F i, Finset.sum_nonneg fun i _ => h0 i, ?_, fun i hi => ?_⟩
  · rw [Finset.sum_congr rfl fun i _ => hF i]
    exact (map_sum (⟨⟨Real.toEReal, rfl⟩, EReal.coe_add⟩ : ℝ →+ EReal) F A).symm
  · rw [hF]
    exact_mod_cast Finset.single_le_sum (fun i _ => h0 i) hi

/-- The softmax in base e, its scores scaled, is the softmax in base two. -/
theorem softmax_base {n : ℕ} (g v : Fin n → EReal) (ht : ∀ x, g x ≠ ⊤) (hb : ∃ x, g x ≠ ⊥) (s e : Fin n → EReal)
    (hs : ∀ x, s x = g x * ((Real.log 2 : ℝ) : EReal)) (he : ∀ x, e x = Ideal.exp (s x - Finset.univ.sup s)) :
    ∑ x, Ideal.div (e x) (∑ x, e x) * v x = softmax2 g v := by
  obtain ⟨x₀, G, hx₀, hle, hG⟩ := exists_top g ht hb
  have hL : 0 < Real.log 2 := Real.log_pos (by norm_num)
  have hS : Finset.univ.sup s = ((G * Real.log 2 : ℝ) : EReal) := by
    rw [EReal.coe_mul, ← hx₀, ← hs]
    refine le_antisymm (Finset.sup_le fun x _ => ?_) (Finset.le_sup (f := s) (Finset.mem_univ x₀))
    rw [hs, hs]
    exact mul_le_of_le hL (hle x)
  have hE : ∀ x, e x = Ideal.exp2 (g x - (G : EReal)) := fun x => by rw [he, hS, hs, exp_scaled (ht x)]
  unfold softmax2
  rw [hG]
  simp only [hE, one_mul]
  obtain ⟨D, hD, hD', hDle⟩ := sum_real Finset.univ (fun x => Ideal.exp2 (g x - (G : EReal))) fun x =>
    exp2_real (by
      have h1 : g x ≤ (G : EReal) := hx₀ ▸ hle x
      exact sub_ne_top h1 (EReal.coe_ne_top _))
  rw [hD']
  have hD1 : (1 : EReal) ≤ D := by
    have := hDle x₀ (Finset.mem_univ x₀)
    rw [hx₀, ← EReal.coe_sub, sub_self, Ideal.exp2_coe] at this
    refine le_trans (le_of_eq ?_) this
    show (1 : EReal) = (((2 : ℝ) ^ (0 : ℝ) : ℝ) : EReal)
    rw [Real.rpow_zero]
    rfl
  have hD0 : (D : EReal) ≠ 0 := fun h => by rw [h] at hD1; exact absurd hD1 (by norm_num)
  have hinv : ∀ y : EReal, Ideal.div y D = ((D⁻¹ : ℝ) : EReal) * y := fun y => by
    unfold Ideal.div
    rw [if_neg hD0, mul_comm, EReal.coe_inv]
  rw [hinv, real_mul_sum _ _ (inv_nonneg.2 hD)]
  refine Finset.sum_congr rfl fun x _ => ?_
  rw [hinv, mul_assoc, mul_comm (v x)]

/-! ### The blocks in the order met -/

/-- The block of keys met at stage `t`, when the queries are the sixteen blocks from block `16 * n` on. -/
def met (n t : ℕ) : ℕ := if t < 16 then 16 * n + 15 - t else t - 16

/-- The stage a block of keys is met at. -/
def stage (n b : ℕ) : ℕ := if 16 * n ≤ b then 16 * n + 15 - b else b + 16

/-- A sum over the blocks in the order met is the sum over them in their own order. -/
theorem sum_met {n : ℕ} (hn : n < 2) (F : ℕ → EReal) :
    ∑ t ∈ Finset.range (16 + 16 * n), F (met n t) = ∑ b ∈ Finset.range (16 + 16 * n), F b := by
  refine Finset.sum_nbij' (met n) (stage n) ?_ ?_ ?_ ?_ (fun _ _ => rfl) <;> intro t ht <;>
    simp only [Finset.mem_range, met, stage] at ht ⊢ <;> split_ifs <;> omega

/-- A sum over blocks and over the places of each is the sum over all places. -/
theorem sum_blocks (F : ℕ → EReal) (T : ℕ) :
    ∑ b ∈ Finset.range T, ∑ k : Fin 256, F (256 * b + k.val) = ∑ x ∈ Finset.range (256 * T), F x := by
  induction T with
  | zero => simp
  | succ T ih =>
    rw [Finset.sum_range_succ, ih, Nat.mul_succ, Finset.sum_range_add]
    congr 1

/-- Sums over the blocks met are sums over all the keys, when the keys of the others add nothing. -/
theorem sum_keys {n : ℕ} (hn : n < 2) (F : ℕ → EReal) (h : ∀ x, 256 * (16 + 16 * n) ≤ x → F x = 0) :
    ∑ t ∈ Finset.range (16 + 16 * n), ∑ k : Fin 256, F (256 * met n t + k.val) = ∑ x : Fin 8192, F x.val := by
  rw [sum_met hn fun b => ∑ k : Fin 256, F (256 * b + k.val), sum_blocks, ← Finset.sum_range]
  refine Finset.sum_subset (Finset.range_subset_range.2 (by omega)) fun x _ hx => h x ?_
  simpa using hx

/-- The running softmax over the blocks met is the softmax over all the keys. -/
theorem running_eq {n : ℕ} (hn : n < 2) (g : ℕ → EReal) (w : Fin 80 → ℕ → EReal) (ht : ∀ x, g x ≠ ⊤)
    (hz : ∀ x, 256 * (16 + 16 * n) ≤ x → g x = ⊥) (r : Fin 80) (h64 : ∀ x, w 64 x = 1) :
    Ideal.div (Acc (fun t k => g (256 * met n t + k.val)) (fun t r k => w r (256 * met n t + k.val)) (16 + 16 * n) r)
        (Acc (fun t k => g (256 * met n t + k.val)) (fun t r k => w r (256 * met n t + k.val)) (16 + 16 * n) 64)
      = softmax2 (n := 8192) (fun x => g x.val) (fun x => w r x.val) := by
  have hM : Mx (fun t (k : Fin 256) => g (256 * met n t + k.val)) (16 + 16 * n) = Finset.univ.sup fun x : Fin 8192 => g x.val := by
    refine eq_of_forall_ge_iff fun X => ?_
    rw [Mx_le, Finset.sup_le_iff]
    constructor
    · intro h x _
      by_cases hx : x.val < 256 * (16 + 16 * n)
      · have := h (stage n (x.val / 256)) (by unfold stage; split_ifs <;> omega) ⟨x.val % 256, by omega⟩
        have e : 256 * met n (stage n (x.val / 256)) + x.val % 256 = x.val := by
          unfold stage met; split_ifs <;> omega
        rwa [show 256 * met n (stage n (x.val / 256)) + (⟨x.val % 256, by omega⟩ : Fin 256).val = x.val from e] at this
      · rw [hz _ (by omega)]; exact bot_le
    · intro h t ht' k
      exact h ⟨256 * met n t + k.val, by unfold met; split_ifs <;> omega⟩ (Finset.mem_univ _)
  have hA : ∀ r, Acc (fun t (k : Fin 256) => g (256 * met n t + k.val)) (fun t r k => w r (256 * met n t + k.val)) (16 + 16 * n) r
      = ∑ x : Fin 8192, w r x.val * Ideal.exp2 (g x.val - Finset.univ.sup fun x : Fin 8192 => g x.val) := fun r => by
    rw [Acc_eq _ _ (fun t k => ht _), hM]
    exact sum_keys hn (fun x => w r x * Ideal.exp2 (g x - Finset.univ.sup fun x : Fin 8192 => g x.val)) fun x hx => by
      rw [hz x hx]; simp
  unfold softmax2
  rw [hA, hA]
  simp only [h64]

end Cert.Mla
-- ==== Proof.AttnRef.lean ====
module

public import proofs.«01_k».proof.Proof.AttnMath
public import proofs.«01_k».proof.Proof.Gen.ReferenceIdeal.Run
public import Idealize.ShloMosaic.Lib.Pipeline.ValueKit
public import Idealize.ShloMosaic.Lib.Claim
public import Idealize.ShloMosaic.Lib.WordCmp

@[expose] public section

/-! The reference attention, at one element of its result: a softmax over the keys before the query. -/

set_option maxRecDepth 16384

noncomputable section

open Idealize.ShloMosaic Idealize.ShloMosaic.TcCoe Idealize.SL.Sem

namespace Cert.Mla.Ref

open Cert.ReferenceIdeal Cert.ReferenceIdeal.Gen

/-- The queries, one row a position. -/
def refQ (q : FVec Ideal S64x1024x256 .bf16) : FVec Ideal S2x8x8192x128 .f32 :=
  shapeCast _ (transpose S2x8x32x256x128 [0, 2, 1, 4, 3] (shapeCast _ (extf .f32 q bitsLt_bf16_f32) shapeCasts_S64x1024x256_S2x32x8x128x256) transposes_S2x32x8x128x256_S2x8x32x256x128_0_2_1_4_3) shapeCasts_S2x8x32x256x128_S2x8x8192x128

/-- The keys, one row a position. -/
def refK (k : FVec Ideal S2x8192x1024 .bf16) : FVec Ideal S2x8x8192x128 .f32 :=
  transpose S2x8x8192x128 [0, 2, 1, 3] (shapeCast _ (extf .f32 k bitsLt_bf16_f32) shapeCasts_S2x8192x1024_S2x8192x8x128) transposes_S2x8192x8x128_S2x8x8192x128_0_2_1_3

/-- The values, one row a position. -/
def refV (v : FVec Ideal S2x32x512x256 .bf16) : FVec Ideal S2x8x8192x64 .f32 :=
  shapeCast _ (transpose S2x8x32x256x64 [0, 2, 1, 4, 3] (shapeCast _ (extf .f32 v bitsLt_bf16_f32) shapeCasts_S2x32x512x256_S2x32x8x64x256) transposes_S2x32x8x64x256_S2x8x32x256x64_0_2_1_4_3) shapeCasts_S2x8x32x256x64_S2x8x8192x64

/-- Where the key's position is no later than the query's. -/
def refMask : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- The masked scores. -/
def refS (q k : FVec Ideal S2x8x8192x128 .f32) : FVec Ideal S2x8x8192x8192 .f32 :=
  select (broadcastInDim S2x8x8192x8192 ![2, 3] bcast_S8192x8192_S2x8x8192x8192_2_3 refMask)
    (mulf (Host.dotGeneral dot_S2x8x8192x128_S2x8x8192x128_S2x8x8192x8192_3_3_2_2_01_01 none q k)
      (broadcastInDim S2x8x8192x8192 ![0, 1, 2, 3] bcast_S1x1x1x1_S2x8x8192x8192_0_1_2_3 (Host.log (broadcastInDim S1x1x1x1 ![] bcast_S_S1x1x1x1 (constant S_ .f32 0x40000000#32)))))
    (broadcastInDim S2x8x8192x8192 ![] bcast_S_S2x8x8192x8192 (id (constant S_ .f32 0xFF800000#32)))

/-- The rows' largest scores. -/
def refTop (s : FVec Ideal S2x8x8192x8192 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

/-- The unscaled weights. -/
def refE (s : FVec Ideal S2x8x8192x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (refTop s))))

/-- The attention's rows. -/
def refO (e : FVec Ideal S2x8x8192x8192 .f32) (v : FVec Ideal S2x8x8192x64 .f32) : FVec Ideal S2x8x8192x64 .f32 :=
  Host.dotGeneral dot_S2x8x8192x8192_S2x8x8192x64_S2x8x8192x64_3_2_2_3_01_01 none
    (Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd e (constant S_ .f32 0x00000000#32) reducesTo_S2x8x8192x8192_S2x8x8192_d3 h_S_)))) v

/-- The result, as the kernel lays it out. -/
def refOut (q : FVec Ideal S64x1024x256 .bf16) (k : FVec Ideal S2x8192x1024 .bf16) (v : FVec Ideal S2x32x512x256 .bf16) :
    FVec Ideal S64x512x256 .bf16 :=
  truncf .bf16 (shapeCast _ (transpose S2x32x8x64x256 [0, 2, 1, 4, 3] (shapeCast _ (refO (refE (refS (refQ q) (refK k))) (refV v)) shapeCasts_S2x8x8192x64_S2x8x32x256x64) transposes_S2x8x32x256x64_S2x32x8x64x256_0_2_1_4_3) shapeCasts_S2x32x8x64x256_S64x512x256) bitsLt_bf16_f32

set_option maxHeartbeats 1000000 in
/-- The composed term of the reference's run is `refOut` of its arguments. -/
theorem res_eq (m : (ℓ : Loc nD τ sig) → Buf (Elt Ideal) ℓ) (c : Dev nD) :
    Cert.ReferenceIdeal.Value.res_out0 m c
      = refOut (m ((c : Thread nD τ).loc main_arg0)) (m ((c : Thread nD τ).loc main_arg1)) (m ((c : Thread nD τ).loc main_arg2)) := rfl

/-- A query of the reference in the array. -/
theorem refQ_at (q : FVec Ideal S64x1024x256 .bf16) (b : Fin 2) (h : Fin 8) (p : Fin 8192) (d : Fin 128) :
    refQ q (ix4 b h p d) = q (ix3 ⟨b.val * 32 + p.val / 256, by omega⟩ ⟨h.val * 128 + d.val, by omega⟩ ⟨p.val % 256, by omega⟩) := by
  pointwise [refQ]

/-- A key of the reference in the array. -/
theorem refK_at (k : FVec Ideal S2x8192x1024 .bf16) (b : Fin 2) (h : Fin 8) (p : Fin 8192) (d : Fin 128) :
    refK k (ix4 b h p d) = k (ix3 b p ⟨h.val * 128 + d.val, by omega⟩) := by
  pointwise [refK]

/-- A value of the reference in the array. -/
theorem refV_at (v : FVec Ideal S2x32x512x256 .bf16) (b : Fin 2) (h : Fin 8) (p : Fin 8192) (r : Fin 64) :
    refV v (ix4 b h p r) = v (ix4 b ⟨p.val / 256, by omega⟩ ⟨h.val * 64 + r.val, by omega⟩ ⟨p.val % 256, by omega⟩) := by
  pointwise [refV]

/-- The mask at a query and a key. -/
theorem refMask_at (p s : Fin 8192) : refMask (ix2 p s) = BitVec.ofBool (decide (s.val ≤ p.val)) := by
  pointwise [refMask]
  exact Idealize.ShloMosaic.WordCmp.cmpi_sle_ofNat (by omega) (by omega)

/-- A masked score of the reference. -/
theorem refS_at (q k : FVec Ideal S2x8x8192x128 .f32) (b : Fin 2) (h : Fin 8) (p s : Fin 8192) :
    refS q k (ix4 b h p s) = if s.val ≤ p.val then (∑ d, q (ix4 b h p d) * k (ix4 b h s d)) * ((Real.log 2 : ℝ) : EReal) else ⊥ := by
  have hm := refMask_at p s
  have hl : Ideal.log (Ideal.ofBits FTy.f32 1073741824#32) = ((Real.log 2 : ℝ) : EReal) := by
    have h2 : Ideal.ofBits FTy.f32 1073741824#32 = ((2 : ℝ) : EReal) := by
      simp [Ideal.ofBits, Ideal.ieee]
      rw [← EReal.coe_mul]
      congr 1
      norm_num
    rw [h2]
    show (if (2 : ℝ) ≤ 0 then ⊥ else (Real.log 2 : EReal)) = _
    rw [if_neg (by norm_num)]
  have hb : (id (constant S_ FTy.f32 4286578688#32) : FVec Ideal S_ .f32) ix0 = ⊥ := by
    simp [constant, Ideal.ofBits, Ideal.ieee]
  pointwise [refS]
  rw [hm, hl, hb]
  unfold Scalar.select
  by_cases hrc : s.val ≤ p.val <;> simp [hrc]

/-- A maximum over the last axis. -/
theorem hostMax_at {n0 n1 n2 n3 : ℕ} (x : FVec Ideal ⟨4, ![n0, n1, n2, n3]⟩ .f32) (u : FVec Ideal S_ .f32)
    (h : (⟨4, ![n0, n1, n2, n3]⟩ : Shape).ReducesTo [3] ⟨3, ![n0, n1, n2]⟩) (hu : 0 < S_.numel) (a : Fin n0) (b : Fin n1)
    (d : Fin n2) :
    Host.reduce FloatOps.maximumf x u h hu (ix3 a b d)
      = Finset.univ.fold max (u (Shape.Idx.first hu)) fun k : Fin n3 => x (ix4 a b d k) := by
  simp only [pointwise]

/-- The bits of negative infinity. -/
theorem bottom_bits : Ideal.ofBits FTy.f32 4286578688#32 = ⊥ := by
  simp [Ideal.ofBits, Ideal.ieee]

/-- The host's maximum of two arrays, at an element. -/
theorem max_at {s : Shape} (x y : FVec Ideal s .f32) (i : s.Idx) : maximumf x y i = max (x i) (y i) := rfl

/-- The largest score of a row. -/
theorem refTop_at (x : FVec Ideal S2x8x8192x8192 .f32) (b : Fin 2) (h : Fin 8) (p : Fin 8192) :
    refTop x (ix3 b h p) = Finset.univ.sup fun s => x (ix4 b h p s) := by
  unfold refTop
  rw [max_at, hostMax_at]
  have e : (broadcastInDim S2x8x8192 ![] bcast_S_S2x8x8192 (constant S_ .f32 0xFF800000#32) : FVec Ideal S2x8x8192 .f32) (ix3 b h p) = ⊥ := by
    pointwise []
    exact bottom_bits
  have e' : (constant S_ .f32 0xFF800000#32 : FVec Ideal S_ .f32) (Shape.Idx.first h_S_) = ⊥ := bottom_bits
  rw [e, e', bot_sup_eq]
  rfl

/-- An unscaled weight. -/
theorem refE_at (x : FVec Ideal S2x8x8192x8192 .f32) (b : Fin 2) (h : Fin 8) (p s : Fin 8192) :
    refE x (ix4 b h p s) = Ideal.exp (x (ix4 b h p s) - Finset.univ.sup fun s => x (ix4 b h p s)) := by
  rw [← refTop_at]
  pointwise [refE]

/-- An element of the attention: the weighted sum of the values. -/
theorem refO_at (e : FVec Ideal S2x8x8192x8192 .f32) (v : FVec Ideal S2x8x8192x64 .f32) (b : Fin 2) (h : Fin 8) (p : Fin 8192)
    (r : Fin 64) :
    refO e v (ix4 b h p r) = ∑ s, Ideal.div (e (ix4 b h p s)) (∑ s, e (ix4 b h p s)) * v (ix4 b h s r) := by
  pointwise [refO]

/-- An element of the reference's result. -/
theorem refOut_at (q : FVec Ideal S64x1024x256 .bf16) (k : FVec Ideal S2x8192x1024 .bf16) (v : FVec Ideal S2x32x512x256 .bf16)
    (b : Fin 2) (n : Fin 32) (h : Fin 8) (r : Fin 64) (j : Fin 256) :
    refOut q k v (ix3 ⟨32 * b.val + n.val, by omega⟩ ⟨64 * h.val + r.val, by omega⟩ j)
      = refO (refE (refS (refQ q) (refK k))) (refV v) (ix4 b h ⟨n.val * 256 + j.val, by omega⟩ r) := by
  pointwise [refOut]

end Cert.Mla.Ref
-- ==== Proof.AttnValue.lean ====
module

public import proofs.«01_k».proof.Proof.AttnIdealRun
public import proofs.«01_k».proof.Proof.AttnBlock
public import proofs.«01_k».proof.Proof.AttnSum
public import proofs.«01_k».proof.Proof.AttnRef
public import Idealize.ShloMosaic.Lib.Pipeline.ValueKit
public import Idealize.ShloMosaic.Lib.ReduceAll

@[expose] public section

/-! The value of the attention call: where each step's blocks of keys and values lie, what a column's
scores are over the whole sequence, and the result's block as the reference's. -/

set_option maxRecDepth 16384

noncomputable section

namespace Cert.Mla

open Idealize.ShloMosaic Idealize.ShloMosaic.TcCoe Idealize.SL.Sem
open Cert.KernelIdeal Cert.KernelIdeal.Gen

/-! ## Where the blocks lie -/

/-- Which half of the queries a step takes. -/
theorem half_lt (i : grid0.Coords) : (i 2).val < 2 := (i 2).2

/-- The first loop's number of rounds. -/
theorem trips1 (i : grid0.Coords) : (offs i).l1.trips = 16 * (i 2).val := by
  have h := half_lt i
  show (k0_t1_loop i).trips = _
  unfold k0_t1_loop
  generalize (i 2).val = n at *
  interval_cases n <;> decide +kernel

/-- The second loop has no rounds. -/
theorem trips2 (i : grid0.Coords) : (offs i).l2.trips = 0 := by
  have h := half_lt i
  show (k0_t2_loop i).trips = _
  unfold k0_t2_loop
  generalize (i 2).val = n at *
  interval_cases n <;> decide +kernel

/-- A block of keys of the step's own half. -/
theorem k1_off (i : grid0.Coords) (j : Fin 16) : ((offs i).k1 j).off = ![0, 256 * (16 * (i 2).val + j.val), 0] := by
  have h := half_lt i
  show k0_off1 i (BitVec.ofNat 32 (1 + j.val)) = _
  unfold k0_off1
  generalize (i 2).val = n at *
  interval_cases n <;> revert j <;> decide +kernel

/-- A block of values of the step's own half. -/
theorem v1_off (i : grid0.Coords) (j : Fin 14) : ((offs i).v1 j).off = ![0, 16 * (i 2).val + j.val + 2, 0, 0] := by
  have h := half_lt i
  show k0_off2 i (BitVec.ofNat 32 (1 + j.val)) = _
  unfold k0_off2
  generalize (i 2).val = n at *
  interval_cases n <;> revert j <;> decide +kernel

/-- A round's block of keys. -/
theorem kt_off (i : grid0.Coords) (j : Fin (offs i).l1.trips) : ((offs i).kt j).off = ![0, 256 * j.val, 0] := by
  have h := half_lt i
  have hj := lt_of_lt_of_eq j.2 (trips1 i)
  show k0_off4 i j = _
  unfold k0_off4
  generalize j.val = x at *
  generalize (i 2).val = n at *
  have hx : x < 16 := by omega
  clear hj j
  revert x
  decide +kernel

/-- A round's block of values. -/
theorem vt_off (i : grid0.Coords) (j : Fin (offs i).l1.trips) : ((offs i).vt j).off = ![0, met (i 2).val (14 + j.val), 0, 0] := by
  have h := half_lt i
  have hj := lt_of_lt_of_eq j.2 (trips1 i)
  show k0_off3 i j = _
  unfold k0_off3
  generalize j.val = x at *
  clear j
  generalize (i 2).val = n at *
  have hx : x < 16 := by omega
  interval_cases n
  · omega
  · clear hj h
    revert x
    decide +kernel

/-- The last block of values but one. -/
theorem v7_off (i : grid0.Coords) : ((offs i).v7).off = ![0, met (i 2).val (14 + 16 * (i 2).val), 0, 0] := by
  have h := half_lt i
  show k0_off7 i = _
  unfold k0_off7
  generalize (i 2).val = n at *
  interval_cases n <;> decide +kernel

/-- The last block of values. -/
theorem v8_off (i : grid0.Coords) : ((offs i).v8).off = ![0, met (i 2).val (15 + 16 * (i 2).val), 0, 0] := by
  have h := half_lt i
  show k0_off8 i = _
  unfold k0_off8
  generalize (i 2).val = n at *
  interval_cases n <;> decide +kernel

/-! ## A column's scores and values over the whole sequence -/

/-- The score of the key at a position, masked beyond the column's own position. -/
def gI (I : Ins Ideal) (n : ℕ) (g : Fin 2) (c : Fin 4096) (x : ℕ) : EReal :=
  if h : x ≤ 4096 * n + c.val ∧ x < 8192 then
    ∑ d : Fin 128, I.k (ix3 0 ⟨x, h.2⟩ ⟨128 * g.val + d.val, by omega⟩)
      * I.q (ix3 ⟨c.val / 256, by omega⟩ ⟨128 * g.val + d.val, by omega⟩ ⟨c.val % 256, by omega⟩)
  else ⊥

/-- The value at a position, over ones. -/
def wI (I : Ins Ideal) (g : Fin 2) (r : Fin 80) (x : ℕ) : EReal :=
  if hr : r.val < 64 then
    (if hx : x < 8192 then I.v (ix4 0 ⟨x / 256, by omega⟩ ⟨64 * g.val + r.val, by omega⟩ ⟨x % 256, by omega⟩) else 0)
  else 1

/-- A key of a block. -/
theorem kAt_at (I : Ins Ideal) (j : KOff) (B : ℕ) (hB : B < 32) (hj : j.off = ![0, 256 * B, 0]) (k e : Fin 256) :
    kAt I j (ix3 0 k e) = I.k (ix3 0 ⟨256 * B + k.val, by omega⟩ e) := by
  obtain ⟨off, inb⟩ := j
  obtain rfl : off = _ := hj
  refine congrArg I.k (funext fun a => Fin.ext ?_)
  fin_cases a
  · rfl
  · show 256 * B + 1 * k.val = 256 * B + k.val; omega
  · show 0 + 1 * e.val = e.val; omega

/-- A value of a block. -/
theorem vAt_at (I : Ins Ideal) (j : VOff) (B : ℕ) (hB : B < 32) (hj : j.off = ![0, B, 0, 0]) (e : Fin 128) (k : Fin 256) :
    vAt I j (ix4 0 0 e k) = I.v (ix4 0 ⟨B, hB⟩ e k) := by
  obtain ⟨off, inb⟩ := j
  obtain rfl : off = _ := hj
  refine congrArg I.v (funext fun a => Fin.ext ?_)
  fin_cases a
  · rfl
  · show B + 1 * 0 = B; omega
  · show 0 + 1 * e.val = e.val; omega
  · show 0 + 1 * k.val = k.val; omega

/-- A block's scores are the column's at the block's positions. -/
theorem srow_met (I : Ins Ideal) (own : Meets) (u n B : ℕ) (j : KOff) (hB : B < 32) (hj : j.off = ![0, 256 * B, 0])
    (g : Fin 2) (c : Fin 4096)
    (h : ∀ k : Fin 256, (own = .before ∨ k.val ≤ c.val - 256 * u) ↔ 256 * B + k.val ≤ 4096 * n + c.val) :
    srow I own ⊥ u (kAt I j) g c = fun k => gI I n g c (256 * B + k.val) := by
  funext k
  unfold srow gI
  simp only [kAt_at I j B hB hj]
  by_cases hk : 256 * B + k.val ≤ 4096 * n + c.val
  · rw [if_pos ((h k).2 hk), dif_pos ⟨hk, by omega⟩]
  · rw [if_neg fun x => hk ((h k).1 x), dif_neg fun x => hk x.1]

/-- A block's values are the values at the block's positions. -/
theorem vrow_met (I : Ins Ideal) (B : ℕ) (j : VOff) (hB : B < 32) (hj : j.off = ![0, B, 0, 0]) (g : Fin 2) :
    vrow (vAt I j) g = fun r k => wI I g r (256 * B + k.val) := by
  funext r k
  unfold vrow wI
  split_ifs with hr hx
  · rw [vAt_at I j B hB hj]
    refine congrArg I.v (funext fun a => Fin.ext ?_)
    fin_cases a
    · rfl
    · show B = (256 * B + k.val) / 256; omega
    · rfl
    · show k.val = (256 * B + k.val) % 256; omega
  · omega
  · rfl

/-- What a step's column reads. -/
theorem reads (I : Ins Ideal) (i : grid0.Coords) (g : Fin 2) (c : Fin 4096) :
    Reads I (offs i) g c (fun t k => gI I (i 2).val g c (256 * met (i 2).val t + k.val))
      (fun t r k => wI I g r (256 * met (i 2).val t + k.val)) where
  bot t ht k := by
    have := half_lt i
    unfold gI met
    rw [dif_neg]
    rw [if_pos (by omega)]
    omega
  within t ht ht' := by
    have := half_lt i
    have e : met (i 2).val t = 16 * (i 2).val + (15 - t) := by unfold met; rw [if_pos (by omega)]; omega
    rw [e]
    exact srow_met I .within _ _ _ _ (by omega) (k1_off i _) g c fun k => by simp; omega
  first := by
    have := half_lt i
    exact srow_met I .first _ _ (16 * (i 2).val) _ (by omega) (k1_off i 0) g c fun k => by simp; omega
  before j := by
    have := half_lt i
    have hj := lt_of_lt_of_eq j.2 (trips1 i)
    have e : met (i 2).val (16 + j.val) = j.val := by unfold met; rw [if_neg (by omega)]; omega
    rw [e]
    exact srow_met I .before _ _ _ _ (by omega) (kt_off i _) g c fun k => by simp; omega
  near t ht := by
    have := half_lt i
    have e : met (i 2).val t = 16 * (i 2).val + (13 - t) + 2 := by unfold met; rw [if_pos (by omega)]; omega
    rw [e]
    exact vrow_met I _ _ (by omega) (v1_off i _) g
  far j := by
    have := half_lt i
    have hj := lt_of_lt_of_eq j.2 (trips1 i)
    exact vrow_met I _ _ (by unfold met; split_ifs <;> omega) (vt_off i _) g
  none := trips2 i
  last := by
    have := half_lt i
    rw [trips1]
    exact vrow_met I _ _ (by unfold met; split_ifs <;> omega) (v7_off i) g
  last' := by
    have := half_lt i
    rw [trips1]
    exact vrow_met I _ _ (by unfold met; split_ifs <;> omega) (v8_off i) g

/-- What a step leaves at an element: the softmax-weighted sum over the whole sequence. -/
theorem body_softmax (I : Ins Ideal) (i : grid0.Coords) (S : St Ideal) (v : Fin 16) (g : Fin 2) (r : Fin 64) (c : Fin 256)
    (ht : ∀ x, gI I (i 2).val g ⟨256 * v.val + c.val, by omega⟩ x ≠ ⊤) :
    (bodyF I (offs i) ⊥ S).o (ix3 v ⟨64 * g.val + r.val, by omega⟩ c)
      = softmax2 (n := 8192) (fun x => gI I (i 2).val g ⟨256 * v.val + c.val, by omega⟩ x.val)
          (fun x => wI I g ⟨r.val, by omega⟩ x.val) := by
  rw [body_at (reads I i g _), trips1]
  exact running_eq (half_lt i) (gI I (i 2).val g _) (wI I g) ht
    (fun x hx => by unfold gI; rw [dif_neg]; have := half_lt i; omega) ⟨r.val, by omega⟩ (fun x => rfl)

end Cert.Mla
-- ==== Proof.AttnFinal.lean ====
module

public import proofs.«01_k».proof.Pre_finite
public import proofs.«01_k».proof.Proof.AttnValue
public import proofs.«01_k».proof.Proof.Gen.KernelIdeal.Frame
public import Idealize.ShloMosaic.Lib.Claim

@[expose] public section

/-! The attention call's result array: each step's block is the reference's block at its place in the
array, where the queries and keys are finite. -/

set_option maxRecDepth 16384

noncomputable section

namespace Cert.Mla

open Idealize.ShloMosaic Idealize.ShloMosaic.TcCoe Idealize.SL.Sem
open Idealize.ShloMosaic.Pipeline (Dat)

/-! ## The precondition -/

/-- The precondition's shapes are as its operations ask. -/
instance preFacts : Cert.Pre_finite.Facts where
  bitsLt_bf16_f32 := by decide
  bcast_S_S64x1024x256 := by decide
  reducesTo_S64x1024x256_S_d0_1_2 := by decide
  h_S_ := by decide
  bcast_S_S2x8192x1024 := by decide
  reducesTo_S2x8192x1024_S_d0_1_2 := by decide

/-- A number that is a real. -/
def IsReal (x : EReal) : Prop := x ≠ ⊤ ∧ x ≠ ⊥

/-- The bits of infinity. -/
theorem top_bits : Ideal.ofBits FTy.f32 0x7F800000#32 = ⊤ := by
  simp [Ideal.ofBits, Ideal.ieee]

/-- A magnitude below infinity is a real's. -/
theorem real_of_abs {x : EReal} (h : Ideal.cmp .olt (max x (-x)) (Ideal.ofBits FTy.f32 0x7F800000#32) = 1#1) : IsReal x := by
  rw [top_bits] at h
  induction x with
  | top => simp [Ideal.cmp] at h
  | bot => simp [Ideal.cmp] at h
  | coe x => exact ⟨EReal.coe_ne_top x, EReal.coe_ne_bot x⟩

/-- The precondition's result has one index. -/
instance : Subsingleton Cert.Pre_finite.S_.Idx := ⟨fun a b => funext fun i => i.elim0⟩

/-- Under the precondition the queries and keys are reals. -/
theorem finite_args {q : FVec Ideal Cert.Pre_finite.S64x1024x256 .bf16} {k : FVec Ideal Cert.Pre_finite.S2x8192x1024 .bf16}
    {v : FVec Ideal Cert.Pre_finite.S2x32x512x256 .bf16} (h : Cert.Pre_finite.fn (F := Ideal) q k v = fun _ => 1#1) :
    (∀ i, IsReal (q i)) ∧ ∀ i, IsReal (k i) := by
  have h' := congrFun h fun a => a.elim0
  obtain ⟨h1, h2⟩ := IntOp.andi_eq_one.1 h'
  exact ⟨fun i => real_of_abs (Host.reduce_andi_all _ _ _ _ _ h1 i), fun i => real_of_abs (Host.reduce_andi_all _ _ _ _ _ h2 i)⟩

/-- A sum of products of reals is a real. -/
theorem real_dot {n : ℕ} {a b : Fin n → EReal} (ha : ∀ i, IsReal (a i)) (hb : ∀ i, IsReal (b i)) : IsReal (∑ i, a i * b i) := by
  have e : ∀ i, a i * b i = (((a i).toReal * (b i).toReal : ℝ) : EReal) := fun i => by
    rw [EReal.coe_mul, EReal.coe_toReal (ha i).1 (ha i).2, EReal.coe_toReal (hb i).1 (hb i).2]
  simp only [e]
  have s : ∀ (A : Finset (Fin n)) (f : Fin n → ℝ), (∑ i ∈ A, (f i : EReal)) = ((∑ i ∈ A, f i : ℝ) : EReal) := fun A f => by
    classical
    induction A using Finset.induction_on with
    | empty => simp
    | insert x A hx ih => rw [Finset.sum_insert hx, Finset.sum_insert hx, ih, EReal.coe_add]
  rw [s]
  exact ⟨EReal.coe_ne_top _, EReal.coe_ne_bot _⟩

/-! ## From a step's block to the arrays -/

open Cert.KernelIdeal Cert.KernelIdeal.Gen Cert.Mla.Ref

variable (m : (ℓ : Loc nD τ sig) → Buf (Elt Ideal) ℓ)

/-- Where each step's blocks lie, and which half of the queries it takes. -/
theorem idx : ∀ t : Fin cfg0.N, win0_0.index t = ![2 * (t.val / 8) + t.val % 2, t.val / 2 % 4, 0]
    ∧ win0_1.index t = ![t.val / 8, 0, t.val / 2 % 4] ∧ win0_2.index t = ![t.val / 8, 0, t.val / 2 % 4, 0]
    ∧ win0_3.index t = ![2 * (t.val / 8) + t.val % 2, t.val / 2 % 4, 0]
    ∧ (grid0.coords t 2).val = t.val % 2 ∧ t.val < 16 :=
  (by decide +kernel : ∀ t : Fin grid0.N, _)

/-- The queries. -/
abbrev Q (c : Dev nD) : FVec Ideal S64x1024x256 .bf16 := m ((c : Thread nD τ).loc main_arg0)
/-- The keys. -/
abbrev K (c : Dev nD) : FVec Ideal S2x8192x1024 .bf16 := m ((c : Thread nD τ).loc main_arg1)
/-- The values. -/
abbrev W (c : Dev nD) : FVec Ideal S2x32x512x256 .bf16 := m ((c : Thread nD τ).loc main_arg2)
/-- The reference's result on the kernel's arguments. -/
abbrev REF (c : Dev nD) : FVec Ideal S64x512x256 .bf16 := refOut (Q m c) (K m c) (W m c)

/-- A step's query element in the array. -/
theorem q_at (c : Dev nD) (t : Fin cfg0.N) (v : Fin 16) (e j : Fin 256) (ht : t.val < 16) :
    (ins m c t).q (ix3 v e j)
      = Q m c (ix3 ⟨(2 * (t.val / 8) + t.val % 2) * 16 + v.val, by omega⟩ ⟨t.val / 2 % 4 * 256 + e.val, by omega⟩ j) := by
  unfold ins
  blk_point [iblk, V, idx t]

/-- A step's key element in the array. -/
theorem k_at (c : Dev nD) (t : Fin cfg0.N) (x : Fin 8192) (e : Fin 256) (ht : t.val < 16) :
    (ins m c t).k (ix3 0 x e) = K m c (ix3 ⟨t.val / 8, by omega⟩ x ⟨t.val / 2 % 4 * 256 + e.val, by omega⟩) := by
  unfold ins
  blk_point [iblk, V, idx t]

/-- A step's value element in the array. -/
theorem v_at (c : Dev nD) (t : Fin cfg0.N) (n : Fin 32) (e : Fin 128) (j : Fin 256) (ht : t.val < 16) :
    (ins m c t).v (ix4 0 n e j) = W m c (ix4 ⟨t.val / 8, by omega⟩ n ⟨t.val / 2 % 4 * 128 + e.val, by omega⟩ j) := by
  unfold ins
  blk_point [iblk, V, idx t]

/-- The mask constant is the bottom. -/
theorem mask_bot : (Named.named κ "mask" 0xF149F2CA#32 : Ideal .f32) = ⊥ :=
  IdealRules.named_const.ideal_named_scalar κ "mask" _ ⊥ rfl

section Point

variable (c : Dev nD) (t : Fin cfg0.N) (ht : t.val < 16) (v : Fin 16) (g : Fin 2) (j : Fin 256)

/-- The batch a step works on. -/
def bOf : Fin 2 := ⟨t.val / 8, by omega⟩
/-- The head a step's half works on. -/
def hOf : Fin 8 := ⟨2 * (t.val / 2 % 4) + g.val, by omega⟩
/-- The position of a query of a step. -/
def pOf : Fin 8192 := ⟨(16 * (t.val % 2) + v.val) * 256 + j.val, by omega⟩

/-- A step's query is the reference's. -/
theorem query_eq (d : Fin 128) :
    (ins m c t).q (ix3 ⟨(256 * v.val + j.val) / 256, by omega⟩ ⟨128 * g.val + d.val, by omega⟩ ⟨(256 * v.val + j.val) % 256, by omega⟩)
      = refQ (Q m c) (ix4 (bOf t ht) (hOf t g) (pOf t v j) d) := by
  rw [q_at m c t _ _ _ ht, refQ_at]
  refine congrArg (Q m c) (funext fun a => Fin.ext ?_)
  unfold bOf hOf pOf
  fin_cases a
  · show (2 * (t.val / 8) + t.val % 2) * 16 + (256 * v.val + j.val) / 256
      = t.val / 8 * 32 + ((16 * (t.val % 2) + v.val) * 256 + j.val) / 256
    omega
  · show t.val / 2 % 4 * 256 + (128 * g.val + d.val) = (2 * (t.val / 2 % 4) + g.val) * 128 + d.val
    omega
  · show (256 * v.val + j.val) % 256 = ((16 * (t.val % 2) + v.val) * 256 + j.val) % 256
    omega

/-- A step's key is the reference's. -/
theorem key_eq (x : Fin 8192) (d : Fin 128) :
    (ins m c t).k (ix3 0 x ⟨128 * g.val + d.val, by omega⟩) = refK (K m c) (ix4 (bOf t ht) (hOf t g) x d) := by
  rw [k_at m c t _ _ ht, refK_at]
  refine congrArg (K m c) (funext fun a => Fin.ext ?_)
  unfold bOf hOf
  fin_cases a
  · rfl
  · rfl
  · show t.val / 2 % 4 * 256 + (128 * g.val + d.val) = (2 * (t.val / 2 % 4) + g.val) * 128 + d.val
    omega

/-- A step's value is the reference's. -/
theorem value_eq (x : Fin 8192) (r : Fin 64) :
    wI (ins m c t) g ⟨r.val, by omega⟩ x.val = refV (W m c) (ix4 (bOf t ht) (hOf t g) x r) := by
  unfold wI
  rw [dif_pos (show r.val < 64 from r.2), dif_pos x.2, v_at m c t _ _ _ ht, refV_at]
  refine congrArg (W m c) (funext fun a => Fin.ext ?_)
  unfold bOf hOf
  fin_cases a
  · rfl
  · rfl
  · show t.val / 2 % 4 * 128 + (64 * g.val + r.val) = (2 * (t.val / 2 % 4) + g.val) * 64 + r.val
    omega
  · rfl

/-- A step's scores, with the reference's queries and keys. -/
theorem score_eq (n : ℕ) (hn : n = t.val % 2) (x : Fin 8192) :
    gI (ins m c t) n g ⟨256 * v.val + j.val, by omega⟩ x.val
      = if x.val ≤ (pOf t v j).val then
          ∑ d, refQ (Q m c) (ix4 (bOf t ht) (hOf t g) (pOf t v j) d) * refK (K m c) (ix4 (bOf t ht) (hOf t g) x d)
        else ⊥ := by
  subst hn
  unfold gI
  have e : (pOf t v j).val = 4096 * (t.val % 2) + (256 * v.val + j.val) := by unfold pOf; simp; omega
  by_cases hx : x.val ≤ (pOf t v j).val
  · rw [dif_pos ⟨by simp; omega, x.2⟩, if_pos hx]
    refine Finset.sum_congr rfl fun d _ => ?_
    rw [← query_eq m c t ht v g j d, ← key_eq m c t ht g x d, mul_comm]
  · rw [dif_neg (fun h => hx (by have := h.1; simp at this; omega)), if_neg hx]

/-- What a step leaves at an element is the reference's result at the element's place. -/
theorem point (hf : (∀ i, IsReal (Q m c i)) ∧ ∀ i, IsReal (K m c i)) (S : St Ideal) (r : Fin 64) :
    leaves m c t S (ix3 v ⟨64 * g.val + r.val, by omega⟩ j)
      = REF m c (ix3 ⟨32 * (t.val / 8) + (16 * (t.val % 2) + v.val), by omega⟩
          ⟨64 * (2 * (t.val / 2 % 4) + g.val) + r.val, by omega⟩ j) := by
  have hn := (idx t).2.2.2.2.1
  have hr : ∀ x : Fin 8192, IsReal (∑ d, refQ (Q m c) (ix4 (bOf t ht) (hOf t g) (pOf t v j) d)
      * refK (K m c) (ix4 (bOf t ht) (hOf t g) x d)) := fun x =>
    real_dot (fun d => by rw [refQ_at]; exact hf.1 _) fun d => by rw [refK_at]; exact hf.2 _
  have hg := score_eq m c t ht v g j _ hn
  have htop : ∀ x, gI (ins m c t) (grid0.coords t 2).val g ⟨256 * v.val + j.val, by omega⟩ x ≠ ⊤ := fun x => by
    by_cases hx : x < 8192
    · rw [hg ⟨x, hx⟩]
      split_ifs
      · exact (hr _).1
      · exact bot_ne_top
    · unfold gI
      rw [dif_neg fun h => hx h.2]
      exact bot_ne_top
  unfold leaves
  rw [mask_bot, body_softmax _ _ _ _ _ _ _ htop]
  refine Eq.trans ?_ (refOut_at (Q m c) (K m c) (W m c) (bOf t ht) ⟨16 * (t.val % 2) + v.val, by omega⟩ (hOf t g) r j).symm
  rw [refO_at]
  refine Eq.trans ?_ (softmax_base _ _ (fun x => htop x.val) ⟨0, ?_⟩
    (fun x => refS (refQ (Q m c)) (refK (K m c)) (ix4 (bOf t ht) (hOf t g) (pOf t v j) x)) _ (fun x => ?_) fun x => refE_at _ _ _ _ _).symm
  · refine congrArg (softmax2 _) (funext fun x => value_eq m c t ht g x r)
  · rw [hg 0, if_pos (show (0 : Fin 8192).val ≤ _ from Nat.zero_le _)]
    exact (hr 0).2
  · rw [refS_at, hg x]
    split_ifs
    · rfl
    · rw [EReal.bot_mul_coe_of_pos (Real.log_pos (by norm_num))]

end Point

/-- A step's block of a result array. -/
def blockOf (R : FVec Ideal S64x512x256 .bf16) (t : Fin cfg0.N) : Vec Ideal (sh3 16 128 256) .bf16 :=
  fun y => R (ix3 ⟨32 * (t.val / 8) + (16 * (t.val % 2) + (y 0).val), by
      have h0 : (y 0).val < 16 := (y 0).2
      have := (idx t).2.2.2.2.2; omega⟩
    ⟨128 * (t.val / 2 % 4) + (y 1).val, by have h1 : (y 1).val < 128 := (y 1).2; omega⟩ (y 2))

/-- An array is its blocks. -/
theorem blocks_array (R : Dev nD → FVec Ideal S64x512x256 .bf16) (c : Dev nD) :
    (dats m (fun c t => blockOf (R c) t) 0 c).arrAt 3 (cfgs 0).N = R c := by
  refine (dats m (fun c t => blockOf (R c) t) 0 c).arrAt_eq_of_covers 3 _ (by decide +kernel) fun t _ y => ?_
  blk_simp
  obtain ⟨v, e, j, rfl⟩ : ∃ (v : Fin 16) (e : Fin 128) (j : Fin 256), y = ix3 v e j :=
    ⟨y 0, y 1, y 2, funext fun a => by fin_cases a <;> rfl⟩
  have ht := (idx t).2.2.2.2.2
  show blockOf (R c) t (ix3 v e j) = _
  unfold blockOf
  blk_ext [idx t]

/-- Every step leaves its block of the reference's result, whatever its scratch held before. -/
theorem leaves_eq (hf : ∀ c, (∀ i, IsReal (Q m c i)) ∧ ∀ i, IsReal (K m c i)) (c : Dev nD) (t : Fin cfg0.N) (S : St Ideal) :
    leaves m c t S = blockOf (REF m c) t := by
  have ht := (idx t).2.2.2.2.2
  funext y
  obtain ⟨v, e, j, rfl⟩ : ∃ (v : Fin 16) (e : Fin 128) (j : Fin 256), y = ix3 v e j :=
    ⟨y 0, y 1, y 2, funext fun a => by fin_cases a <;> rfl⟩
  have h := point m c t ht v ⟨e.val / 64, by omega⟩ j (hf c) S ⟨e.val % 64, by omega⟩
  have e1 : (⟨64 * (e.val / 64) + e.val % 64, by omega⟩ : Fin 128) = e := Fin.ext (by simp; omega)
  simp only [e1] at h
  refine h.trans (congrArg (REF m c) (funext fun a => Fin.ext ?_))
  fin_cases a
  · rfl
  · show 64 * (2 * (t.val / 2 % 4) + e.val / 64) + e.val % 64 = 128 * (t.val / 2 % 4) + e.val
    omega
  · rfl

/-- A run whose every step leaves its block of an array ends with that array, its arguments unchanged. -/
theorem run_array (ρ : Dev nD → PrngReg) (R : Dev nD → FVec Ideal S64x512x256 .bf16)
    (hR : ∀ c t S, leaves m c t S = blockOf (R c) t) :
    θ_run (Cert.KernelIdeal.defs (F := Ideal)) (onTc (τ := τ) (main (F := Ideal))) ⟨m, fun _ => 0, ρ⟩ (fun r => ∀ c : Dev nD,
      r.2.mem ((c.tc : Thread nD τ).loc main_v0) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun _ h c =>
    ⟨((h c).1 3).trans (blocks_array m R c),
      ((h c).1 0).trans ((dats m (fun c t => blockOf (R c) t) 0 c).arrAt_in 0 rfl _),
      ((h c).1 1).trans ((dats m (fun c t => blockOf (R c) t) 0 c).arrAt_in 1 rfl _),
      ((h c).1 2).trans ((dats m (fun c t => blockOf (R c) t) 0 c).arrAt_in 2 rfl _)⟩)
    (exact_run m ρ (fun c t => blockOf (R c) t) hR)

end Cert.Mla
-- ==== Proof.PreIdealBlocks.lean ====
/-
  The opening call's run, first half: what each window holds before and after the body at a grid point.

  The text follows the frame certificate's for a call of this class; it stands here since a call with this many windows
  needs a larger elaboration budget in two of its steps.
-/
module

public import proofs.«01_k».proof.Proof.Gen.PreIdeal.Launch
public import proofs.«01_k».proof.Proof.Gen.PreIdeal.Skeleton
public import proofs.«01_k».proof.Proof.Gen.PreIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.PreIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1860000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_PreIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S128x512 := Rect.unit (s := S128x512) ![0, 0] S128x512.size inb_S128x512_S128x512_0_0
abbrev r0_3 : Rect S2x1024x256 := Rect.unit (s := S2x1024x256) ![0, 0, 0] S1x128x256.size inb_S2x1024x256_S1x128x256_0_0_0
abbrev r0_4 : Rect S2x1024x256 := Rect.unit (s := S2x1024x256) ![1, 0, 0] S1x128x256.size inb_S2x1024x256_S1x128x256_1_0_0
abbrev r0_5 : Rect S2x1024x256 := Rect.unit (s := S2x1024x256) ![0, 128, 0] S1x128x256.size inb_S2x1024x256_S1x128x256_0_128_0
abbrev r0_6 : Rect S2x1024x256 := Rect.unit (s := S2x1024x256) ![1, 128, 0] S1x128x256.size inb_S2x1024x256_S1x128x256_1_128_0
abbrev r0_7 : Rect S2x1024x256 := Rect.unit (s := S2x1024x256) ![0, 256, 0] S1x128x256.size inb_S2x1024x256_S1x128x256_0_256_0
abbrev r0_8 : Rect S2x1024x256 := Rect.unit (s := S2x1024x256) ![1, 256, 0] S1x128x256.size inb_S2x1024x256_S1x128x256_1_256_0
abbrev r0_9 : Rect S2x1024x256 := Rect.unit (s := S2x1024x256) ![0, 384, 0] S1x128x256.size inb_S2x1024x256_S1x128x256_0_384_0
abbrev r0_10 : Rect S2x1024x256 := Rect.unit (s := S2x1024x256) ![1, 384, 0] S1x128x256.size inb_S2x1024x256_S1x128x256_1_384_0
abbrev r0_11 : Rect S2x1024x256 := Rect.unit (s := S2x1024x256) ![0, 512, 0] S1x128x256.size inb_S2x1024x256_S1x128x256_0_512_0
abbrev r0_12 : Rect S2x1024x256 := Rect.unit (s := S2x1024x256) ![1, 512, 0] S1x128x256.size inb_S2x1024x256_S1x128x256_1_512_0
abbrev r0_13 : Rect S2x1024x256 := Rect.unit (s := S2x1024x256) ![0, 640, 0] S1x128x256.size inb_S2x1024x256_S1x128x256_0_640_0
abbrev r0_14 : Rect S2x1024x256 := Rect.unit (s := S2x1024x256) ![1, 640, 0] S1x128x256.size inb_S2x1024x256_S1x128x256_1_640_0
abbrev r0_15 : Rect S2x1024x256 := Rect.unit (s := S2x1024x256) ![0, 768, 0] S1x128x256.size inb_S2x1024x256_S1x128x256_0_768_0
abbrev r0_16 : Rect S2x1024x256 := Rect.unit (s := S2x1024x256) ![1, 768, 0] S1x128x256.size inb_S2x1024x256_S1x128x256_1_768_0
abbrev r0_17 : Rect S2x1024x256 := Rect.unit (s := S2x1024x256) ![0, 896, 0] S1x128x256.size inb_S2x1024x256_S1x128x256_0_896_0
abbrev r0_18 : Rect S2x1024x256 := Rect.unit (s := S2x1024x256) ![1, 896, 0] S1x128x256.size inb_S2x1024x256_S1x128x256_1_896_0
abbrev r0_19 : Rect S1024x512 := Rect.unit (s := S1024x512) ![0, 0] S1024x512.size inb_S1024x512_S1024x512_0_0
abbrev r0_20 : Rect S512x128 := Rect.unit (s := S512x128) ![0, 0] S512x128.size inb_S512x128_S512x128_0_0
abbrev r0_21 : Rect S512x512 := Rect.unit (s := S512x512) ![0, 0] S512x128.size inb_S512x512_S512x128_0_0
abbrev r0_22 : Rect S1x2x512 := Rect.unit (s := S1x2x512) ![0, 0, 0] S1x1x128.size inb_S1x2x512_S1x1x128_0_0_0
abbrev r0_23 : Rect S1x2x512 := Rect.unit (s := S1x2x512) ![0, 1, 0] S1x1x128.size inb_S1x2x512_S1x1x128_0_1_0
abbrev r0_24 : Rect S512x512 := Rect.unit (s := S512x512) ![0, 128] S512x128.size inb_S512x512_S512x128_0_128
abbrev r0_25 : Rect S1x2x512 := Rect.unit (s := S1x2x512) ![0, 0, 128] S1x1x128.size inb_S1x2x512_S1x1x128_0_0_128
abbrev r0_26 : Rect S1x2x512 := Rect.unit (s := S1x2x512) ![0, 1, 128] S1x1x128.size inb_S1x2x512_S1x1x128_0_1_128
abbrev r0_27 : Rect S512x512 := Rect.unit (s := S512x512) ![0, 256] S512x128.size inb_S512x512_S512x128_0_256
abbrev r0_28 : Rect S1x2x512 := Rect.unit (s := S1x2x512) ![0, 0, 256] S1x1x128.size inb_S1x2x512_S1x1x128_0_0_256
abbrev r0_29 : Rect S1x2x512 := Rect.unit (s := S1x2x512) ![0, 1, 256] S1x1x128.size inb_S1x2x512_S1x1x128_0_1_256
abbrev r0_30 : Rect S512x512 := Rect.unit (s := S512x512) ![0, 384] S512x128.size inb_S512x512_S512x128_0_384
abbrev r0_31 : Rect S1x2x512 := Rect.unit (s := S1x2x512) ![0, 0, 384] S1x1x128.size inb_S1x2x512_S1x1x128_0_0_384
abbrev r0_32 : Rect S1x2x512 := Rect.unit (s := S1x2x512) ![0, 1, 384] S1x1x128.size inb_S1x2x512_S1x1x128_0_1_384
abbrev r0_33 : Rect S2x512x256 := Rect.unit (s := S2x512x256) ![0, 0, 0] S1x512x256.size inb_S2x512x256_S1x512x256_0_0_0
abbrev r0_34 : Rect S2x512x256 := Rect.unit (s := S2x512x256) ![1, 0, 0] S1x512x256.size inb_S2x512x256_S1x512x256_1_0_0
abbrev r0_35 : Rect S1024x2048 := Rect.unit (s := S1024x2048) ![0, 0] S1024x2048.size inb_S1024x2048_S1024x2048_0_0
abbrev r0_36 : Rect S1x2048 := Rect.unit (s := S1x2048) ![0, 0] S1x2048.size inb_S1x2048_S1x2048_0_0
abbrev r0_37 : Rect S512x2048 := Rect.unit (s := S512x2048) ![0, 0] S512x2048.size inb_S512x2048_S512x2048_0_0
abbrev r0_38 : Rect S384x1024 := Rect.unit (s := S384x1024) ![0, 0] S384x1024.size inb_S384x1024_S384x1024_0_0
abbrev r0_39 : Rect S384x512 := Rect.unit (s := S384x512) ![0, 0] S384x512.size inb_S384x512_S384x512_0_0
abbrev r0_40 : Rect S1024x384 := Rect.unit (s := S1024x384) ![0, 0] S1024x384.size inb_S1024x384_S1024x384_0_0
abbrev r0_41 : Rect S1024x256 := Rect.unit (s := S1024x256) ![0, 0] S1024x256.size inb_S1024x256_S1024x256_0_0
abbrev r0_42 : Rect S1x256 := Rect.unit (s := S1x256) ![0, 0] S1x256.size inb_S1x256_S1x256_0_0
abbrev r0_43 : Rect S256x1024 := Rect.unit (s := S256x1024) ![0, 0] S256x1024.size inb_S256x1024_S256x1024_0_0
abbrev r0_44 : Rect S1024x128 := Rect.unit (s := S1024x128) ![0, 0] S1024x128.size inb_S1024x128_S1024x128_0_0
abbrev r0_45 : Rect S512x1024 := Rect.unit (s := S512x1024) ![0, 0] S512x128.size inb_S512x1024_S512x128_0_0
abbrev r0_46 : Rect S512x1024 := Rect.unit (s := S512x1024) ![0, 128] S512x128.size inb_S512x1024_S512x128_0_128
abbrev r0_47 : Rect S512x1024 := Rect.unit (s := S512x1024) ![0, 256] S512x128.size inb_S512x1024_S512x128_0_256
abbrev r0_48 : Rect S512x1024 := Rect.unit (s := S512x1024) ![0, 384] S512x128.size inb_S512x1024_S512x128_0_384
abbrev r0_49 : Rect S512x1024 := Rect.unit (s := S512x1024) ![0, 512] S512x128.size inb_S512x1024_S512x128_0_512
abbrev r0_50 : Rect S512x1024 := Rect.unit (s := S512x1024) ![0, 640] S512x128.size inb_S512x1024_S512x128_0_640
abbrev r0_51 : Rect S512x1024 := Rect.unit (s := S512x1024) ![0, 768] S512x128.size inb_S512x1024_S512x128_0_768
abbrev r0_52 : Rect S512x1024 := Rect.unit (s := S512x1024) ![0, 896] S512x128.size inb_S512x1024_S512x128_0_896
abbrev r0_53 : Rect S512x256 := Rect.unit (s := S512x256) ![0, 0] S512x256.size inb_S512x256_S512x256_0_0

/-! ## What the body leaves in each output window's buffer -/

/-! ### Values of the body that the stores' payloads, spelt out, would write more than once

    Each is a vector the body binds (often a part call's result), stated over the input windows' blocks and
    numbered on from the skeleton's payload functions (`k0_pay125` …, after `k0_pay124`), so that
    `out0_W` and the values after it name it instead of spelling it out (`unfold_out out0_W` opens a canon
    with them, `unfold_payloads` opens them with the payloads); the comment after each is the printed function's
    name for the value (a count appended where that name is bound again). -/

def k0_pay125 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x1024 .bf16 :=
  k0_pay7 (View.ld x0 r0_0) (View.ld x1 r0_1) -- `v15`
def k0_pay126 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S1024x512 .bf16 :=
  k0_pay8 (View.ld x0 r0_0) (View.ld x1 r0_1) -- `v17`
def k0_pay127 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x512 .f32 :=
  k0_pay9 (View.ld x0 r0_0) (View.ld x1 r0_1) (View.ld x10 r0_0) -- `v20`
def k0_pay128 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : IVec S128x512 1 :=
  k0_pay10 -- `v39`
def k0_pay129 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay13 (k0_pay127 x0 x1 x2 x3 x4 x5 x6 x7 x8 x9 x10 x11 x12 x13 x14 x15 x16 x17 x18 x19 x20 x21 x22) (View.ld x6 r0_2) (View.ld x7 r0_2) -- `v57`
def k0_pay130 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay14 (k0_pay127 x0 x1 x2 x3 x4 x5 x6 x7 x8 x9 x10 x11 x12 x13 x14 x15 x16 x17 x18 x19 x20 x21 x22) (View.ld x6 r0_2) (View.ld x7 r0_2) -- `v64`
def k0_pay131 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay15 (k0_pay127 x0 x1 x2 x3 x4 x5 x6 x7 x8 x9 x10 x11 x12 x13 x14 x15 x16 x17 x18 x19 x20 x21 x22) (View.ld x6 r0_2) (View.ld x7 r0_2) -- `v71`
def k0_pay132 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay16 (k0_pay127 x0 x1 x2 x3 x4 x5 x6 x7 x8 x9 x10 x11 x12 x13 x14 x15 x16 x17 x18 x19 x20 x21 x22) (View.ld x6 r0_2) (View.ld x7 r0_2) -- `v73`
def k0_pay133 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay20 (F := F) -- `v86`
def k0_pay134 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay39 (k0_pay131 x0 x1 x2 x3 x4 x5 x6 x7 x8 x9 x10 x11 x12 x13 x14 x15 x16 x17 x18 x19 x20 x21 x22) -- `v151`
def k0_pay135 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay48 (View.ld x3 r0_20) -- `v181`
def k0_pay136 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay49 (k0_pay125 x0 x1 x2 x3 x4 x5 x6 x7 x8 x9 x10 x11 x12 x13 x14 x15 x16 x17 x18 x19 x20 x21 x22) (View.ld x11 r0_19) (View.ld x2 r0_20) (View.ld x3 r0_20) -- `v186`
def k0_pay137 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay50 (k0_pay125 x0 x1 x2 x3 x4 x5 x6 x7 x8 x9 x10 x11 x12 x13 x14 x15 x16 x17 x18 x19 x20 x21 x22) (View.ld x11 r0_19) (View.ld x2 r0_20) (View.ld x3 r0_20) -- `v191`
def k0_pay138 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay52 (View.ld x2 r0_20) (k0_pay135 x0 x1 x2 x3 x4 x5 x6 x7 x8 x9 x10 x11 x12 x13 x14 x15 x16 x17 x18 x19 x20 x21 x22) (k0_pay51 (k0_pay125 x0 x1 x2 x3 x4 x5 x6 x7 x8 x9 x10 x11 x12 x13 x14 x15 x16 x17 x18 x19 x20 x21 x22) (View.ld x11 r0_19)) -- `v196`
def k0_pay139 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay53 (k0_pay47 (k0_pay125 x0 x1 x2 x3 x4 x5 x6 x7 x8 x9 x10 x11 x12 x13 x14 x15 x16 x17 x18 x19 x20 x21 x22) (View.ld x11 r0_19)) (View.ld x2 r0_20) (k0_pay135 x0 x1 x2 x3 x4 x5 x6 x7 x8 x9 x10 x11 x12 x13 x14 x15 x16 x17 x18 x19 x20 x21 x22) -- `v201`
def k0_pay140 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S1024x512 .f32 :=
  k0_pay73 (k0_pay126 x0 x1 x2 x3 x4 x5 x6 x7 x8 x9 x10 x11 x12 x13 x14 x15 x16 x17 x18 x19 x20 x21 x22) (View.ld x13 r0_38) (View.ld x18 r0_39) (View.ld x19 r0_40) -- `v316`
def k0_pay141 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay74 (View.ld x8 r0_2) -- `v318`
def k0_pay142 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay75 (View.ld x9 r0_2) -- `v320`
def k0_pay143 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay76 (k0_pay126 x0 x1 x2 x3 x4 x5 x6 x7 x8 x9 x10 x11 x12 x13 x14 x15 x16 x17 x18 x19 x20 x21 x22) (View.ld x13 r0_38) (View.ld x18 r0_39) (View.ld x19 r0_40) (View.ld x8 r0_2) (View.ld x9 r0_2) -- `v327`
def k0_pay144 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay77 (k0_pay126 x0 x1 x2 x3 x4 x5 x6 x7 x8 x9 x10 x11 x12 x13 x14 x15 x16 x17 x18 x19 x20 x21 x22) (View.ld x13 r0_38) (View.ld x18 r0_39) (View.ld x19 r0_40) (View.ld x8 r0_2) (View.ld x9 r0_2) -- `v334`
def k0_pay145 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay80 (k0_pay141 x0 x1 x2 x3 x4 x5 x6 x7 x8 x9 x10 x11 x12 x13 x14 x15 x16 x17 x18 x19 x20 x21 x22) (k0_pay142 x0 x1 x2 x3 x4 x5 x6 x7 x8 x9 x10 x11 x12 x13 x14 x15 x16 x17 x18 x19 x20 x21 x22) (k0_pay78 (k0_pay126 x0 x1 x2 x3 x4 x5 x6 x7 x8 x9 x10 x11 x12 x13 x14 x15 x16 x17 x18 x19 x20 x21 x22) (View.ld x13 r0_38) (View.ld x18 r0_39) (View.ld x19 r0_40)) (k0_pay79 (k0_pay126 x0 x1 x2 x3 x4 x5 x6 x7 x8 x9 x10 x11 x12 x13 x14 x15 x16 x17 x18 x19 x20 x21 x22) (View.ld x13 r0_38) (View.ld x18 r0_39) (View.ld x19 r0_40)) -- `v341`
def k0_pay146 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay81 (k0_pay140 x0 x1 x2 x3 x4 x5 x6 x7 x8 x9 x10 x11 x12 x13 x14 x15 x16 x17 x18 x19 x20 x21 x22) (k0_pay141 x0 x1 x2 x3 x4 x5 x6 x7 x8 x9 x10 x11 x12 x13 x14 x15 x16 x17 x18 x19 x20 x21 x22) (k0_pay142 x0 x1 x2 x3 x4 x5 x6 x7 x8 x9 x10 x11 x12 x13 x14 x15 x16 x17 x18 x19 x20 x21 x22) -- `v348`
def k0_pay147 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay82 (k0_pay140 x0 x1 x2 x3 x4 x5 x6 x7 x8 x9 x10 x11 x12 x13 x14 x15 x16 x17 x18 x19 x20 x21 x22) (k0_pay141 x0 x1 x2 x3 x4 x5 x6 x7 x8 x9 x10 x11 x12 x13 x14 x15 x16 x17 x18 x19 x20 x21 x22) (k0_pay142 x0 x1 x2 x3 x4 x5 x6 x7 x8 x9 x10 x11 x12 x13 x14 x15 x16 x17 x18 x19 x20 x21 x22) -- `v355`
def k0_pay148 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay83 (k0_pay140 x0 x1 x2 x3 x4 x5 x6 x7 x8 x9 x10 x11 x12 x13 x14 x15 x16 x17 x18 x19 x20 x21 x22) (k0_pay141 x0 x1 x2 x3 x4 x5 x6 x7 x8 x9 x10 x11 x12 x13 x14 x15 x16 x17 x18 x19 x20 x21 x22) (k0_pay142 x0 x1 x2 x3 x4 x5 x6 x7 x8 x9 x10 x11 x12 x13 x14 x15 x16 x17 x18 x19 x20 x21 x22) -- `v362`
def k0_pay149 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay84 (k0_pay140 x0 x1 x2 x3 x4 x5 x6 x7 x8 x9 x10 x11 x12 x13 x14 x15 x16 x17 x18 x19 x20 x21 x22) (k0_pay141 x0 x1 x2 x3 x4 x5 x6 x7 x8 x9 x10 x11 x12 x13 x14 x15 x16 x17 x18 x19 x20 x21 x22) (k0_pay142 x0 x1 x2 x3 x4 x5 x6 x7 x8 x9 x10 x11 x12 x13 x14 x15 x16 x17 x18 x19 x20 x21 x22) -- `v369`
def k0_pay150 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S128x512 .f32 :=
  k0_pay85 (k0_pay140 x0 x1 x2 x3 x4 x5 x6 x7 x8 x9 x10 x11 x12 x13 x14 x15 x16 x17 x18 x19 x20 x21 x22) (k0_pay141 x0 x1 x2 x3 x4 x5 x6 x7 x8 x9 x10 x11 x12 x13 x14 x15 x16 x17 x18 x19 x20 x21 x22) (k0_pay142 x0 x1 x2 x3 x4 x5 x6 x7 x8 x9 x10 x11 x12 x13 x14 x15 x16 x17 x18 x19 x20 x21 x22) -- `v376`
def k0_pay151 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay112 (View.ld x4 r0_20) -- `v474`
def k0_pay152 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay113 (View.ld x5 r0_20) -- `v476`
def k0_pay153 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x256 .f32 :=
  k0_pay114 (k0_pay125 x0 x1 x2 x3 x4 x5 x6 x7 x8 x9 x10 x11 x12 x13 x14 x15 x16 x17 x18 x19 x20 x21 x22) (View.ld x14 r0_41) -- `v491`
def k0_pay154 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x256 .f32 :=
  k0_pay115 (View.ld x20 r0_42) -- `v492`
def k0_pay155 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x256 .f32 :=
  k0_pay116 (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) -- `v493`
def k0_pay156 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x1024 .f32 :=
  k0_pay117 (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) (View.ld x21 r0_43) -- `v497`
def k0_pay157 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : FVec F S512x128 .f32 :=
  k0_pay118 (k0_pay125 x0 x1 x2 x3 x4 x5 x6 x7 x8 x9 x10 x11 x12 x13 x14 x15 x16 x17 x18 x19 x20 x21 x22) (k0_pay151 x0 x1 x2 x3 x4 x5 x6 x7 x8 x9 x10 x11 x12 x13 x14 x15 x16 x17 x18 x19 x20 x21 x22) (k0_pay152 x0 x1 x2 x3 x4 x5 x6 x7 x8 x9 x10 x11 x12 x13 x14 x15 x16 x17 x18 x19 x20 x21 x22) (View.ld x15 r0_44) -- `v504`

/-- Window 23's staging buffer after the body, from the input windows' blocks: its 16 stores as pieces, LAST
    FIRST (Lib/Pipeline/FrameBody.lean `View.canon`; the payloads are the skeleton's and the values stated above). -/
def out0_23 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S2x1024x256 .bf16 :=
  View.canon [⟨r0_18, k0_pay46 (k0_pay128 x0 x1 x2 x3 x4 x5 x6 x7 x8 x9 x10 x11 x12 x13 x14 x15 x16 x17 x18 x19 x20 x21 x22) (k0_pay134 x0 x1 x2 x3 x4 x5 x6 x7 x8 x9 x10 x11 x12 x13 x14 x15 x16 x17 x18 x19 x20 x21 x22)⟩,
    ⟨r0_17, k0_pay45 (k0_pay128 x0 x1 x2 x3 x4 x5 x6 x7 x8 x9 x10 x11 x12 x13 x14 x15 x16 x17 x18 x19 x20 x21 x22) (k0_pay134 x0 x1 x2 x3 x4 x5 x6 x7 x8 x9 x10 x11 x12 x13 x14 x15 x16 x17 x18 x19 x20 x21 x22)⟩,
    ⟨r0_16, k0_pay43 (k0_pay40 (k0_pay128 x0 x1 x2 x3 x4 x5 x6 x7 x8 x9 x10 x11 x12 x13 x14 x15 x16 x17 x18 x19 x20 x21 x22) (k0_pay131 x0 x1 x2 x3 x4 x5 x6 x7 x8 x9 x10 x11 x12 x13 x14 x15 x16 x17 x18 x19 x20 x21 x22))⟩,
    ⟨r0_15, k0_pay42 (k0_pay41 (k0_pay128 x0 x1 x2 x3 x4 x5 x6 x7 x8 x9 x10 x11 x12 x13 x14 x15 x16 x17 x18 x19 x20 x21 x22) (k0_pay131 x0 x1 x2 x3 x4 x5 x6 x7 x8 x9 x10 x11 x12 x13 x14 x15 x16 x17 x18 x19 x20 x21 x22))⟩,
    ⟨r0_14, k0_pay38 (k0_pay128 x0 x1 x2 x3 x4 x5 x6 x7 x8 x9 x10 x11 x12 x13 x14 x15 x16 x17 x18 x19 x20 x21 x22) (k0_pay130 x0 x1 x2 x3 x4 x5 x6 x7 x8 x9 x10 x11 x12 x13 x14 x15 x16 x17 x18 x19 x20 x21 x22)⟩,
    ⟨r0_13, k0_pay37 (k0_pay128 x0 x1 x2 x3 x4 x5 x6 x7 x8 x9 x10 x11 x12 x13 x14 x15 x16 x17 x18 x19 x20 x21 x22) (k0_pay130 x0 x1 x2 x3 x4 x5 x6 x7 x8 x9 x10 x11 x12 x13 x14 x15 x16 x17 x18 x19 x20 x21 x22)⟩,
    ⟨r0_12, k0_pay35 (k0_pay128 x0 x1 x2 x3 x4 x5 x6 x7 x8 x9 x10 x11 x12 x13 x14 x15 x16 x17 x18 x19 x20 x21 x22) (k0_pay130 x0 x1 x2 x3 x4 x5 x6 x7 x8 x9 x10 x11 x12 x13 x14 x15 x16 x17 x18 x19 x20 x21 x22)⟩,
    ⟨r0_11, k0_pay34 (k0_pay128 x0 x1 x2 x3 x4 x5 x6 x7 x8 x9 x10 x11 x12 x13 x14 x15 x16 x17 x18 x19 x20 x21 x22) (k0_pay130 x0 x1 x2 x3 x4 x5 x6 x7 x8 x9 x10 x11 x12 x13 x14 x15 x16 x17 x18 x19 x20 x21 x22)⟩,
    ⟨r0_10, k0_pay31 (k0_pay30 (k0_pay128 x0 x1 x2 x3 x4 x5 x6 x7 x8 x9 x10 x11 x12 x13 x14 x15 x16 x17 x18 x19 x20 x21 x22) (k0_pay129 x0 x1 x2 x3 x4 x5 x6 x7 x8 x9 x10 x11 x12 x13 x14 x15 x16 x17 x18 x19 x20 x21 x22))⟩,
    ⟨r0_9, k0_pay29 (k0_pay128 x0 x1 x2 x3 x4 x5 x6 x7 x8 x9 x10 x11 x12 x13 x14 x15 x16 x17 x18 x19 x20 x21 x22) (k0_pay129 x0 x1 x2 x3 x4 x5 x6 x7 x8 x9 x10 x11 x12 x13 x14 x15 x16 x17 x18 x19 x20 x21 x22)⟩,
    ⟨r0_8, k0_pay27 (k0_pay128 x0 x1 x2 x3 x4 x5 x6 x7 x8 x9 x10 x11 x12 x13 x14 x15 x16 x17 x18 x19 x20 x21 x22) (k0_pay129 x0 x1 x2 x3 x4 x5 x6 x7 x8 x9 x10 x11 x12 x13 x14 x15 x16 x17 x18 x19 x20 x21 x22)⟩,
    ⟨r0_7, k0_pay26 (k0_pay128 x0 x1 x2 x3 x4 x5 x6 x7 x8 x9 x10 x11 x12 x13 x14 x15 x16 x17 x18 x19 x20 x21 x22) (k0_pay129 x0 x1 x2 x3 x4 x5 x6 x7 x8 x9 x10 x11 x12 x13 x14 x15 x16 x17 x18 x19 x20 x21 x22)⟩,
    ⟨r0_6, k0_pay23 (k0_pay128 x0 x1 x2 x3 x4 x5 x6 x7 x8 x9 x10 x11 x12 x13 x14 x15 x16 x17 x18 x19 x20 x21 x22) (k0_pay132 x0 x1 x2 x3 x4 x5 x6 x7 x8 x9 x10 x11 x12 x13 x14 x15 x16 x17 x18 x19 x20 x21 x22) (k0_pay133 x0 x1 x2 x3 x4 x5 x6 x7 x8 x9 x10 x11 x12 x13 x14 x15 x16 x17 x18 x19 x20 x21 x22)⟩,
    ⟨r0_5, k0_pay22 (k0_pay128 x0 x1 x2 x3 x4 x5 x6 x7 x8 x9 x10 x11 x12 x13 x14 x15 x16 x17 x18 x19 x20 x21 x22) (k0_pay132 x0 x1 x2 x3 x4 x5 x6 x7 x8 x9 x10 x11 x12 x13 x14 x15 x16 x17 x18 x19 x20 x21 x22) (k0_pay133 x0 x1 x2 x3 x4 x5 x6 x7 x8 x9 x10 x11 x12 x13 x14 x15 x16 x17 x18 x19 x20 x21 x22)⟩,
    ⟨r0_4, k0_pay19 (k0_pay127 x0 x1 x2 x3 x4 x5 x6 x7 x8 x9 x10 x11 x12 x13 x14 x15 x16 x17 x18 x19 x20 x21 x22) (k0_pay128 x0 x1 x2 x3 x4 x5 x6 x7 x8 x9 x10 x11 x12 x13 x14 x15 x16 x17 x18 x19 x20 x21 x22) (View.ld x6 r0_2) (View.ld x7 r0_2)⟩,
    ⟨r0_3, k0_pay18 (k0_pay127 x0 x1 x2 x3 x4 x5 x6 x7 x8 x9 x10 x11 x12 x13 x14 x15 x16 x17 x18 x19 x20 x21 x22) (k0_pay128 x0 x1 x2 x3 x4 x5 x6 x7 x8 x9 x10 x11 x12 x13 x14 x15 x16 x17 x18 x19 x20 x21 x22) (View.ld x6 r0_2) (View.ld x7 r0_2)⟩]

/-- Its stores tile the buffer (checked by evaluation), so they cover it. -/
theorem cover0_23 (p0 : Vec F S1x128x256 .bf16) (p1 : Vec F S1x128x256 .bf16) (p2 : Vec F S1x128x256 .bf16) (p3 : Vec F S1x128x256 .bf16) (p4 : Vec F S1x128x256 .bf16) (p5 : Vec F S1x128x256 .bf16) (p6 : Vec F S1x128x256 .bf16) (p7 : Vec F S1x128x256 .bf16) (p8 : Vec F S1x128x256 .bf16) (p9 : Vec F S1x128x256 .bf16) (p10 : Vec F S1x128x256 .bf16) (p11 : Vec F S1x128x256 .bf16) (p12 : Vec F S1x128x256 .bf16) (p13 : Vec F S1x128x256 .bf16) (p14 : Vec F S1x128x256 .bf16) (p15 : Vec F S1x128x256 .bf16) (y : S2x1024x256.Idx) :
    ∃ pc ∈ ([⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] : List (View.Piece (Elt F) S2x1024x256 .bf16)), y ∈ pc.1.set :=
  View.cover_of_tiled [⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] S1x128x256.size (by rfl) y

/-- Window 24's staging buffer after the body, from the input windows' blocks: its 4 stores as pieces, LAST
    FIRST (Lib/Pipeline/FrameBody.lean `View.canon`; the payloads are the skeleton's and the values stated above). -/
def out0_24 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S512x512 .bf16 :=
  View.canon [⟨r0_30, k0_pay64 (k0_pay139 x0 x1 x2 x3 x4 x5 x6 x7 x8 x9 x10 x11 x12 x13 x14 x15 x16 x17 x18 x19 x20 x21 x22)⟩,
    ⟨r0_27, k0_pay61 (k0_pay138 x0 x1 x2 x3 x4 x5 x6 x7 x8 x9 x10 x11 x12 x13 x14 x15 x16 x17 x18 x19 x20 x21 x22)⟩,
    ⟨r0_24, k0_pay57 (k0_pay137 x0 x1 x2 x3 x4 x5 x6 x7 x8 x9 x10 x11 x12 x13 x14 x15 x16 x17 x18 x19 x20 x21 x22)⟩,
    ⟨r0_21, k0_pay54 (k0_pay136 x0 x1 x2 x3 x4 x5 x6 x7 x8 x9 x10 x11 x12 x13 x14 x15 x16 x17 x18 x19 x20 x21 x22)⟩]

/-- Its stores tile the buffer (checked by evaluation), so they cover it. -/
theorem cover0_24 (p0 : Vec F S512x128 .bf16) (p1 : Vec F S512x128 .bf16) (p2 : Vec F S512x128 .bf16) (p3 : Vec F S512x128 .bf16) (y : S512x512.Idx) :
    ∃ pc ∈ ([⟨r0_30, p0⟩, ⟨r0_27, p1⟩, ⟨r0_24, p2⟩, ⟨r0_21, p3⟩] : List (View.Piece (Elt F) S512x512 .bf16)), y ∈ pc.1.set :=
  View.cover_of_tiled [⟨r0_30, p0⟩, ⟨r0_27, p1⟩, ⟨r0_24, p2⟩, ⟨r0_21, p3⟩] S512x128.size (by rfl) y

/-- Window 25's staging buffer after the body, from the input windows' blocks: its 2 stores as pieces, LAST
    FIRST (Lib/Pipeline/FrameBody.lean `View.canon`; the payloads are the skeleton's and the values stated above). -/
def out0_25 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S2x512x256 .bf16 :=
  View.canon [⟨r0_34, k0_pay70 (k0_pay126 x0 x1 x2 x3 x4 x5 x6 x7 x8 x9 x10 x11 x12 x13 x14 x15 x16 x17 x18 x19 x20 x21 x22) (View.ld x12 r0_0)⟩,
    ⟨r0_33, k0_pay69 (k0_pay126 x0 x1 x2 x3 x4 x5 x6 x7 x8 x9 x10 x11 x12 x13 x14 x15 x16 x17 x18 x19 x20 x21 x22) (View.ld x12 r0_0)⟩]

/-- Its stores tile the buffer (checked by evaluation), so they cover it. -/
theorem cover0_25 (p0 : Vec F S1x512x256 .bf16) (p1 : Vec F S1x512x256 .bf16) (y : S2x512x256.Idx) :
    ∃ pc ∈ ([⟨r0_34, p0⟩, ⟨r0_33, p1⟩] : List (View.Piece (Elt F) S2x512x256 .bf16)), y ∈ pc.1.set :=
  View.cover_of_tiled [⟨r0_34, p0⟩, ⟨r0_33, p1⟩] S1x512x256.size (by rfl) y

/-- Window 26's staging buffer after the body, from the input windows' blocks: its 8 stores as pieces, LAST
    FIRST (Lib/Pipeline/FrameBody.lean `View.canon`; the payloads are the skeleton's and the values stated above). -/
def out0_26 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S1x2x512 .f32 :=
  View.canon [⟨r0_32, k0_pay67 (k0_pay139 x0 x1 x2 x3 x4 x5 x6 x7 x8 x9 x10 x11 x12 x13 x14 x15 x16 x17 x18 x19 x20 x21 x22)⟩,
    ⟨r0_31, k0_pay66 (k0_pay65 (k0_pay139 x0 x1 x2 x3 x4 x5 x6 x7 x8 x9 x10 x11 x12 x13 x14 x15 x16 x17 x18 x19 x20 x21 x22)) (Scalar.ofBits .f32 0x43800000#32)⟩,
    ⟨r0_29, k0_pay63 (k0_pay138 x0 x1 x2 x3 x4 x5 x6 x7 x8 x9 x10 x11 x12 x13 x14 x15 x16 x17 x18 x19 x20 x21 x22)⟩,
    ⟨r0_28, k0_pay62 (k0_pay138 x0 x1 x2 x3 x4 x5 x6 x7 x8 x9 x10 x11 x12 x13 x14 x15 x16 x17 x18 x19 x20 x21 x22)⟩,
    ⟨r0_26, k0_pay60 (k0_pay137 x0 x1 x2 x3 x4 x5 x6 x7 x8 x9 x10 x11 x12 x13 x14 x15 x16 x17 x18 x19 x20 x21 x22)⟩,
    ⟨r0_25, k0_pay59 (k0_pay58 (k0_pay137 x0 x1 x2 x3 x4 x5 x6 x7 x8 x9 x10 x11 x12 x13 x14 x15 x16 x17 x18 x19 x20 x21 x22))⟩,
    ⟨r0_23, k0_pay56 (k0_pay136 x0 x1 x2 x3 x4 x5 x6 x7 x8 x9 x10 x11 x12 x13 x14 x15 x16 x17 x18 x19 x20 x21 x22)⟩,
    ⟨r0_22, k0_pay55 (k0_pay136 x0 x1 x2 x3 x4 x5 x6 x7 x8 x9 x10 x11 x12 x13 x14 x15 x16 x17 x18 x19 x20 x21 x22)⟩]

/-- Its stores tile the buffer (checked by evaluation), so they cover it. -/
theorem cover0_26 (p0 : Vec F S1x1x128 .f32) (p1 : Vec F S1x1x128 .f32) (p2 : Vec F S1x1x128 .f32) (p3 : Vec F S1x1x128 .f32) (p4 : Vec F S1x1x128 .f32) (p5 : Vec F S1x1x128 .f32) (p6 : Vec F S1x1x128 .f32) (p7 : Vec F S1x1x128 .f32) (y : S1x2x512.Idx) :
    ∃ pc ∈ ([⟨r0_32, p0⟩, ⟨r0_31, p1⟩, ⟨r0_29, p2⟩, ⟨r0_28, p3⟩, ⟨r0_26, p4⟩, ⟨r0_25, p5⟩, ⟨r0_23, p6⟩, ⟨r0_22, p7⟩] : List (View.Piece (Elt F) S1x2x512 .f32)), y ∈ pc.1.set :=
  View.cover_of_tiled [⟨r0_32, p0⟩, ⟨r0_31, p1⟩, ⟨r0_29, p2⟩, ⟨r0_28, p3⟩, ⟨r0_26, p4⟩, ⟨r0_25, p5⟩, ⟨r0_23, p6⟩, ⟨r0_22, p7⟩] S1x1x128.size (by rfl) y

/-- Window 27's staging buffer after the body, from the input windows' blocks: its 1 store as pieces, LAST
    FIRST (Lib/Pipeline/FrameBody.lean `View.canon`; the payloads are the skeleton's and the values stated above). -/
def out0_27 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S512x2048 .bf16 :=
  View.canon [⟨r0_37, k0_pay72 (k0_pay71 (k0_pay125 x0 x1 x2 x3 x4 x5 x6 x7 x8 x9 x10 x11 x12 x13 x14 x15 x16 x17 x18 x19 x20 x21 x22) (View.ld x16 r0_35) (View.ld x17 r0_36))⟩]

/-- Its stores tile the buffer (checked by evaluation), so they cover it. -/
theorem cover0_27 (p0 : Vec F S512x2048 .bf16) (y : S512x2048.Idx) :
    ∃ pc ∈ ([⟨r0_37, p0⟩] : List (View.Piece (Elt F) S512x2048 .bf16)), y ∈ pc.1.set :=
  View.cover_of_tiled [⟨r0_37, p0⟩] S512x2048.size (by rfl) y

/-- Window 28's staging buffer after the body, from the input windows' blocks: its 16 stores as pieces, LAST
    FIRST (Lib/Pipeline/FrameBody.lean `View.canon`; the payloads are the skeleton's and the values stated above). -/
def out0_28 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S2x1024x256 .bf16 :=
  View.canon [⟨r0_18, k0_pay111 (k0_pay150 x0 x1 x2 x3 x4 x5 x6 x7 x8 x9 x10 x11 x12 x13 x14 x15 x16 x17 x18 x19 x20 x21 x22)⟩,
    ⟨r0_17, k0_pay110 (k0_pay150 x0 x1 x2 x3 x4 x5 x6 x7 x8 x9 x10 x11 x12 x13 x14 x15 x16 x17 x18 x19 x20 x21 x22)⟩,
    ⟨r0_16, k0_pay108 (k0_pay107 (k0_pay149 x0 x1 x2 x3 x4 x5 x6 x7 x8 x9 x10 x11 x12 x13 x14 x15 x16 x17 x18 x19 x20 x21 x22))⟩,
    ⟨r0_15, k0_pay106 (k0_pay149 x0 x1 x2 x3 x4 x5 x6 x7 x8 x9 x10 x11 x12 x13 x14 x15 x16 x17 x18 x19 x20 x21 x22)⟩,
    ⟨r0_14, k0_pay104 (k0_pay148 x0 x1 x2 x3 x4 x5 x6 x7 x8 x9 x10 x11 x12 x13 x14 x15 x16 x17 x18 x19 x20 x21 x22)⟩,
    ⟨r0_13, k0_pay103 (k0_pay148 x0 x1 x2 x3 x4 x5 x6 x7 x8 x9 x10 x11 x12 x13 x14 x15 x16 x17 x18 x19 x20 x21 x22)⟩,
    ⟨r0_12, k0_pay101 (k0_pay147 x0 x1 x2 x3 x4 x5 x6 x7 x8 x9 x10 x11 x12 x13 x14 x15 x16 x17 x18 x19 x20 x21 x22)⟩,
    ⟨r0_11, k0_pay100 (k0_pay147 x0 x1 x2 x3 x4 x5 x6 x7 x8 x9 x10 x11 x12 x13 x14 x15 x16 x17 x18 x19 x20 x21 x22)⟩,
    ⟨r0_10, k0_pay98 (k0_pay97 (k0_pay146 x0 x1 x2 x3 x4 x5 x6 x7 x8 x9 x10 x11 x12 x13 x14 x15 x16 x17 x18 x19 x20 x21 x22))⟩,
    ⟨r0_9, k0_pay96 (k0_pay146 x0 x1 x2 x3 x4 x5 x6 x7 x8 x9 x10 x11 x12 x13 x14 x15 x16 x17 x18 x19 x20 x21 x22)⟩,
    ⟨r0_8, k0_pay94 (k0_pay145 x0 x1 x2 x3 x4 x5 x6 x7 x8 x9 x10 x11 x12 x13 x14 x15 x16 x17 x18 x19 x20 x21 x22)⟩,
    ⟨r0_7, k0_pay93 (k0_pay145 x0 x1 x2 x3 x4 x5 x6 x7 x8 x9 x10 x11 x12 x13 x14 x15 x16 x17 x18 x19 x20 x21 x22)⟩,
    ⟨r0_6, k0_pay91 (k0_pay144 x0 x1 x2 x3 x4 x5 x6 x7 x8 x9 x10 x11 x12 x13 x14 x15 x16 x17 x18 x19 x20 x21 x22)⟩,
    ⟨r0_5, k0_pay90 (k0_pay144 x0 x1 x2 x3 x4 x5 x6 x7 x8 x9 x10 x11 x12 x13 x14 x15 x16 x17 x18 x19 x20 x21 x22)⟩,
    ⟨r0_4, k0_pay88 (k0_pay143 x0 x1 x2 x3 x4 x5 x6 x7 x8 x9 x10 x11 x12 x13 x14 x15 x16 x17 x18 x19 x20 x21 x22)⟩,
    ⟨r0_3, k0_pay87 (k0_pay143 x0 x1 x2 x3 x4 x5 x6 x7 x8 x9 x10 x11 x12 x13 x14 x15 x16 x17 x18 x19 x20 x21 x22)⟩]

/-- Its stores tile the buffer (checked by evaluation), so they cover it. -/
theorem cover0_28 (p0 : Vec F S1x128x256 .bf16) (p1 : Vec F S1x128x256 .bf16) (p2 : Vec F S1x128x256 .bf16) (p3 : Vec F S1x128x256 .bf16) (p4 : Vec F S1x128x256 .bf16) (p5 : Vec F S1x128x256 .bf16) (p6 : Vec F S1x128x256 .bf16) (p7 : Vec F S1x128x256 .bf16) (p8 : Vec F S1x128x256 .bf16) (p9 : Vec F S1x128x256 .bf16) (p10 : Vec F S1x128x256 .bf16) (p11 : Vec F S1x128x256 .bf16) (p12 : Vec F S1x128x256 .bf16) (p13 : Vec F S1x128x256 .bf16) (p14 : Vec F S1x128x256 .bf16) (p15 : Vec F S1x128x256 .bf16) (y : S2x1024x256.Idx) :
    ∃ pc ∈ ([⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] : List (View.Piece (Elt F) S2x1024x256 .bf16)), y ∈ pc.1.set :=
  View.cover_of_tiled [⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] S1x128x256.size (by rfl) y

/-- Window 29's staging buffer after the body, from the input windows' blocks: its 8 stores as pieces, LAST
    FIRST (Lib/Pipeline/FrameBody.lean `View.canon`; the payloads are the skeleton's and the values stated above). -/
def out0_29 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S512x1024 .bf16 :=
  View.canon [⟨r0_52, k0_pay2 (k0_pay156 x0 x1 x2 x3 x4 x5 x6 x7 x8 x9 x10 x11 x12 x13 x14 x15 x16 x17 x18 x19 x20 x21 x22) (k0_pay157 x0 x1 x2 x3 x4 x5 x6 x7 x8 x9 x10 x11 x12 x13 x14 x15 x16 x17 x18 x19 x20 x21 x22)⟩,
    ⟨r0_51, k0_pay1 (k0_pay156 x0 x1 x2 x3 x4 x5 x6 x7 x8 x9 x10 x11 x12 x13 x14 x15 x16 x17 x18 x19 x20 x21 x22) (k0_pay157 x0 x1 x2 x3 x4 x5 x6 x7 x8 x9 x10 x11 x12 x13 x14 x15 x16 x17 x18 x19 x20 x21 x22)⟩,
    ⟨r0_50, k0_pay124 (k0_pay125 x0 x1 x2 x3 x4 x5 x6 x7 x8 x9 x10 x11 x12 x13 x14 x15 x16 x17 x18 x19 x20 x21 x22) (k0_pay151 x0 x1 x2 x3 x4 x5 x6 x7 x8 x9 x10 x11 x12 x13 x14 x15 x16 x17 x18 x19 x20 x21 x22) (k0_pay152 x0 x1 x2 x3 x4 x5 x6 x7 x8 x9 x10 x11 x12 x13 x14 x15 x16 x17 x18 x19 x20 x21 x22) (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) (View.ld x21 r0_43) (View.ld x15 r0_44)⟩,
    ⟨r0_49, k0_pay123 (k0_pay125 x0 x1 x2 x3 x4 x5 x6 x7 x8 x9 x10 x11 x12 x13 x14 x15 x16 x17 x18 x19 x20 x21 x22) (k0_pay151 x0 x1 x2 x3 x4 x5 x6 x7 x8 x9 x10 x11 x12 x13 x14 x15 x16 x17 x18 x19 x20 x21 x22) (k0_pay152 x0 x1 x2 x3 x4 x5 x6 x7 x8 x9 x10 x11 x12 x13 x14 x15 x16 x17 x18 x19 x20 x21 x22) (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) (View.ld x21 r0_43) (View.ld x15 r0_44)⟩,
    ⟨r0_48, k0_pay122 (k0_pay125 x0 x1 x2 x3 x4 x5 x6 x7 x8 x9 x10 x11 x12 x13 x14 x15 x16 x17 x18 x19 x20 x21 x22) (k0_pay151 x0 x1 x2 x3 x4 x5 x6 x7 x8 x9 x10 x11 x12 x13 x14 x15 x16 x17 x18 x19 x20 x21 x22) (k0_pay152 x0 x1 x2 x3 x4 x5 x6 x7 x8 x9 x10 x11 x12 x13 x14 x15 x16 x17 x18 x19 x20 x21 x22) (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) (View.ld x21 r0_43) (View.ld x15 r0_44)⟩,
    ⟨r0_47, k0_pay121 (k0_pay125 x0 x1 x2 x3 x4 x5 x6 x7 x8 x9 x10 x11 x12 x13 x14 x15 x16 x17 x18 x19 x20 x21 x22) (k0_pay151 x0 x1 x2 x3 x4 x5 x6 x7 x8 x9 x10 x11 x12 x13 x14 x15 x16 x17 x18 x19 x20 x21 x22) (k0_pay152 x0 x1 x2 x3 x4 x5 x6 x7 x8 x9 x10 x11 x12 x13 x14 x15 x16 x17 x18 x19 x20 x21 x22) (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) (View.ld x21 r0_43) (View.ld x15 r0_44)⟩,
    ⟨r0_46, k0_pay120 (k0_pay125 x0 x1 x2 x3 x4 x5 x6 x7 x8 x9 x10 x11 x12 x13 x14 x15 x16 x17 x18 x19 x20 x21 x22) (k0_pay151 x0 x1 x2 x3 x4 x5 x6 x7 x8 x9 x10 x11 x12 x13 x14 x15 x16 x17 x18 x19 x20 x21 x22) (k0_pay152 x0 x1 x2 x3 x4 x5 x6 x7 x8 x9 x10 x11 x12 x13 x14 x15 x16 x17 x18 x19 x20 x21 x22) (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) (View.ld x21 r0_43) (View.ld x15 r0_44)⟩,
    ⟨r0_45, k0_pay119 (k0_pay125 x0 x1 x2 x3 x4 x5 x6 x7 x8 x9 x10 x11 x12 x13 x14 x15 x16 x17 x18 x19 x20 x21 x22) (k0_pay151 x0 x1 x2 x3 x4 x5 x6 x7 x8 x9 x10 x11 x12 x13 x14 x15 x16 x17 x18 x19 x20 x21 x22) (k0_pay152 x0 x1 x2 x3 x4 x5 x6 x7 x8 x9 x10 x11 x12 x13 x14 x15 x16 x17 x18 x19 x20 x21 x22) (k0_pay153 x0 x1 x2 x3 x4 x5 x6 x7 x8 x9 x10 x11 x12 x13 x14 x15 x16 x17 x18 x19 x20 x21 x22) (k0_pay154 x0 x1 x2 x3 x4 x5 x6 x7 x8 x9 x10 x11 x12 x13 x14 x15 x16 x17 x18 x19 x20 x21 x22) (View.ld x21 r0_43) (View.ld x15 r0_44)⟩]

/-- Its stores tile the buffer (checked by evaluation), so they cover it. -/
theorem cover0_29 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_52, p0⟩, ⟨r0_51, p1⟩, ⟨r0_50, p2⟩, ⟨r0_49, p3⟩, ⟨r0_48, p4⟩, ⟨r0_47, p5⟩, ⟨r0_46, p6⟩, ⟨r0_45, p7⟩] : List (View.Piece (Elt F) S512x1024 .bf16)), y ∈ pc.1.set :=
  View.cover_of_tiled [⟨r0_52, p0⟩, ⟨r0_51, p1⟩, ⟨r0_50, p2⟩, ⟨r0_49, p3⟩, ⟨r0_48, p4⟩, ⟨r0_47, p5⟩, ⟨r0_46, p6⟩, ⟨r0_45, p7⟩] S512x128.size (by rfl) y

/-- Window 30's staging buffer after the body, from the input windows' blocks: its 2 stores as pieces, LAST
    FIRST (Lib/Pipeline/FrameBody.lean `View.canon`; the payloads are the skeleton's and the values stated above). -/
def out0_30 (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) : Vec F S2x512x256 .bf16 :=
  View.canon [⟨r0_34, k0_pay5 (k0_pay155 x0 x1 x2 x3 x4 x5 x6 x7 x8 x9 x10 x11 x12 x13 x14 x15 x16 x17 x18 x19 x20 x21 x22) (View.ld x22 r0_53)⟩,
    ⟨r0_33, k0_pay4 (k0_pay155 x0 x1 x2 x3 x4 x5 x6 x7 x8 x9 x10 x11 x12 x13 x14 x15 x16 x17 x18 x19 x20 x21 x22) (View.ld x22 r0_53)⟩]

/-- Its stores tile the buffer (checked by evaluation), so they cover it. -/
theorem cover0_30 (p0 : Vec F S1x512x256 .bf16) (p1 : Vec F S1x512x256 .bf16) (y : S2x512x256.Idx) :
    ∃ pc ∈ ([⟨r0_34, p0⟩, ⟨r0_33, p1⟩] : List (View.Piece (Elt F) S2x512x256 .bf16)), y ∈ pc.1.set :=
  View.cover_of_tiled [⟨r0_34, p0⟩, ⟨r0_33, p1⟩] S1x512x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S384x1024 .bf16) (harg14 : arg14.IsWhole) (arg15 : Memref sig .tc .vmem S1024x256 .bf16) (harg15 : arg15.IsWhole) (arg16 : Memref sig .tc .vmem S1024x128 .bf16) (harg16 : arg16.IsWhole) (arg17 : Memref sig .tc .vmem S1024x2048 .bf16) (harg17 : arg17.IsWhole) (arg18 : Memref sig .tc .vmem S1x2048 .f32) (harg18 : arg18.IsWhole) (arg19 : Memref sig .tc .vmem S384x512 .f32) (harg19 : arg19.IsWhole) (arg20 : Memref sig .tc .vmem S1024x384 .bf16) (harg20 : arg20.IsWhole) (arg21 : Memref sig .tc .vmem S1x256 .f32) (harg21 : arg21.IsWhole) (arg22 : Memref sig .tc .vmem S256x1024 .bf16) (harg22 : arg22.IsWhole) (arg23 : Memref sig .tc .vmem S512x256 .bf16) (harg23 : arg23.IsWhole) (arg24 : Memref sig .tc .vmem S2x1024x256 .bf16) (harg24 : arg24.IsWhole) (arg25 : Memref sig .tc .vmem S512x512 .bf16) (harg25 : arg25.IsWhole) (arg26 : Memref sig .tc .vmem S2x512x256 .bf16) (harg26 : arg26.IsWhole) (arg27 : Memref sig .tc .vmem S1x2x512 .f32) (harg27 : arg27.IsWhole) (arg28 : Memref sig .tc .vmem S512x2048 .bf16) (harg28 : arg28.IsWhole) (arg29 : Memref sig .tc .vmem S2x1024x256 .bf16) (harg29 : arg29.IsWhole) (arg30 : Memref sig .tc .vmem S512x1024 .bf16) (harg30 : arg30.IsWhole) (arg31 : Memref sig .tc .vmem S2x512x256 .bf16) (harg31 : arg31.IsWhole)
    (x0 : Vec F S512x1024 .f32) (x1 : Vec F S1x1024 .f32) (x2 : Vec F S512x128 .f32) (x3 : Vec F S512x128 .f32) (x4 : Vec F S512x128 .f32) (x5 : Vec F S512x128 .f32) (x6 : Vec F S128x512 .f32) (x7 : Vec F S128x512 .f32) (x8 : Vec F S128x512 .f32) (x9 : Vec F S128x512 .f32) (x10 : Vec F S512x1024 .bf16) (x11 : Vec F S1024x512 .bf16) (x12 : Vec F S512x1024 .bf16) (x13 : Vec F S384x1024 .bf16) (x14 : Vec F S1024x256 .bf16) (x15 : Vec F S1024x128 .bf16) (x16 : Vec F S1024x2048 .bf16) (x17 : Vec F S1x2048 .f32) (x18 : Vec F S384x512 .f32) (x19 : Vec F S1024x384 .bf16) (x20 : Vec F S1x256 .f32) (x21 : Vec F S256x1024 .bf16) (x22 : Vec F S512x256 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 x0 x1 x2 x3 x4 x5 x6 x7 x8 x9 x10 x11 x12 x13 x14 x15 x16 x17 x18 x19 x20 x21 x22) ∗ owns (c : Thread nD τ) arg25 fullShare (out0_24 x0 x1 x2 x3 x4 x5 x6 x7 x8 x9 x10 x11 x12 x13 x14 x15 x16 x17 x18 x19 x20 x21 x22) ∗ owns (c : Thread nD τ) arg26 fullShare (out0_25 x0 x1 x2 x3 x4 x5 x6 x7 x8 x9 x10 x11 x12 x13 x14 x15 x16 x17 x18 x19 x20 x21 x22) ∗ owns (c : Thread nD τ) arg27 fullShare (out0_26 x0 x1 x2 x3 x4 x5 x6 x7 x8 x9 x10 x11 x12 x13 x14 x15 x16 x17 x18 x19 x20 x21 x22) ∗ owns (c : Thread nD τ) arg28 fullShare (out0_27 x0 x1 x2 x3 x4 x5 x6 x7 x8 x9 x10 x11 x12 x13 x14 x15 x16 x17 x18 x19 x20 x21 x22) ∗ owns (c : Thread nD τ) arg29 fullShare (out0_28 x0 x1 x2 x3 x4 x5 x6 x7 x8 x9 x10 x11 x12 x13 x14 x15 x16 x17 x18 x19 x20 x21 x22) ∗ owns (c : Thread nD τ) arg30 fullShare (out0_29 x0 x1 x2 x3 x4 x5 x6 x7 x8 x9 x10 x11 x12 x13 x14 x15 x16 x17 x18 x19 x20 x21 x22) ∗ owns (c : Thread nD τ) arg31 fullShare (out0_30 x0 x1 x2 x3 x4 x5 x6 x7 x8 x9 x10 x11 x12 x13 x14 x15 x16 x17 x18 x19 x20 x21 x22)) -∗ K ⟨⟩))
      ⊢ wp frame (wpE (defs₀ (F := F)) Variants.none c none) E (cc0_pre_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_pre_proj_eq_skeleton]; unfold cc0_pre_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover0_23 _ _ _ _ _ _ _ _ _ _ _ _ _ _ _ _)).trans ?_
    rfl
  isplitl [H24]
  · iexists _; isplitr
    swap; · iexact H24
    ipureintro
    refine (View.read_writes_eq_canon _ _ _ (cover0_24 _ _ _ _)).trans ?_
    rfl
  isplitl [H25]
  · iexists _; isplitr
    swap; · iexact H25
    ipureintro
    refine (View.read_writes_eq_canon _ _ _ (cover0_25 _ _)).trans ?_
    rfl
  isplitl [H26]
  · iexists _; isplitr
    swap; · iexact H26
    ipureintro
    refine (View.read_writes_eq_canon _ _ _ (cover0_26 _ _ _ _ _ _ _ _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _ _ _ _ _ _ _ _ _ _ _ _ _ _ _ _)).trans ?_
    rfl
  isplitl [H29]
  · iexists _; isplitr
    swap; · iexact H29
    ipureintro
    refine (View.read_writes_eq_canon _ _ _ (cover0_29 _ _ _ _ _ _ _ _)).trans ?_
    rfl
  iexists _; isplitr
  swap; · iexact H30
  ipureintro
  refine (View.read_writes_eq_canon _ _ _ (cover0_30 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

end Cert.PreIdeal.Gen

end
-- ==== Proof.PreBody.lean ====
/-
  The body of the layer's opening call: norm, input projection, rotary embeddings, low-rank queries and keys, gates.

  Every output column or row depends on one row of the input block. The functions of a row below state that
  dependence; the lemmas show that the body's eight output blocks hold these functions of the rows of its blocks.
-/
module

public import proofs.«01_k».proof.Proof.PreIdealBlocks
public import proofs.«01_k».proof.Proof.PostValue

@[expose] public section

set_option maxRecDepth 16384

noncomputable section

open Idealize.ShloMosaic Idealize.ShloMosaic.TcCoe Idealize.SL.Sem
open Idealize.ShloMosaic.Pipeline (Dat)
open Cert.PostRows (normRow)

namespace Cert.PreRows

/-- A row of any width scaled to unit mean square (the mean's divisor is `n`, with the layer's epsilon), times the
    gain. -/
def rmsRow {w : ℕ} (n : EReal) (x g : Fin w → EReal) (j : Fin w) : EReal :=
  x j * Ideal.rsqrt (Ideal.div (∑ k, x k * x k) n + Ideal.ofBits FTy.f32 897988541#32) * g j

/-- The lane a rotation pairs with lane `l`: half a lane tile away. -/
def part (l : Fin 128) : Fin 128 := ⟨if l.val < 64 then l.val + 64 else l.val - 64, by split_ifs <;> omega⟩

/-- The same lane, as a rotation by half a tile. -/
theorem part_mod (l : Fin 128) : part l = ⟨(l.val + 128 - 64) % 128, Nat.mod_lt _ (by omega)⟩ :=
  Fin.ext (by
    show (if l.val < 64 then l.val + 64 else l.val - 64) = (l.val + 128 - 64) % 128
    split_ifs <;> omega)

/-- Lane `l` of lane tile `g`. -/
def lane {n : ℕ} (g : Fin n) (l : Fin 128) : Fin (n * 128) := ⟨g.val * 128 + l.val, by omega⟩

/-- An index of a two-axis array. -/
theorem idx2 {a b : ℕ} (x : (⟨2, ![a, b]⟩ : Shape).Idx) : ∃ (i : Fin a) (j : Fin b), x = ix2 i j :=
  ⟨x 0, x 1, funext fun a => by fin_cases a <;> rfl⟩

/-- An index of a three-axis array. -/
theorem idx3 {a b c : ℕ} (x : (⟨3, ![a, b, c]⟩ : Shape).Idx) : ∃ (i : Fin a) (j : Fin b) (k : Fin c), x = ix3 i j k :=
  ⟨x 0, x 1, x 2, funext fun a => by fin_cases a <;> rfl⟩

section Body
open Cert.PreIdeal Cert.PreIdeal.Gen

variable (x0 : Vec Ideal S512x1024 .f32) (x1 : Vec Ideal S1x1024 .f32) (x2 x3 x4 x5 : Vec Ideal S512x128 .f32)
  (x6 x7 x8 x9 : Vec Ideal S128x512 .f32) (x10 : Vec Ideal S512x1024 .bf16) (x11 : Vec Ideal S1024x512 .bf16)
  (x12 : Vec Ideal S512x1024 .bf16) (x13 : Vec Ideal S384x1024 .bf16) (x14 : Vec Ideal S1024x256 .bf16)
  (x15 : Vec Ideal S1024x128 .bf16) (x16 : Vec Ideal S1024x2048 .bf16) (x17 : Vec Ideal S1x2048 .f32)
  (x18 : Vec Ideal S384x512 .f32) (x19 : Vec Ideal S1024x384 .bf16) (x20 : Vec Ideal S1x256 .f32)
  (x21 : Vec Ideal S256x1024 .bf16) (x22 : Vec Ideal S512x256 .bf16)

/-- Row `i` of the normed input. -/
def bH (i : Fin 512) : Fin 1024 → EReal := normRow (fun j => x0 (ix2 i j)) (fun j => x1 (ix2 0 j))

/-- The body's normed input. -/
theorem pay_h (i : Fin 512) (k : Fin 1024) :
    k0_pay125 (F := Ideal) x0 x1 x2 x3 x4 x5 x6 x7 x8 x9 x10 x11 x12 x13 x14 x15 x16 x17 x18 x19 x20 x21 x22 (ix2 i k) = bH x0 x1 i k := by
  unfold bH normRow
  pointwise [k0_pay125, k0_pay7, k0_pay6]

/-- The body's normed input, transposed. -/
theorem pay_ht (i : Fin 512) (k : Fin 1024) :
    k0_pay126 (F := Ideal) x0 x1 x2 x3 x4 x5 x6 x7 x8 x9 x10 x11 x12 x13 x14 x15 x16 x17 x18 x19 x20 x21 x22 (ix2 k i) = bH x0 x1 i k := by
  unfold bH normRow
  pointwise [k0_pay126, k0_pay8, k0_pay6]

/-- The gates' block. -/
theorem out_gate (i : Fin 512) (j : Fin 2048) :
    out0_27 (F := Ideal) x0 x1 x2 x3 x4 x5 x6 x7 x8 x9 x10 x11 x12 x13 x14 x15 x16 x17 x18 x19 x20 x21 x22 (ix2 i j)
      = Ideal.logistic ((∑ k, bH x0 x1 i k * x16 (ix2 k j)) + x17 (ix2 0 j)) := by
  simp only [← pay_h x0 x1 x2 x3 x4 x5 x6 x7 x8 x9 x10 x11 x12 x13 x14 x15 x16 x17 x18 x19 x20 x21 x22]
  unfold out0_27
  frame_out
  pointwise [k0_pay72, k0_pay71]

/-- The first branch's values. -/
theorem out_va (u : Fin 2) (e : Fin 512) (p : Fin 256) :
    out0_25 (F := Ideal) x0 x1 x2 x3 x4 x5 x6 x7 x8 x9 x10 x11 x12 x13 x14 x15 x16 x17 x18 x19 x20 x21 x22 (ix3 u e p)
      = ∑ k, x12 (ix2 e k) * bH x0 x1 ⟨u.val * 256 + p.val, by omega⟩ k := by
  simp only [← pay_ht x0 x1 x2 x3 x4 x5 x6 x7 x8 x9 x10 x11 x12 x13 x14 x15 x16 x17 x18 x19 x20 x21 x22]
  unfold out0_25
  canon_tiles x h
  all_goals
    obtain ⟨z, a, b, rfl⟩ := idx3 x
    obtain rfl : e = a := Fin.ext (by simpa using h1)
    obtain rfl : p = b := Fin.ext (by simpa using h2)
    first
      | (obtain rfl : u = 0 := Fin.ext (by simpa using h0); pointwise [k0_pay69, k0_pay70, k0_pay68]; done)
      | (obtain rfl : u = 1 := Fin.ext (by simpa using h0); pointwise [k0_pay69, k0_pay70, k0_pay68]; done)

/-- One group of the first branch's keys: the projection rotated. -/
def bKa (i : Fin 512) (g : Fin 4) (l : Fin 128) : EReal :=
  (∑ k, bH x0 x1 i k * x11 (ix2 k (lane g l))) * x2 (ix2 i l)
    + (∑ k, bH x0 x1 i k * x11 (ix2 k (lane g (part l)))) * x3 (ix2 i l)

/-- The four groups of the keys as the body names them. -/
abbrev payKa (g : Fin 4) : FVec Ideal S512x128 .f32 :=
  match g with
  | 0 => k0_pay136 x0 x1 x2 x3 x4 x5 x6 x7 x8 x9 x10 x11 x12 x13 x14 x15 x16 x17 x18 x19 x20 x21 x22
  | 1 => k0_pay137 x0 x1 x2 x3 x4 x5 x6 x7 x8 x9 x10 x11 x12 x13 x14 x15 x16 x17 x18 x19 x20 x21 x22
  | 2 => k0_pay138 x0 x1 x2 x3 x4 x5 x6 x7 x8 x9 x10 x11 x12 x13 x14 x15 x16 x17 x18 x19 x20 x21 x22
  | 3 => k0_pay139 x0 x1 x2 x3 x4 x5 x6 x7 x8 x9 x10 x11 x12 x13 x14 x15 x16 x17 x18 x19 x20 x21 x22

/-- The body's groups of the keys. -/
theorem pay_ka (g : Fin 4) (i : Fin 512) (l : Fin 128) :
    payKa x0 x1 x2 x3 x4 x5 x6 x7 x8 x9 x10 x11 x12 x13 x14 x15 x16 x17 x18 x19 x20 x21 x22 g (ix2 i l) = bKa x0 x1 x2 x3 x11 i g l := by
  unfold bKa payKa
  simp only [← pay_h x0 x1 x2 x3 x4 x5 x6 x7 x8 x9 x10 x11 x12 x13 x14 x15 x16 x17 x18 x19 x20 x21 x22]
  rw [part_mod]
  unfold lane
  fin_cases g <;> dsimp only <;>
  pointwise [k0_pay136, k0_pay137, k0_pay138, k0_pay139, k0_pay47, k0_pay48, k0_pay49, k0_pay50, k0_pay51, k0_pay52, k0_pay53, k0_pay135]

/-- The first branch's keys. -/
theorem out_ka (i : Fin 512) (g : Fin 4) (l : Fin 128) :
    out0_24 (F := Ideal) x0 x1 x2 x3 x4 x5 x6 x7 x8 x9 x10 x11 x12 x13 x14 x15 x16 x17 x18 x19 x20 x21 x22 (ix2 i (lane g l)) = bKa x0 x1 x2 x3 x11 i g l := by
  rw [← pay_ka x0 x1 x2 x3 x4 x5 x6 x7 x8 x9 x10 x11 x12 x13 x14 x15 x16 x17 x18 x19 x20 x21 x22]
  unfold out0_24
  canon_tiles x h
  all_goals
    obtain ⟨a, b, rfl⟩ := idx2 x
    change g.val * 128 + l.val = _ at h1
    obtain rfl : i = a := Fin.ext h0
    have hb : ((ix2 i b : S512x128.Idx) 1).val = b.val := rfl
    rw [hb] at h1
    obtain ⟨rfl, hg⟩ : l = b ∧ g.val = (g.val * 128 + l.val) / 128 := ⟨Fin.ext (by omega), by omega⟩
    first
      | (obtain rfl : g = 0 := Fin.ext (by omega); pointwise [k0_pay54]; done)
      | (obtain rfl : g = 1 := Fin.ext (by omega); pointwise [k0_pay57]; done)
      | (obtain rfl : g = 2 := Fin.ext (by omega); pointwise [k0_pay61]; done)
      | (obtain rfl : g = 3 := Fin.ext (by omega); pointwise [k0_pay64]; done)

/-- The means of the keys over each block of 256 rows. -/
theorem out_kmean (z : Fin 1) (u : Fin 2) (g : Fin 4) (l : Fin 128) :
    out0_26 (F := Ideal) x0 x1 x2 x3 x4 x5 x6 x7 x8 x9 x10 x11 x12 x13 x14 x15 x16 x17 x18 x19 x20 x21 x22 (ix3 z u (lane g l))
      = Ideal.div (∑ p : Fin 256, bKa x0 x1 x2 x3 x11 ⟨u.val * 256 + p.val, by omega⟩ g l)
          (Ideal.ofBits FTy.f32 0x43800000#32) := by
  simp only [← pay_ka x0 x1 x2 x3 x4 x5 x6 x7 x8 x9 x10 x11 x12 x13 x14 x15 x16 x17 x18 x19 x20 x21 x22]
  unfold out0_26
  canon_tiles x h
  all_goals
    obtain ⟨a, c, b, rfl⟩ := idx3 x
    change g.val * 128 + l.val = _ at h2
    have hb : ((ix3 a c b : S1x1x128.Idx) 2).val = b.val := rfl
    have hc : ((ix3 a c b : S1x1x128.Idx) 1).val = 0 := by show c.val = 0; omega
    rw [hb] at h2
    rw [hc] at h1
    change u.val = _ at h1
    obtain ⟨rfl, hg⟩ : l = b ∧ g.val = (g.val * 128 + l.val) / 128 := ⟨Fin.ext (by omega), by omega⟩
    obtain rfl | rfl : u = 0 ∨ u = 1 := by omega
    all_goals
      first
        | (obtain rfl : g = 0 := Fin.ext (by omega); pointwise [k0_pay55, k0_pay56]; done)
        | (obtain rfl : g = 1 := Fin.ext (by omega); pointwise [k0_pay58, k0_pay59, k0_pay60]; done)
        | (obtain rfl : g = 2 := Fin.ext (by omega); pointwise [k0_pay62, k0_pay63]; done)
        | (obtain rfl : g = 3 := Fin.ext (by omega); pointwise [k0_pay65, k0_pay66, k0_pay67]; done)
        | (exfalso; omega)

/-! ## The queries, columns of the transposed projections -/

/-- The body's first branch's query projection, transposed. -/
theorem pay_q (i a : Fin 512) :
    k0_pay127 (F := Ideal) x0 x1 x2 x3 x4 x5 x6 x7 x8 x9 x10 x11 x12 x13 x14 x15 x16 x17 x18 x19 x20 x21 x22 (ix2 a i) = ∑ k, x10 (ix2 a k) * bH x0 x1 i k := by
  simp only [← pay_ht x0 x1 x2 x3 x4 x5 x6 x7 x8 x9 x10 x11 x12 x13 x14 x15 x16 x17 x18 x19 x20 x21 x22]
  pointwise [k0_pay127, k0_pay126, k0_pay9]

/-- One group of the first branch's queries: the projection rotated and scaled. -/
def bQa (i : Fin 512) (g : Fin 4) (l : Fin 128) : EReal :=
  ((∑ k, x10 (ix2 (lane g l) k) * bH x0 x1 i k) * x6 (ix2 l i)
    + (∑ k, x10 (ix2 (lane g (part l)) k) * bH x0 x1 i k) * x7 (ix2 l i)) * Ideal.ofBits FTy.f32 0x3E38AA3B#32

/-- The four groups of the rotated queries as the body names them, the first and the last scaled. -/
abbrev payQa (g : Fin 4) : FVec Ideal S128x512 .f32 :=
  match g with
  | 0 => k0_pay132 x0 x1 x2 x3 x4 x5 x6 x7 x8 x9 x10 x11 x12 x13 x14 x15 x16 x17 x18 x19 x20 x21 x22
  | 1 => fun y => k0_pay129 x0 x1 x2 x3 x4 x5 x6 x7 x8 x9 x10 x11 x12 x13 x14 x15 x16 x17 x18 x19 x20 x21 x22 y * Ideal.ofBits FTy.f32 0x3E38AA3B#32
  | 2 => fun y => k0_pay130 x0 x1 x2 x3 x4 x5 x6 x7 x8 x9 x10 x11 x12 x13 x14 x15 x16 x17 x18 x19 x20 x21 x22 y * Ideal.ofBits FTy.f32 0x3E38AA3B#32
  | 3 => k0_pay134 x0 x1 x2 x3 x4 x5 x6 x7 x8 x9 x10 x11 x12 x13 x14 x15 x16 x17 x18 x19 x20 x21 x22

/-- A rotation's partner is read from the two halves in the other order. -/
theorem part_dite (f : Fin 128 → EReal) (l : Fin 128) :
    (if h : l.val < 64 then f ⟨64 + l.val, by omega⟩ else f ⟨l.val - 64, by omega⟩) = f (part l) := by
  unfold part
  split_ifs with h
  · exact congrArg f (Fin.ext (by simp [h]; omega))
  · exact congrArg f (Fin.ext (by simp [h]))

/-- The body's groups of the queries. -/
theorem pay_qa (g : Fin 4) (i : Fin 512) (l : Fin 128) :
    payQa x0 x1 x2 x3 x4 x5 x6 x7 x8 x9 x10 x11 x12 x13 x14 x15 x16 x17 x18 x19 x20 x21 x22 g (ix2 l i) = bQa x0 x1 x6 x7 x10 i g l := by
  unfold bQa payQa
  simp only [← pay_q x0 x1 x2 x3 x4 x5 x6 x7 x8 x9 x10 x11 x12 x13 x14 x15 x16 x17 x18 x19 x20 x21 x22]
  rw [← part_dite (fun l => k0_pay127 (F := Ideal) x0 x1 x2 x3 x4 x5 x6 x7 x8 x9 x10 x11 x12 x13 x14 x15 x16 x17 x18 x19 x20 x21 x22 (ix2 (lane g l) i)) l]
  unfold lane
  fin_cases g <;> dsimp only <;>
  pointwise [k0_pay132, k0_pay129, k0_pay130, k0_pay131, k0_pay134, k0_pay11, k0_pay12, k0_pay13, k0_pay14, k0_pay15, k0_pay16, k0_pay39]

/-- Which lanes belong to a group's first head. -/
theorem pay_mask (l : Fin 128) (i : Fin 512) :
    k0_pay128 (F := Ideal) x0 x1 x2 x3 x4 x5 x6 x7 x8 x9 x10 x11 x12 x13 x14 x15 x16 x17 x18 x19 x20 x21 x22 (ix2 l i) = BitVec.ofBool (decide (l.val % 64 < 32)) := by
  pointwise [k0_pay128, k0_pay10]
  revert l
  decide +kernel

/-- The first branch's queries: each head keeps its own lanes of its group, zeros elsewhere. -/
theorem out_qa (u : Fin 2) (g : Fin 8) (l : Fin 128) (p : Fin 256) :
    out0_23 (F := Ideal) x0 x1 x2 x3 x4 x5 x6 x7 x8 x9 x10 x11 x12 x13 x14 x15 x16 x17 x18 x19 x20 x21 x22 (ix3 u (lane g l) p)
      = if (l.val % 64 < 32 ↔ g.val % 2 = 0) then bQa x0 x1 x6 x7 x10 ⟨u.val * 256 + p.val, by omega⟩ ⟨g.val / 2, by omega⟩ l else 0 := by
  have hm := pay_mask x0 x1 x2 x3 x4 x5 x6 x7 x8 x9 x10 x11 x12 x13 x14 x15 x16 x17 x18 x19 x20 x21 x22 l
  unfold bQa
  simp only [← pay_q x0 x1 x2 x3 x4 x5 x6 x7 x8 x9 x10 x11 x12 x13 x14 x15 x16 x17 x18 x19 x20 x21 x22]
  have hp : ∀ (f : Fin 512 → EReal) (g : Fin 4), f (lane g (part l))
      = if h : l.val < 64 then f (lane g ⟨64 + l.val, by omega⟩) else f (lane g ⟨l.val - 64, by omega⟩) :=
    fun f g => (part_dite (fun l => f (lane g l)) l).symm
  rw [hp (fun a => k0_pay127 (F := Ideal) x0 x1 x2 x3 x4 x5 x6 x7 x8 x9 x10 x11 x12 x13 x14 x15 x16 x17 x18 x19 x20 x21 x22 (ix2 a _))]
  unfold out0_23
  canon_tiles x h
  all_goals
    obtain ⟨a, b, c, rfl⟩ := idx3 x
    change g.val * 128 + l.val = _ at h1
    have hb : ((ix3 a b c : S1x128x256.Idx) 1).val = b.val := rfl
    have hc : ((ix3 a b c : S1x128x256.Idx) 0).val = 0 := by show a.val = 0; omega
    rw [hb] at h1
    rw [hc] at h0
    change u.val = _ at h0
    obtain rfl : p = c := Fin.ext h2
    obtain ⟨rfl, hg⟩ : l = b ∧ g.val = (g.val * 128 + l.val) / 128 := ⟨Fin.ext (by omega), by omega⟩
    obtain rfl | rfl : u = 0 ∨ u = 1 := by omega
    all_goals
      obtain rfl | rfl | rfl | rfl | rfl | rfl | rfl | rfl : g = 0 ∨ g = 1 ∨ g = 2 ∨ g = 3 ∨ g = 4 ∨ g = 5 ∨ g = 6 ∨ g = 7 := by omega
    all_goals first
      | (exfalso; omega)
      | (unfold lane
         by_cases hl : l.val % 64 < 32 <;> simp only [hl, decide_true, decide_false] at hm <;> simp only [hl] <;>
         pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay129, k0_pay130, k0_pay131, k0_pay132, k0_pay133, k0_pay134, hm] <;> simp)

/-- The normed low-rank query of a row. -/
def bCq (i : Fin 512) : Fin 384 → EReal :=
  rmsRow (Ideal.ofBits FTy.f32 0x43C00000#32) (fun r => ∑ k, x13 (ix2 r k) * bH x0 x1 i k) (fun r => x18 (ix2 r i))

/-- The body's second branch's query projection, transposed. -/
theorem pay_qbt (i : Fin 512) (a : Fin 1024) :
    k0_pay140 (F := Ideal) x0 x1 x2 x3 x4 x5 x6 x7 x8 x9 x10 x11 x12 x13 x14 x15 x16 x17 x18 x19 x20 x21 x22 (ix2 a i) = ∑ r, x19 (ix2 a r) * bCq x0 x1 x13 x18 i r := by
  unfold bCq rmsRow
  simp only [← pay_ht x0 x1 x2 x3 x4 x5 x6 x7 x8 x9 x10 x11 x12 x13 x14 x15 x16 x17 x18 x19 x20 x21 x22]
  pointwise [k0_pay140, k0_pay73]

/-- One head of the second branch's queries: the projection rotated and scaled. -/
def bQb (i : Fin 512) (g : Fin 8) (l : Fin 128) : EReal :=
  ((∑ r, x19 (ix2 (lane g l) r) * bCq x0 x1 x13 x18 i r) * x8 (ix2 l i)
    + (∑ r, x19 (ix2 (lane g (part l)) r) * bCq x0 x1 x13 x18 i r) * x9 (ix2 l i)) * Ideal.ofBits FTy.f32 0x3E16C740#32

/-- The second branch's queries. -/
theorem out_qb (u : Fin 2) (g : Fin 8) (l : Fin 128) (p : Fin 256) :
    out0_28 (F := Ideal) x0 x1 x2 x3 x4 x5 x6 x7 x8 x9 x10 x11 x12 x13 x14 x15 x16 x17 x18 x19 x20 x21 x22 (ix3 u (lane g l) p)
      = bQb x0 x1 x8 x9 x13 x18 x19 ⟨u.val * 256 + p.val, by omega⟩ g l := by
  unfold bQb
  simp only [← pay_qbt x0 x1 x2 x3 x4 x5 x6 x7 x8 x9 x10 x11 x12 x13 x14 x15 x16 x17 x18 x19 x20 x21 x22]
  rw [← part_dite (fun l => k0_pay140 (F := Ideal) x0 x1 x2 x3 x4 x5 x6 x7 x8 x9 x10 x11 x12 x13 x14 x15 x16 x17 x18 x19 x20 x21 x22 (ix2 (lane g l) _)) l]
  unfold out0_28
  canon_tiles x h
  all_goals
    obtain ⟨a, b, c, rfl⟩ := idx3 x
    change g.val * 128 + l.val = _ at h1
    have hb : ((ix3 a b c : S1x128x256.Idx) 1).val = b.val := rfl
    have hc : ((ix3 a b c : S1x128x256.Idx) 0).val = 0 := by show a.val = 0; omega
    rw [hb] at h1
    rw [hc] at h0
    change u.val = _ at h0
    obtain rfl : p = c := Fin.ext h2
    obtain ⟨rfl, hg⟩ : l = b ∧ g.val = (g.val * 128 + l.val) / 128 := ⟨Fin.ext (by omega), by omega⟩
    obtain rfl | rfl : u = 0 ∨ u = 1 := by omega
    all_goals
      obtain rfl | rfl | rfl | rfl | rfl | rfl | rfl | rfl : g = 0 ∨ g = 1 ∨ g = 2 ∨ g = 3 ∨ g = 4 ∨ g = 5 ∨ g = 6 ∨ g = 7 := by omega
    all_goals first
      | (exfalso; omega)
      | (unfold lane; pointwise [k0_pay140, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay141, k0_pay142, k0_pay143, k0_pay144, k0_pay145, k0_pay146, k0_pay147, k0_pay148, k0_pay149, k0_pay150]; done)

/-- The normed low-rank key and value of a row. -/
def bCkv (i : Fin 512) : Fin 256 → EReal :=
  rmsRow (Ideal.ofBits FTy.f32 0x43800000#32) (fun r => ∑ k, bH x0 x1 i k * x14 (ix2 k r)) (fun r => x20 (ix2 0 r))

/-- The body's normed low-rank key and value. -/
theorem pay_ckv (i : Fin 512) (r : Fin 256) :
    k0_pay155 (F := Ideal) x0 x1 x2 x3 x4 x5 x6 x7 x8 x9 x10 x11 x12 x13 x14 x15 x16 x17 x18 x19 x20 x21 x22 (ix2 i r) = bCkv x0 x1 x14 x20 i r := by
  unfold bCkv rmsRow
  simp only [← pay_h x0 x1 x2 x3 x4 x5 x6 x7 x8 x9 x10 x11 x12 x13 x14 x15 x16 x17 x18 x19 x20 x21 x22]
  pointwise [k0_pay155, k0_pay154, k0_pay153, k0_pay114, k0_pay115, k0_pay116]

/-- The second branch's values. -/
theorem out_vb (u : Fin 2) (e : Fin 512) (p : Fin 256) :
    out0_30 (F := Ideal) x0 x1 x2 x3 x4 x5 x6 x7 x8 x9 x10 x11 x12 x13 x14 x15 x16 x17 x18 x19 x20 x21 x22 (ix3 u e p)
      = ∑ r, x22 (ix2 e r) * bCkv x0 x1 x14 x20 ⟨u.val * 256 + p.val, by omega⟩ r := by
  simp only [← pay_ckv x0 x1 x2 x3 x4 x5 x6 x7 x8 x9 x10 x11 x12 x13 x14 x15 x16 x17 x18 x19 x20 x21 x22]
  unfold out0_30
  canon_tiles x h
  all_goals
    obtain ⟨z, a, b, rfl⟩ := idx3 x
    obtain rfl : e = a := Fin.ext (by simpa using h1)
    obtain rfl : p = b := Fin.ext (by simpa using h2)
    first
      | (obtain rfl : u = 0 := Fin.ext (by simpa using h0); pointwise [k0_pay3, k0_pay4, k0_pay5]; done)
      | (obtain rfl : u = 1 := Fin.ext (by simpa using h0); pointwise [k0_pay3, k0_pay4, k0_pay5]; done)

/-- One head of the second branch's keys: the up-projection plus the shared rotated part. -/
def bKb (i : Fin 512) (g : Fin 8) (l : Fin 128) : EReal :=
  (∑ r, bCkv x0 x1 x14 x20 i r * x21 (ix2 r (lane g l)))
    + ((∑ k, bH x0 x1 i k * x15 (ix2 k l)) * x4 (ix2 i l) + (∑ k, bH x0 x1 i k * x15 (ix2 k (part l))) * x5 (ix2 i l))

/-- The body's shared rotated key part. -/
theorem pay_kr (i : Fin 512) (l : Fin 128) :
    k0_pay157 (F := Ideal) x0 x1 x2 x3 x4 x5 x6 x7 x8 x9 x10 x11 x12 x13 x14 x15 x16 x17 x18 x19 x20 x21 x22 (ix2 i l)
      = (∑ k, bH x0 x1 i k * x15 (ix2 k l)) * x4 (ix2 i l) + (∑ k, bH x0 x1 i k * x15 (ix2 k (part l))) * x5 (ix2 i l) := by
  simp only [← pay_h x0 x1 x2 x3 x4 x5 x6 x7 x8 x9 x10 x11 x12 x13 x14 x15 x16 x17 x18 x19 x20 x21 x22]
  rw [part_mod]
  pointwise [k0_pay157, k0_pay118, k0_pay151, k0_pay152, k0_pay112, k0_pay113]

/-- The body's up-projected keys. -/
theorem pay_kup (i : Fin 512) (a : Fin 1024) :
    k0_pay156 (F := Ideal) x0 x1 x2 x3 x4 x5 x6 x7 x8 x9 x10 x11 x12 x13 x14 x15 x16 x17 x18 x19 x20 x21 x22 (ix2 i a) = ∑ r, bCkv x0 x1 x14 x20 i r * x21 (ix2 r a) := by
  simp only [← pay_ckv x0 x1 x2 x3 x4 x5 x6 x7 x8 x9 x10 x11 x12 x13 x14 x15 x16 x17 x18 x19 x20 x21 x22]
  pointwise [k0_pay156, k0_pay117, k0_pay155]

/-- The second branch's keys. -/
theorem out_kb (i : Fin 512) (g : Fin 8) (l : Fin 128) :
    out0_29 (F := Ideal) x0 x1 x2 x3 x4 x5 x6 x7 x8 x9 x10 x11 x12 x13 x14 x15 x16 x17 x18 x19 x20 x21 x22 (ix2 i (lane g l)) = bKb x0 x1 x4 x5 x14 x15 x20 x21 i g l := by
  unfold bKb
  rw [← pay_kup x0 x1 x2 x3 x4 x5 x6 x7 x8 x9 x10 x11 x12 x13 x14 x15 x16 x17 x18 x19 x20 x21 x22, ← pay_kr x0 x1 x2 x3 x4 x5 x6 x7 x8 x9 x10 x11 x12 x13 x14 x15 x16 x17 x18 x19 x20 x21 x22]
  unfold out0_29
  canon_tiles x h
  all_goals
    obtain ⟨a, b, rfl⟩ := idx2 x
    change g.val * 128 + l.val = _ at h1
    obtain rfl : i = a := Fin.ext h0
    have hb : ((ix2 i b : S512x128.Idx) 1).val = b.val := rfl
    rw [hb] at h1
    obtain ⟨rfl, hg⟩ : l = b ∧ g.val = (g.val * 128 + l.val) / 128 := ⟨Fin.ext (by omega), by omega⟩
    obtain rfl | rfl | rfl | rfl | rfl | rfl | rfl | rfl : g = 0 ∨ g = 1 ∨ g = 2 ∨ g = 3 ∨ g = 4 ∨ g = 5 ∨ g = 6 ∨ g = 7 := by omega
    all_goals first
      | (exfalso; omega)
      | (unfold lane; pointwise [k0_pay1, k0_pay2, k0_pay117, k0_pay118, k0_pay119, k0_pay120, k0_pay121, k0_pay122, k0_pay123, k0_pay124, k0_pay156, k0_pay157]; done)

end Body
end Cert.PreRows
-- ==== Proof.PreOps.lean ====
/-
  The operand arrays of the layer's opening call over its argument arrays, and the blocks of them its body reads.
-/
module

public import proofs.«01_k».proof.Proof.PreBody

@[expose] public section

set_option maxRecDepth 16384

noncomputable section

open Idealize.ShloMosaic Idealize.ShloMosaic.TcCoe Idealize.SL.Sem
open Idealize.ShloMosaic.Pipeline (Dat)
open Cert.PostRows (normRow)

namespace Cert.PreRows

section Bridge
open Cert.PreIdeal Cert.PreIdeal.Gen

/-- The input projection's columns that hold the queries or the keys, heads paired in halves. -/
def cols : Vec Ideal S512x1 .i32 :=
  broadcastInDim S512x1 ![0] bcast_S512_S512x1_0 (select (cmpi .slt (fun i => lit0 (S512.rowMajor i) : Vec Ideal S512 .i32) (broadcastInDim S512 ![] bcast_S_S512 (constantI S_ 32 0#32)))
    (addi (fun i => lit0 (S512.rowMajor i) : Vec Ideal S512 .i32) (broadcastInDim S512 ![] bcast_S_S512 (constantI S_ 32 512#32))) (fun i => lit0 (S512.rowMajor i) : Vec Ideal S512 .i32))

/-- The queries' weight. -/
def wQ (W : FVec Ideal S1024x4256 .f32) : FVec Ideal S512x1024 .bf16 :=
  transpose S512x1024 [1, 0] (Host.gather gather_S1024x512_S512x1_S1024x512_0_1_n_n_1_1_10241
    (extractStridedSlice S1024x512 ![0, 0] (truncf .bf16 W bitsLt_bf16_f32) slices_S1024x4256_S1024x512_0_0) cols) transposes_S1024x512_S512x1024_1_0

/-- The keys' weight. -/
def wK (W : FVec Ideal S1024x4256 .f32) : FVec Ideal S1024x512 .bf16 :=
  Host.gather gather_S1024x512_S512x1_S1024x512_0_1_n_n_1_1_10241
    (extractStridedSlice S1024x512 ![0, 512] (truncf .bf16 W bitsLt_bf16_f32) slices_S1024x4256_S1024x512_0_512) cols

/-- The values' weight. -/
def wV (W : FVec Ideal S1024x4256 .f32) : FVec Ideal S512x1024 .bf16 :=
  transpose S512x1024 [1, 0] (extractStridedSlice S1024x512 ![0, 1024] (truncf .bf16 W bitsLt_bf16_f32) slices_S1024x4256_S1024x512_0_1024) transposes_S1024x512_S512x1024_1_0

/-- The low-rank queries' down projection. -/
def wCq (W : FVec Ideal S1024x4256 .f32) : FVec Ideal S384x1024 .bf16 :=
  transpose S384x1024 [1, 0] (extractStridedSlice S1024x384 ![0, 1536] (truncf .bf16 W bitsLt_bf16_f32) slices_S1024x4256_S1024x384_0_1536) transposes_S1024x384_S384x1024_1_0

/-- The low-rank keys' and values' down projection. -/
def wCkv (W : FVec Ideal S1024x4256 .f32) : FVec Ideal S1024x256 .bf16 :=
  extractStridedSlice S1024x256 ![0, 1920] (truncf .bf16 W bitsLt_bf16_f32) slices_S1024x4256_S1024x256_0_1920

/-- The shared rotated keys' weight, in the slot layout. -/
def wKr (W : FVec Ideal S1024x4256 .f32) : FVec Ideal S1024x128 .bf16 :=
  let r : FVec Ideal S1024x32 .bf16 := extractStridedSlice S1024x32 ![0, 2176] (truncf .bf16 W bitsLt_bf16_f32) slices_S1024x4256_S1024x32_0_2176
  let z : FVec Ideal S1024x64 .bf16 := broadcastInDim S1024x64 ![] bcast_S_S1024x64 (constant S_ .bf16 0x0000#16)
  concatenate S1024x128 1 [⟨S1024x16, (extractStridedSlice S1024x16 ![0, 0] r slices_S1024x32_S1024x16_0_0 : FVec Ideal S1024x16 .bf16)⟩,
    ⟨S1024x48, (extractStridedSlice S1024x48 ![0, 0] z slices_S1024x64_S1024x48_0_0 : FVec Ideal S1024x48 .bf16)⟩,
    ⟨S1024x16, (extractStridedSlice S1024x16 ![0, 16] r slices_S1024x32_S1024x16_0_16 : FVec Ideal S1024x16 .bf16)⟩,
    ⟨S1024x16, (extractStridedSlice S1024x16 ![0, 48] z slices_S1024x64_S1024x16_0_48 : FVec Ideal S1024x16 .bf16)⟩,
    ⟨S1024x32, (broadcastInDim S1024x32 ![] bcast_S_S1024x32 (constant S_ .bf16 0x0000#16) : FVec Ideal S1024x32 .bf16)⟩] concatenates_S1024x16_S1024x48_S1024x16_S1024x16_S1024x32_S1024x128_d1

/-- The gates' weight. -/
def wGate (W : FVec Ideal S1024x4256 .f32) : FVec Ideal S1024x2048 .bf16 :=
  extractStridedSlice S1024x2048 ![0, 2208] (truncf .bf16 W bitsLt_bf16_f32) slices_S1024x4256_S1024x2048_0_2208

/-- The low-rank queries' up projection, in the slot layout. -/
def wQup (W : FVec Ideal S384x768 .f32) : FVec Ideal S1024x384 .bf16 :=
  let q : FVec Ideal S384x8x96 .bf16 := shapeCast _ (truncf .bf16 W bitsLt_bf16_f32) shapeCasts_S384x768_S384x8x96
  let n : FVec Ideal S384x8x64 .bf16 := extractStridedSlice S384x8x64 ![0, 0, 0] q slices_S384x8x96_S384x8x64_0_0_0
  let r : FVec Ideal S384x8x32 .bf16 := extractStridedSlice S384x8x32 ![0, 0, 64] q slices_S384x8x96_S384x8x32_0_0_64
  transpose S1024x384 [1, 0] (shapeCast S384x1024 (concatenate S384x8x128 2 [⟨S384x8x16, (extractStridedSlice S384x8x16 ![0, 0, 0] r slices_S384x8x32_S384x8x16_0_0_0 : FVec Ideal S384x8x16 .bf16)⟩,
    ⟨S384x8x48, (extractStridedSlice S384x8x48 ![0, 0, 0] n slices_S384x8x64_S384x8x48_0_0_0 : FVec Ideal S384x8x48 .bf16)⟩,
    ⟨S384x8x16, (extractStridedSlice S384x8x16 ![0, 0, 16] r slices_S384x8x32_S384x8x16_0_0_16 : FVec Ideal S384x8x16 .bf16)⟩,
    ⟨S384x8x16, (extractStridedSlice S384x8x16 ![0, 0, 48] n slices_S384x8x64_S384x8x16_0_0_48 : FVec Ideal S384x8x16 .bf16)⟩,
    ⟨S384x8x32, (broadcastInDim S384x8x32 ![] bcast_S_S384x8x32 (constant S_ .bf16 0x0000#16) : FVec Ideal S384x8x32 .bf16)⟩] concatenates_S384x8x16_S384x8x48_S384x8x16_S384x8x16_S384x8x32_S384x8x128_d2) shapeCasts_S384x8x128_S384x1024) transposes_S384x1024_S1024x384_1_0

/-- The keys' up projection, in the slot layout. -/
def wKup (W : FVec Ideal S256x1024 .f32) : FVec Ideal S256x1024 .bf16 :=
  let q : FVec Ideal S256x8x128 .bf16 := shapeCast _ (truncf .bf16 W bitsLt_bf16_f32) shapeCasts_S256x1024_S256x8x128
  let n : FVec Ideal S256x8x64 .bf16 := extractStridedSlice S256x8x64 ![0, 0, 0] q slices_S256x8x128_S256x8x64_0_0_0
  let r : FVec Ideal S256x8x32 .bf16 := broadcastInDim S256x8x32 ![] bcast_S_S256x8x32 (constant S_ .bf16 0x0000#16)
  shapeCast S256x1024 (concatenate S256x8x128 2 [⟨S256x8x16, (extractStridedSlice S256x8x16 ![0, 0, 0] r slices_S256x8x32_S256x8x16_0_0_0 : FVec Ideal S256x8x16 .bf16)⟩,
    ⟨S256x8x48, (extractStridedSlice S256x8x48 ![0, 0, 0] n slices_S256x8x64_S256x8x48_0_0_0 : FVec Ideal S256x8x48 .bf16)⟩,
    ⟨S256x8x16, (extractStridedSlice S256x8x16 ![0, 0, 16] r slices_S256x8x32_S256x8x16_0_0_16 : FVec Ideal S256x8x16 .bf16)⟩,
    ⟨S256x8x16, (extractStridedSlice S256x8x16 ![0, 0, 48] n slices_S256x8x64_S256x8x16_0_0_48 : FVec Ideal S256x8x16 .bf16)⟩,
    ⟨S256x8x32, r⟩] concatenates_S256x8x16_S256x8x48_S256x8x16_S256x8x16_S256x8x32_S256x8x128_d2) shapeCasts_S256x8x128_S256x1024

/-- The values' up projection. -/
def wVup (W : FVec Ideal S256x1024 .f32) : FVec Ideal S512x256 .bf16 :=
  transpose S512x256 [1, 0] (shapeCast S256x512 (extractStridedSlice S256x8x64 ![0, 0, 64] (shapeCast S256x8x128 (truncf .bf16 W bitsLt_bf16_f32 : FVec Ideal S256x1024 .bf16) shapeCasts_S256x1024_S256x8x128) slices_S256x8x128_S256x8x64_0_0_64 : FVec Ideal S256x8x64 .bf16) shapeCasts_S256x8x64_S256x512) transposes_S256x512_S512x256_1_0

/-- The first branch's cosines over a lane tile. -/
def cosA (C : FVec Ideal S8192x32 .f32) : FVec Ideal S8192x128 .f32 :=
  shapeCast S8192x128 (broadcastInDim S1x8192x4x32 ![0, 1, 2, 3] bcast_S1x8192x1x32_S1x8192x4x32_0_1_2_3 (shapeCast S1x8192x1x32 C shapeCasts_S8192x32_S1x8192x1x32) : FVec Ideal S1x8192x4x32 .f32) shapeCasts_S1x8192x4x32_S8192x128

/-- The first branch's signed sines over a lane tile. -/
def sinA (S : FVec Ideal S8192x32 .f32) : FVec Ideal S8192x128 .f32 :=
  concatenate S8192x128 1 [⟨S8192x32, (Host.negf S : FVec Ideal S8192x32 .f32)⟩, ⟨S8192x32, (Host.negf S : FVec Ideal S8192x32 .f32)⟩, ⟨S8192x32, S⟩, ⟨S8192x32, S⟩] concatenates_S8192x32_S8192x32_S8192x32_S8192x32_S8192x128_d1

/-- A table in the slot layout: its rotary and plain lanes. -/
def slotT (r : FVec Ideal S8192x32 .f32) (n : FVec Ideal S8192x64 .f32) : FVec Ideal S8192x128 .f32 :=
  concatenate S8192x128 1 [⟨S8192x16, (extractStridedSlice S8192x16 ![0, 0] r slices_S8192x32_S8192x16_0_0 : FVec Ideal S8192x16 .f32)⟩,
    ⟨S8192x48, (extractStridedSlice S8192x48 ![0, 0] n slices_S8192x64_S8192x48_0_0 : FVec Ideal S8192x48 .f32)⟩,
    ⟨S8192x16, (extractStridedSlice S8192x16 ![0, 16] r slices_S8192x32_S8192x16_0_16 : FVec Ideal S8192x16 .f32)⟩,
    ⟨S8192x16, (extractStridedSlice S8192x16 ![0, 48] n slices_S8192x64_S8192x16_0_48 : FVec Ideal S8192x16 .f32)⟩,
    ⟨S8192x32, (broadcastInDim S8192x32 ![] bcast_S_S8192x32 (constant S_ .f32 0x00000000#32) : FVec Ideal S8192x32 .f32)⟩] concatenates_S8192x16_S8192x48_S8192x16_S8192x16_S8192x32_S8192x128_d1

/-- The second branch's cosines over a slot. -/
def cosB (C : FVec Ideal S8192x16 .f32) : FVec Ideal S8192x128 .f32 :=
  slotT (concatenate S8192x32 1 [⟨S8192x16, C⟩, ⟨S8192x16, C⟩] concatenates_S8192x16_S8192x16_S8192x32_d1) (broadcastInDim S8192x64 ![] bcast_S_S8192x64 (constant S_ .f32 0x3F800000#32))

/-- The second branch's signed sines over a slot. -/
def sinB (S : FVec Ideal S8192x16 .f32) : FVec Ideal S8192x128 .f32 :=
  slotT (concatenate S8192x32 1 [⟨S8192x16, (Host.negf S : FVec Ideal S8192x16 .f32)⟩, ⟨S8192x16, S⟩] concatenates_S8192x16_S8192x16_S8192x32_d1) (broadcastInDim S8192x64 ![] bcast_S_S8192x64 (constant S_ .f32 0x00000000#32))

/-- A table transposed. -/
def tT (x : FVec Ideal S8192x128 .f32) : FVec Ideal S128x8192 .f32 := transpose S128x8192 [1, 0] x transposes_S8192x128_S128x8192_1_0

/-- The 128 lanes of one head's slot: the rotary part's halves in front of the plain part's pieces, then zeros. -/
def slotF (r : Fin 32 → EReal) (n : Fin 64 → EReal) (l : Fin 128) : EReal :=
  if h : l.val < 16 then r ⟨l.val, by omega⟩
  else if h : l.val - 16 < 48 then n ⟨l.val - 16, by omega⟩
  else if h : l.val - 16 - 48 < 16 then r ⟨16 + (l.val - 16 - 48), by omega⟩
  else if h : l.val - 16 - 48 - 16 < 16 then n ⟨48 + (l.val - 16 - 48 - 16), by omega⟩
  else 0

/-- The values' weight, by element. -/
theorem wV_at (W : FVec Ideal S1024x4256 .f32) (e : Fin 512) (k : Fin 1024) : wV W (ix2 e k) = W (ix2 k ⟨1024 + e.val, by omega⟩) := by
  pointwise [wV]

/-- The low-rank queries' down projection, by element. -/
theorem wCq_at (W : FVec Ideal S1024x4256 .f32) (e : Fin 384) (k : Fin 1024) : wCq W (ix2 e k) = W (ix2 k ⟨1536 + e.val, by omega⟩) := by
  pointwise [wCq]

/-- The low-rank keys' and values' down projection, by element. -/
theorem wCkv_at (W : FVec Ideal S1024x4256 .f32) (k : Fin 1024) (e : Fin 256) : wCkv W (ix2 k e) = W (ix2 k ⟨1920 + e.val, by omega⟩) := by
  pointwise [wCkv]

/-- The gates' weight, by element. -/
theorem wGate_at (W : FVec Ideal S1024x4256 .f32) (k : Fin 1024) (e : Fin 2048) : wGate W (ix2 k e) = W (ix2 k ⟨2208 + e.val, by omega⟩) := by
  pointwise [wGate]

/-- The values' up projection, by element. -/
theorem wVup_at (W : FVec Ideal S256x1024 .f32) (e : Fin 512) (r : Fin 256) :
    wVup W (ix2 e r) = W (ix2 r ⟨e.val / 64 * 128 + (64 + e.val % 64), by omega⟩) := by
  pointwise [wVup]

/-- The first branch's cosines, by element. -/
theorem cosA_at (C : FVec Ideal S8192x32 .f32) (i : Fin 8192) (l : Fin 128) : cosA C (ix2 i l) = C (ix2 i ⟨l.val % 32, by omega⟩) := by
  pointwise [cosA]

/-- The first branch's signed sines, by element. -/
theorem sinA_at (S : FVec Ideal S8192x32 .f32) (i : Fin 8192) (l : Fin 128) :
    sinA S (ix2 i l) = if l.val < 64 then -S (ix2 i ⟨l.val % 32, by omega⟩) else S (ix2 i ⟨l.val % 32, by omega⟩) := by
  have e : ∀ a b : Fin 32, a.val = b.val → S (ix2 i a) = S (ix2 i b) := fun a b h => by rw [Fin.ext h]
  pointwise [sinA]
  by_cases hl : l.val < 64 <;> [rw [if_pos hl]; rw [if_neg hl]] <;> split_ifs <;> first
    | (exfalso; omega)
    | (refine e _ _ ?_; dsimp only; omega)
    | (refine congrArg Neg.neg (e _ _ ?_); dsimp only; omega)

/-- The slot layout of a table, by element. -/
theorem slotT_at (r : FVec Ideal S8192x32 .f32) (n : FVec Ideal S8192x64 .f32) (i : Fin 8192) (l : Fin 128) :
    slotT r n (ix2 i l) = slotF (fun j => r (ix2 i j)) (fun j => n (ix2 i j)) l := by
  unfold slotF
  pointwise [slotT]

/-- The shared rotated keys' weight, by element. -/
theorem wKr_at (W : FVec Ideal S1024x4256 .f32) (k : Fin 1024) (l : Fin 128) :
    wKr W (ix2 k l) = slotF (fun j => W (ix2 k ⟨2176 + j.val, by omega⟩)) (fun j => 0) l := by
  unfold slotF
  pointwise [wKr]

/-- The low-rank queries' up projection, by element. -/
theorem wQup_at (W : FVec Ideal S384x768 .f32) (g : Fin 8) (l : Fin 128) (k : Fin 384) :
    wQup W (ix2 (lane g l) k) = slotF (fun j => W (ix2 k ⟨g.val * 96 + (64 + j.val), by omega⟩)) (fun j => W (ix2 k ⟨g.val * 96 + j.val, by omega⟩)) l := by
  unfold slotF lane
  pointwise [wQup]

/-- The keys' up projection, by element. -/
theorem wKup_at (W : FVec Ideal S256x1024 .f32) (k : Fin 256) (g : Fin 8) (l : Fin 128) :
    wKup W (ix2 k (lane g l)) = slotF (fun j => 0) (fun j => W (ix2 k ⟨g.val * 128 + j.val, by omega⟩)) l := by
  unfold slotF lane
  pointwise [wKup]

/-- The column an index array entry names: within a pair of heads the first halves of both, then the second halves. -/
def colOf (e : Fin 512) : Fin 512 := ⟨128 * (e.val / 128) + 64 * (e.val / 32 % 2) + 32 * (e.val / 64 % 2) + e.val % 32, by omega⟩

/-- The index array's entries. -/
theorem cols_at : ∀ e : Fin 512, (cols (ix2 e 0)).toInt.toNat = (colOf e).val := by
  decide +kernel

/-- The gather of columns, by element. -/
theorem gather_at (x : FVec Ideal S1024x512 .bf16) (k : Fin 1024) (e : Fin 512) :
    Host.gather gather_S1024x512_S512x1_S1024x512_0_1_n_n_1_1_10241 x cols (ix2 k e) = x (ix2 k (colOf e)) := by
  unfold Host.gather
  congr 1
  funext a
  refine Fin.ext ?_
  change GatherDims.start _ _ _ a + GatherDims.batchCoord _ _ a + GatherDims.offCoord _ _ a = _
  rw [GatherDims.batchCoord_eq_zero _ _ _ List.not_mem_nil]
  obtain rfl | rfl : a = (0 : Fin 2) ∨ a = (1 : Fin 2) := by
    match a with
    | ⟨0, _⟩ => exact Or.inl rfl
    | ⟨1, _⟩ => exact Or.inr rfl
  · unfold GatherDims.start GatherDims.offCoord
    rw [dif_neg (by decide), dif_pos (by decide)]
    exact (Nat.zero_add _).trans rfl
  · rw [GatherDims.offCoord_eq_zero _ _ _ (by decide)]
    unfold GatherDims.start
    rw [dif_pos (by decide)]
    have hsi : gather_S1024x512_S512x1_S1024x512_0_1_n_n_1_1_10241.siIdx (ix2 k e) ⟨List.idxOf (1 : Fin 2) [1], by decide⟩ = ix2 e 0 := by
      funext b
      refine Fin.ext ?_
      match b with
      | ⟨0, _⟩ => rfl
      | ⟨1, _⟩ => rfl
    have h := cols_at e
    rw [← hsi] at h
    have h2 := (colOf e).isLt
    change min (cols _).toInt.toNat 511 + 0 + 0 = (colOf e).val
    erw [h]
    omega

/-- The queries' weight, by element. -/
theorem wQ_at (W : FVec Ideal S1024x4256 .f32) (e : Fin 512) (k : Fin 1024) : wQ W (ix2 e k) = W (ix2 k ⟨(colOf e).val, by omega⟩) := by
  have h := gather_at (extractStridedSlice S1024x512 ![0, 0] (truncf .bf16 W bitsLt_bf16_f32) slices_S1024x4256_S1024x512_0_0) k e
  have h2 : (extractStridedSlice S1024x512 ![0, 0] (truncf .bf16 W bitsLt_bf16_f32) slices_S1024x4256_S1024x512_0_0 : FVec Ideal S1024x512 .bf16) (ix2 k (colOf e)) = W (ix2 k ⟨(colOf e).val, by omega⟩) := by
    pointwise
  rw [← h2, ← h]
  pointwise [wQ]

/-- The keys' weight, by element. -/
theorem wK_at (W : FVec Ideal S1024x4256 .f32) (k : Fin 1024) (e : Fin 512) : wK W (ix2 k e) = W (ix2 k ⟨512 + (colOf e).val, by omega⟩) := by
  have h2 : (extractStridedSlice S1024x512 ![0, 512] (truncf .bf16 W bitsLt_bf16_f32) slices_S1024x4256_S1024x512_0_512 : FVec Ideal S1024x512 .bf16) (ix2 k (colOf e)) = W (ix2 k ⟨512 + (colOf e).val, by omega⟩) := by
    pointwise
  exact (gather_at _ k e).trans h2

end Bridge
end Cert.PreRows
-- ==== Proof.PreVals.lean ====
/-
  The operand arrays of the layer's opening call over its argument arrays, and the values the host operations leave.
-/
module

public import proofs.«01_k».proof.Proof.PreOps

@[expose] public section

set_option maxRecDepth 16384

noncomputable section

open Idealize.ShloMosaic Idealize.ShloMosaic.TcCoe Idealize.SL.Sem
open Idealize.ShloMosaic.Pipeline (Dat)
open Cert.PostRows (normRow)

namespace Cert.PreRows

section Bridge
open Cert.PreIdeal Cert.PreIdeal.Gen

variable (m : (ℓ : Loc nD τ sig) → Buf (Elt Ideal) ℓ) (c : Dev nD)

/-- The operand array `main_v9` as the region finds it. -/
theorem V_v9 : V m c main_v9 = wQ (m ((c : Thread nD τ).loc main_arg2)) := rfl

/-- The operand array `main_v17` as the region finds it. -/
theorem V_v17 : V m c main_v17 = wK (m ((c : Thread nD τ).loc main_arg2)) := rfl

/-- The operand array `main_v19` as the region finds it. -/
theorem V_v19 : V m c main_v19 = wV (m ((c : Thread nD τ).loc main_arg2)) := rfl

/-- The operand array `main_v21` as the region finds it. -/
theorem V_v21 : V m c main_v21 = wCq (m ((c : Thread nD τ).loc main_arg2)) := rfl

/-- The operand array `main_v22` as the region finds it. -/
theorem V_v22 : V m c main_v22 = wCkv (m ((c : Thread nD τ).loc main_arg2)) := rfl

/-- The operand array `main_v30` as the region finds it. -/
theorem V_v30 : V m c main_v30 = wKr (m ((c : Thread nD τ).loc main_arg2)) := rfl

/-- The operand array `main_v31` as the region finds it. -/
theorem V_v31 : V m c main_v31 = wGate (m ((c : Thread nD τ).loc main_arg2)) := rfl

set_option maxHeartbeats 4000000 in
/-- The operand array `main_v43` as the region finds it. -/
theorem V_v43 : V m c main_v43 = wQup (m ((c : Thread nD τ).loc main_arg5)) := rfl

set_option maxHeartbeats 4000000 in
/-- The operand array `main_v54` as the region finds it. -/
theorem V_v54 : V m c main_v54 = wKup (m ((c : Thread nD τ).loc main_arg7)) := rfl

/-- The operand array `main_v57` as the region finds it. -/
theorem V_v57 : V m c main_v57 = wVup (m ((c : Thread nD τ).loc main_arg7)) := rfl

/-- The operand array `main_v60` as the region finds it. -/
theorem V_v60 : V m c main_v60 = cosA (m ((c : Thread nD τ).loc main_arg8)) := rfl

/-- The operand array `main_v63` as the region finds it. -/
theorem V_v63 : V m c main_v63 = sinA (m ((c : Thread nD τ).loc main_arg9)) := rfl

set_option maxHeartbeats 4000000 in
/-- The operand array `main_v71` as the region finds it. -/
theorem V_v71 : V m c main_v71 = cosB (m ((c : Thread nD τ).loc main_arg10)) := rfl

set_option maxHeartbeats 4000000 in
/-- The operand array `main_v80` as the region finds it. -/
theorem V_v80 : V m c main_v80 = sinB (m ((c : Thread nD τ).loc main_arg11)) := rfl

/-- The operand array `main_v81` as the region finds it. -/
theorem V_v81 : V m c main_v81 = tT (cosA (m ((c : Thread nD τ).loc main_arg8))) := rfl

/-- The operand array `main_v82` as the region finds it. -/
theorem V_v82 : V m c main_v82 = tT (sinA (m ((c : Thread nD τ).loc main_arg9))) := rfl

set_option maxHeartbeats 4000000 in
/-- The operand array `main_v83` as the region finds it. -/
theorem V_v83 : V m c main_v83 = tT (cosB (m ((c : Thread nD τ).loc main_arg10))) := rfl

set_option maxHeartbeats 4000000 in
/-- The operand array `main_v84` as the region finds it. -/
theorem V_v84 : V m c main_v84 = tT (sinB (m ((c : Thread nD τ).loc main_arg11))) := rfl

/-- The operand array `main_v86` as the region finds it. -/
theorem V_v86 : V m c main_v86 = (broadcastInDim S384x512 ![0, 1] bcast_S384x1_S384x512_0_1 (broadcastInDim S384x1 ![0] bcast_S384_S384x1_0 (m ((c : Thread nD τ).loc main_arg4) : FVec Ideal S384 .f32)) : FVec Ideal S384x512 .f32) := rfl

/-- The operand array `main_v87` as the region finds it. -/
theorem V_v87 : V m c main_v87 = (shapeCast S1x1024 (m ((c : Thread nD τ).loc main_arg1) : FVec Ideal S1024 .f32) shapeCasts_S1024_S1x1024 : FVec Ideal S1x1024 .f32) := rfl

/-- The operand array `main_v88` as the region finds it. -/
theorem V_v88 : V m c main_v88 = (shapeCast S1x2048 (m ((c : Thread nD τ).loc main_arg3) : FVec Ideal S2x1024 .f32) shapeCasts_S2x1024_S1x2048 : FVec Ideal S1x2048 .f32) := rfl

/-- The operand array `main_v89` as the region finds it. -/
theorem V_v89 : V m c main_v89 = (shapeCast S1x256 (m ((c : Thread nD τ).loc main_arg6) : FVec Ideal S256 .f32) shapeCasts_S256_S1x256 : FVec Ideal S1x256 .f32) := rfl

end Bridge
end Cert.PreRows
-- ==== Proof.PreRope.lean ====
/-
  Rotary embeddings in the layouts of the layer's opening call.

  The plain rotation pairs a vector's first half with its second; the kernel lays heads out so that the partner of a lane
  is half a lane tile away, and multiplies by tables with signed sines. The lemmas here equate the two on any values.
-/
module

public import proofs.«01_k».proof.Proof.PreOps

@[expose] public section

set_option maxRecDepth 16384

noncomputable section

open Idealize.ShloMosaic Idealize.ShloMosaic.TcCoe Idealize.SL.Sem
open Idealize.ShloMosaic.Pipeline (Dat)
open Cert.PostRows (normRow)

namespace Cert.PreRows

/-- The rotary embedding of a vector of 64. -/
def rope64 (y : Fin 64 → EReal) (c s : Fin 32 → EReal) (j : Fin 64) : EReal :=
  if h : j.val < 32 then y ⟨j.val, by omega⟩ * c ⟨j.val, h⟩ - y ⟨32 + j.val, by omega⟩ * s ⟨j.val, h⟩
  else y ⟨32 + (j.val - 32), by omega⟩ * c ⟨j.val - 32, by omega⟩ + y ⟨j.val - 32, by omega⟩ * s ⟨j.val - 32, by omega⟩

/-- The rotary embedding of a vector of 32. -/
def rope32 (y : Fin 32 → EReal) (c s : Fin 16 → EReal) (j : Fin 32) : EReal :=
  if h : j.val < 16 then y ⟨j.val, by omega⟩ * c ⟨j.val, h⟩ - y ⟨16 + j.val, by omega⟩ * s ⟨j.val, h⟩
  else y ⟨16 + (j.val - 16), by omega⟩ * c ⟨j.val - 16, by omega⟩ + y ⟨j.val - 16, by omega⟩ * s ⟨j.val - 16, by omega⟩

/-- A lane of a pair of heads: the head and the place in it. -/
def headOf (g : Fin 4) (l : Fin 128) : Fin 8 := ⟨g.val * 2 + l.val / 32 % 2, by omega⟩
@[inherit_doc headOf] def inOf (l : Fin 128) : Fin 64 := ⟨l.val / 64 * 32 + l.val % 32, by omega⟩

/-- The rotation of paired heads with signed sines is the rotation of each head. -/
theorem rope_lane (y : Fin 512 → EReal) (c s : Fin 32 → EReal) (g : Fin 4) (l : Fin 128) :
    y (colOf (lane g l)) * c ⟨l.val % 32, by omega⟩
      + y (colOf (lane g (part l))) * (if l.val < 64 then -s ⟨l.val % 32, by omega⟩ else s ⟨l.val % 32, by omega⟩)
      = rope64 (fun j => y ⟨(headOf g l).val * 64 + j.val, by omega⟩) c s (inOf l) := by
  have ey : ∀ a b : Fin 512, a.val = b.val → y a = y b := fun a b h => congrArg y (Fin.ext h)
  have ec : ∀ (c : Fin 32 → EReal) (a b : Fin 32), a.val = b.val → c a = c b := fun c a b h => congrArg c (Fin.ext h)
  by_cases h : l.val < 64
  · have hi : (inOf l).val < 32 := by unfold inOf; dsimp only; omega
    have hp : part l = ⟨l.val + 64, by omega⟩ := Fin.ext (if_pos h)
    rw [if_pos h, hp]
    unfold rope64
    rw [dif_pos hi, mul_neg, ← sub_eq_add_neg]
    refine congrArg₂ (· - ·) (congrArg₂ (· * ·) (ey _ _ ?_) (ec c _ _ ?_)) (congrArg₂ (· * ·) (ey _ _ ?_) (ec s _ _ ?_)) <;>
      simp only [colOf, lane, headOf, inOf] <;> omega
  · have hi : ¬ (inOf l).val < 32 := by unfold inOf; dsimp only; omega
    have hp : part l = ⟨l.val - 64, by omega⟩ := Fin.ext (if_neg h)
    rw [if_neg h, hp]
    unfold rope64
    rw [dif_neg hi]
    refine congrArg₂ (· + ·) (congrArg₂ (· * ·) (ey _ _ ?_) (ec c _ _ ?_)) (congrArg₂ (· * ·) (ey _ _ ?_) (ec s _ _ ?_)) <;>
      simp only [colOf, lane, headOf, inOf] <;> omega

section Slot
variable (r : Fin 32 → EReal) (n : Fin 64 → EReal) (l : Fin 128)

/-- The slot's first rotary lanes. -/
theorem slot_a (h : l.val < 16) : slotF r n l = r ⟨l.val, by omega⟩ := dif_pos h
/-- The slot's first plain lanes. -/
theorem slot_b (h : 16 ≤ l.val) (h2 : l.val < 64) : slotF r n l = n ⟨l.val - 16, by omega⟩ := by
  unfold slotF; rw [dif_neg (by omega), dif_pos (by omega)]
/-- The slot's second rotary lanes. -/
theorem slot_c (h : 64 ≤ l.val) (h2 : l.val < 80) : slotF r n l = r ⟨16 + (l.val - 16 - 48), by omega⟩ := by
  unfold slotF; rw [dif_neg (by omega), dif_neg (by omega), dif_pos (by omega)]
/-- The slot's second plain lanes. -/
theorem slot_d (h : 80 ≤ l.val) (h2 : l.val < 96) : slotF r n l = n ⟨48 + (l.val - 16 - 48 - 16), by omega⟩ := by
  unfold slotF; rw [dif_neg (by omega), dif_neg (by omega), dif_neg (by omega), dif_pos (by omega)]
/-- The slot's zeros. -/
theorem slot_e (h : 96 ≤ l.val) : slotF r n l = 0 := by
  unfold slotF; rw [dif_neg (by omega), dif_neg (by omega), dif_neg (by omega), dif_neg (by omega)]

/-- A lane lies in one of the slot's five pieces. -/
theorem slot_cases (P : Fin 128 → Prop) (ha : ∀ l : Fin 128, l.val < 16 → P l) (hb : ∀ l : Fin 128, 16 ≤ l.val → l.val < 64 → P l)
    (hc : ∀ l : Fin 128, 64 ≤ l.val → l.val < 80 → P l) (hd : ∀ l : Fin 128, 80 ≤ l.val → l.val < 96 → P l)
    (he : ∀ l : Fin 128, 96 ≤ l.val → P l) (l : Fin 128) : P l := by
  by_cases h1 : l.val < 16
  · exact ha l h1
  by_cases h2 : l.val < 64
  · exact hb l (by omega) h2
  by_cases h3 : l.val < 80
  · exact hc l (by omega) h3
  by_cases h4 : l.val < 96
  · exact hd l (by omega) h4
  exact he l (by omega)

/-- A slot times a factor. -/
theorem slot_mul (q : EReal) : slotF r n l * q = slotF (fun j => r j * q) (fun j => n j * q) l := by
  refine slot_cases (fun l => slotF r n l * q = slotF (fun j => r j * q) (fun j => n j * q) l) ?_ ?_ ?_ ?_ ?_ l
  · intro l h; simp only [slot_a _ _ l h]
  · intro l h h2; simp only [slot_b _ _ l h h2]
  · intro l h h2; simp only [slot_c _ _ l h h2]
  · intro l h h2; simp only [slot_d _ _ l h h2]
  · intro l h; simp only [slot_e _ _ l h, zero_mul]

/-- A plain slot plus a rotary slot. -/
theorem slot_add : slotF (fun _ => 0) n l + slotF r (fun _ => 0) l = slotF r n l := by
  refine slot_cases (fun l => slotF (fun _ => 0) n l + slotF r (fun _ => 0) l = slotF r n l) ?_ ?_ ?_ ?_ ?_ l
  · intro l h; simp only [slot_a _ _ l h, zero_add]
  · intro l h h2; simp only [slot_b _ _ l h h2, add_zero]
  · intro l h h2; simp only [slot_c _ _ l h h2, zero_add]
  · intro l h h2; simp only [slot_d _ _ l h h2, add_zero]
  · intro l h; simp only [slot_e _ _ l h, add_zero]

/-- A row against a weight in the slot layout is the slot of the rows against the pieces. -/
theorem slot_sum {w : ℕ} (a : Fin w → EReal) (r : Fin w → Fin 32 → EReal) (n : Fin w → Fin 64 → EReal) :
    (∑ k, a k * slotF (r k) (n k) l) = slotF (fun j => ∑ k, a k * r k j) (fun j => ∑ k, a k * n k j) l := by
  refine slot_cases (fun l => (∑ k, a k * slotF (r k) (n k) l) = slotF (fun j => ∑ k, a k * r k j) (fun j => ∑ k, a k * n k j) l) ?_ ?_ ?_ ?_ ?_ l
  · intro l h; simp only [slot_a _ _ l h]
  · intro l h h2; simp only [slot_b _ _ l h h2]
  · intro l h h2; simp only [slot_c _ _ l h h2]
  · intro l h h2; simp only [slot_d _ _ l h h2]
  · intro l h; simp only [slot_e _ _ l h, mul_zero, Finset.sum_const_zero]

/-- The tables' rotary part: the same value for both halves. -/
def twice (c : Fin 16 → EReal) (j : Fin 32) : EReal := if h : j.val < 16 then c ⟨j.val, h⟩ else c ⟨j.val - 16, by omega⟩
/-- The signed sines' rotary part: minus for the first half. -/
def signed (s : Fin 16 → EReal) (j : Fin 32) : EReal := if h : j.val < 16 then -s ⟨j.val, h⟩ else s ⟨j.val - 16, by omega⟩

/-- The rotation of a slot by its tables is the slot of the rotated part and the plain part. -/
theorem slot_rope (c s : Fin 16 → EReal) :
    slotF r n l * slotF (twice c) (fun _ => 1) l + slotF r n (part l) * slotF (signed s) (fun _ => 0) l
      = slotF (rope32 r c s) n l := by
  have er : ∀ a b : Fin 32, a.val = b.val → r a = r b := fun a b h => congrArg r (Fin.ext h)
  have ec : ∀ (c : Fin 16 → EReal) (a b : Fin 16), a.val = b.val → c a = c b := fun c a b h => congrArg c (Fin.ext h)
  refine slot_cases (fun l => slotF r n l * slotF (twice c) (fun _ => 1) l + slotF r n (part l) * slotF (signed s) (fun _ => 0) l
      = slotF (rope32 r c s) n l) ?_ ?_ ?_ ?_ ?_ l
  · intro l h
    have hp : part l = ⟨l.val + 64, by omega⟩ := Fin.ext (if_pos (by omega))
    rw [hp, slot_c r n ⟨l.val + 64, by omega⟩ (by dsimp only; omega) (by dsimp only; omega)]
    simp only [slot_a _ _ l h]
    unfold twice signed rope32
    rw [dif_pos h, dif_pos h, dif_pos h, mul_neg, ← sub_eq_add_neg]
    refine congrArg₂ (· - ·) rfl (congrArg₂ (· * ·) (er _ _ ?_) rfl)
    dsimp only; omega
  · intro l h h2; simp only [slot_b _ _ l h h2, mul_one, mul_zero, add_zero]
  · intro l h h2
    have hp : part l = ⟨l.val - 64, by omega⟩ := Fin.ext (if_neg (by omega))
    rw [hp, slot_a r n ⟨l.val - 64, by omega⟩ (by dsimp only; omega)]
    simp only [slot_c _ _ l h h2]
    unfold twice signed rope32
    rw [dif_neg (by dsimp only; omega), dif_neg (by dsimp only; omega), dif_neg (by dsimp only; omega)]
    refine congrArg₂ (· + ·) (congrArg₂ (· * ·) (er _ _ ?_) rfl) (congrArg₂ (· * ·) (er _ _ ?_) rfl) <;> dsimp only <;> omega
  · intro l h h2; simp only [slot_d _ _ l h h2, mul_one, mul_zero, add_zero]
  · intro l h; simp only [slot_e _ _ l h, mul_zero, add_zero]

end Slot

section Tables
open Cert.PreIdeal Cert.PreIdeal.Gen

/-- The second branch's cosines, by element. -/
theorem cosB_at (C : FVec Ideal S8192x16 .f32) (i : Fin 8192) (l : Fin 128) :
    cosB C (ix2 i l) = slotF (twice fun j => C (ix2 i j)) (fun _ => 1) l := by
  unfold cosB
  rw [slotT_at]
  refine congrArg₂ (fun r n => slotF r n l) (funext fun j => ?_) (funext fun j => ?_)
  · unfold twice; pointwise
  · pointwise

/-- The second branch's signed sines, by element. -/
theorem sinB_at (S : FVec Ideal S8192x16 .f32) (i : Fin 8192) (l : Fin 128) :
    sinB S (ix2 i l) = slotF (signed fun j => S (ix2 i j)) (fun _ => 0) l := by
  unfold sinB
  rw [slotT_at]
  refine congrArg₂ (fun r n => slotF r n l) (funext fun j => ?_) (funext fun j => ?_)
  · unfold signed; pointwise
  · pointwise

/-- A transposed table, by element. -/
theorem tT_at (x : FVec Ideal S8192x128 .f32) (l : Fin 128) (i : Fin 8192) : tT x (ix2 l i) = x (ix2 i l) := by
  pointwise [tT]

end Tables
end Cert.PreRows
-- ==== Proof.PreBlk.lean ====
/-
  The blocks of the layer's opening call are rows, columns and tables of its argument arrays.
-/
module

public import proofs.«01_k».proof.Proof.PreVals
public import proofs.«01_k».proof.Proof.PreRope

@[expose] public section

set_option maxRecDepth 16384

noncomputable section

open Idealize.ShloMosaic Idealize.ShloMosaic.TcCoe Idealize.SL.Sem
open Idealize.ShloMosaic.Pipeline (Dat)

namespace Cert.PreRows

section Bridge
open Cert.PreIdeal Cert.PreIdeal.Gen

variable (m : (ℓ : Loc nD τ sig) → Buf (Elt Ideal) ℓ) (c : Dev nD)

/-- The row and vector windows' block indices. -/
theorem idxRow : ∀ t : Fin cfg0.N, win0_0.index t = ![t.val, 0] ∧ win0_1.index t = ![0, 0] ∧ t.val < 32 :=
  (by decide +kernel : ∀ t : Fin grid0.N, _)

/-- The row tables' block indices. -/
theorem idxTab : ∀ t : Fin cfg0.N, win0_2.index t = ![t.val % 16, 0] ∧ win0_3.index t = ![t.val % 16, 0]
    ∧ win0_4.index t = ![t.val % 16, 0] ∧ win0_5.index t = ![t.val % 16, 0] :=
  (by decide +kernel : ∀ t : Fin grid0.N, _)

/-- The transposed tables' block indices. -/
theorem idxTabT : ∀ t : Fin cfg0.N, win0_6.index t = ![0, t.val % 16] ∧ win0_7.index t = ![0, t.val % 16]
    ∧ win0_8.index t = ![0, t.val % 16] ∧ win0_9.index t = ![0, t.val % 16] :=
  (by decide +kernel : ∀ t : Fin grid0.N, _)

/-- The weights' block indices. -/
theorem idxW : ∀ t : Fin cfg0.N, win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] :=
  (by decide +kernel : ∀ t : Fin grid0.N, _)

/-- The remaining operands' block indices. -/
theorem idxW2 : ∀ t : Fin cfg0.N, win0_17.index t = ![0, 0] ∧ win0_18.index t = ![0, 0] ∧ win0_19.index t = ![0, 0]
    ∧ win0_20.index t = ![0, 0] ∧ win0_21.index t = ![0, 0] ∧ win0_22.index t = ![0, 0] :=
  (by decide +kernel : ∀ t : Fin grid0.N, _)

/-- The results' block indices. -/
theorem idxO : ∀ t : Fin cfg0.N, win0_23.index t = ![t.val, 0, 0] ∧ win0_24.index t = ![t.val, 0]
    ∧ win0_25.index t = ![t.val, 0, 0] ∧ win0_26.index t = ![t.val, 0, 0] :=
  (by decide +kernel : ∀ t : Fin grid0.N, _)
/-- The further results' block indices. -/
theorem idxO2 : ∀ t : Fin cfg0.N, win0_27.index t = ![t.val, 0]
    ∧ win0_28.index t = ![t.val, 0, 0] ∧ win0_29.index t = ![t.val, 0] ∧ win0_30.index t = ![t.val, 0, 0] :=
  (by decide +kernel : ∀ t : Fin grid0.N, _)

/-- The row of the arrays a block's row is. -/
def rowOf (t : Fin cfg0.N) (i : Fin 512) : Fin 16384 := ⟨t.val * 512 + i.val, by have := (idxRow t).2.2; omega⟩
/-- The row of the tables a block's row is. -/
def tabOf (t : Fin cfg0.N) (i : Fin 512) : Fin 8192 := ⟨t.val % 16 * 512 + i.val, by omega⟩

/-- The argument arrays. -/
abbrev mX : FVec Ideal S16384x1024 .f32 := m ((c : Thread nD τ).loc main_arg0)
abbrev mG : FVec Ideal S1024 .f32 := m ((c : Thread nD τ).loc main_arg1)
abbrev mW : FVec Ideal S1024x4256 .f32 := m ((c : Thread nD τ).loc main_arg2)
abbrev mB : FVec Ideal S2x1024 .f32 := m ((c : Thread nD τ).loc main_arg3)
abbrev mGq : FVec Ideal S384 .f32 := m ((c : Thread nD τ).loc main_arg4)
abbrev mWq : FVec Ideal S384x768 .f32 := m ((c : Thread nD τ).loc main_arg5)
abbrev mGkv : FVec Ideal S256 .f32 := m ((c : Thread nD τ).loc main_arg6)
abbrev mWkv : FVec Ideal S256x1024 .f32 := m ((c : Thread nD τ).loc main_arg7)
abbrev mCa : FVec Ideal S8192x32 .f32 := m ((c : Thread nD τ).loc main_arg8)
abbrev mSa : FVec Ideal S8192x32 .f32 := m ((c : Thread nD τ).loc main_arg9)
abbrev mCb : FVec Ideal S8192x16 .f32 := m ((c : Thread nD τ).loc main_arg10)
abbrev mSb : FVec Ideal S8192x16 .f32 := m ((c : Thread nD τ).loc main_arg11)

/-- The input rows' block. -/
theorem blk0 (t : Fin cfg0.N) (i : Fin 512) (j : Fin 1024) : (iblk m c 0 t : FVec Ideal S512x1024 .f32) (ix2 i j) = mX m c (ix2 (rowOf t i) j) := by
  unfold iblk rowOf
  rw [show V m c (Pipeline.arrRef spec0 0) = _ from V_main_arg0 m c]
  blk_point [(idxRow t).1]

/-- The norm's scale. -/
theorem blk1 (t : Fin cfg0.N) (j : Fin 1024) : (iblk m c 1 t : FVec Ideal S1x1024 .f32) (ix2 0 j) = mG m c (ix1 j) := by
  unfold iblk
  rw [show V m c (Pipeline.arrRef spec0 1) = _ from V_v87 m c]
  refine Eq.trans (b := (shapeCast S1x1024 (mG m c) shapeCasts_S1024_S1x1024 : FVec Ideal S1x1024 .f32) (ix2 0 j)) ?_ (by pointwise)
  generalize (shapeCast S1x1024 (mG m c) shapeCasts_S1024_S1x1024 : FVec Ideal S1x1024 .f32) = Y
  blk_point [(idxRow t).2.1]

/-- Window 2's block of an array. -/
theorem rd2 (t : Fin cfg0.N) (Y : FVec Ideal S8192x128 .f32) (i : Fin 512) (l : Fin 128) : (View.read (Elt Ideal) ((cfg0.win 2).blk t).view Y : FVec Ideal S512x128 .f32) (ix2 i l) = Y (ix2 (tabOf t i) l) := by
  unfold tabOf
  blk_point [(idxTab t).1]

/-- The first branch's cosines. -/
theorem blk2 (t : Fin cfg0.N) (i : Fin 512) (l : Fin 128) : (iblk m c 2 t : FVec Ideal S512x128 .f32) (ix2 i l) = cosA (mCa m c) (ix2 (tabOf t i) l) := by
  unfold iblk
  rw [show V m c (Pipeline.arrRef spec0 2) = _ from V_v60 m c]
  exact rd2 t _ i l

/-- Window 3's block of an array. -/
theorem rd3 (t : Fin cfg0.N) (Y : FVec Ideal S8192x128 .f32) (i : Fin 512) (l : Fin 128) : (View.read (Elt Ideal) ((cfg0.win 3).blk t).view Y : FVec Ideal S512x128 .f32) (ix2 i l) = Y (ix2 (tabOf t i) l) := by
  unfold tabOf
  blk_point [(idxTab t).2.1]

/-- The first branch's sines. -/
theorem blk3 (t : Fin cfg0.N) (i : Fin 512) (l : Fin 128) : (iblk m c 3 t : FVec Ideal S512x128 .f32) (ix2 i l) = sinA (mSa m c) (ix2 (tabOf t i) l) := by
  unfold iblk
  rw [show V m c (Pipeline.arrRef spec0 3) = _ from V_v63 m c]
  exact rd3 t _ i l

/-- Window 4's block of an array. -/
theorem rd4 (t : Fin cfg0.N) (Y : FVec Ideal S8192x128 .f32) (i : Fin 512) (l : Fin 128) : (View.read (Elt Ideal) ((cfg0.win 4).blk t).view Y : FVec Ideal S512x128 .f32) (ix2 i l) = Y (ix2 (tabOf t i) l) := by
  unfold tabOf
  blk_point [(idxTab t).2.2.1]

/-- The second branch's cosines. -/
theorem blk4 (t : Fin cfg0.N) (i : Fin 512) (l : Fin 128) : (iblk m c 4 t : FVec Ideal S512x128 .f32) (ix2 i l) = cosB (mCb m c) (ix2 (tabOf t i) l) := by
  unfold iblk
  rw [show V m c (Pipeline.arrRef spec0 4) = _ from V_v71 m c]
  exact rd4 t _ i l

/-- Window 5's block of an array. -/
theorem rd5 (t : Fin cfg0.N) (Y : FVec Ideal S8192x128 .f32) (i : Fin 512) (l : Fin 128) : (View.read (Elt Ideal) ((cfg0.win 5).blk t).view Y : FVec Ideal S512x128 .f32) (ix2 i l) = Y (ix2 (tabOf t i) l) := by
  unfold tabOf
  blk_point [(idxTab t).2.2.2]

/-- The second branch's sines. -/
theorem blk5 (t : Fin cfg0.N) (i : Fin 512) (l : Fin 128) : (iblk m c 5 t : FVec Ideal S512x128 .f32) (ix2 i l) = sinB (mSb m c) (ix2 (tabOf t i) l) := by
  unfold iblk
  rw [show V m c (Pipeline.arrRef spec0 5) = _ from V_v80 m c]
  exact rd5 t _ i l

/-- Window 6's block of an array. -/
theorem rd6 (t : Fin cfg0.N) (Y : FVec Ideal S128x8192 .f32) (i : Fin 512) (l : Fin 128) : (View.read (Elt Ideal) ((cfg0.win 6).blk t).view Y : FVec Ideal S128x512 .f32) (ix2 l i) = Y (ix2 l (tabOf t i)) := by
  unfold tabOf
  blk_point [(idxTabT t).1]

/-- The first branch's cosines, transposed. -/
theorem blk6 (t : Fin cfg0.N) (i : Fin 512) (l : Fin 128) : (iblk m c 6 t : FVec Ideal S128x512 .f32) (ix2 l i) = tT (cosA (mCa m c)) (ix2 l (tabOf t i)) := by
  unfold iblk
  rw [show V m c (Pipeline.arrRef spec0 6) = _ from V_v81 m c]
  exact rd6 t _ i l

/-- Window 7's block of an array. -/
theorem rd7 (t : Fin cfg0.N) (Y : FVec Ideal S128x8192 .f32) (i : Fin 512) (l : Fin 128) : (View.read (Elt Ideal) ((cfg0.win 7).blk t).view Y : FVec Ideal S128x512 .f32) (ix2 l i) = Y (ix2 l (tabOf t i)) := by
  unfold tabOf
  blk_point [(idxTabT t).2.1]

/-- The first branch's sines, transposed. -/
theorem blk7 (t : Fin cfg0.N) (i : Fin 512) (l : Fin 128) : (iblk m c 7 t : FVec Ideal S128x512 .f32) (ix2 l i) = tT (sinA (mSa m c)) (ix2 l (tabOf t i)) := by
  unfold iblk
  rw [show V m c (Pipeline.arrRef spec0 7) = _ from V_v82 m c]
  exact rd7 t _ i l

/-- Window 8's block of an array. -/
theorem rd8 (t : Fin cfg0.N) (Y : FVec Ideal S128x8192 .f32) (i : Fin 512) (l : Fin 128) : (View.read (Elt Ideal) ((cfg0.win 8).blk t).view Y : FVec Ideal S128x512 .f32) (ix2 l i) = Y (ix2 l (tabOf t i)) := by
  unfold tabOf
  blk_point [(idxTabT t).2.2.1]

/-- The second branch's cosines, transposed. -/
theorem blk8 (t : Fin cfg0.N) (i : Fin 512) (l : Fin 128) : (iblk m c 8 t : FVec Ideal S128x512 .f32) (ix2 l i) = tT (cosB (mCb m c)) (ix2 l (tabOf t i)) := by
  unfold iblk
  rw [show V m c (Pipeline.arrRef spec0 8) = _ from V_v83 m c]
  exact rd8 t _ i l

/-- Window 9's block of an array. -/
theorem rd9 (t : Fin cfg0.N) (Y : FVec Ideal S128x8192 .f32) (i : Fin 512) (l : Fin 128) : (View.read (Elt Ideal) ((cfg0.win 9).blk t).view Y : FVec Ideal S128x512 .f32) (ix2 l i) = Y (ix2 l (tabOf t i)) := by
  unfold tabOf
  blk_point [(idxTabT t).2.2.2]

/-- The second branch's sines, transposed. -/
theorem blk9 (t : Fin cfg0.N) (i : Fin 512) (l : Fin 128) : (iblk m c 9 t : FVec Ideal S128x512 .f32) (ix2 l i) = tT (sinB (mSb m c)) (ix2 l (tabOf t i)) := by
  unfold iblk
  rw [show V m c (Pipeline.arrRef spec0 9) = _ from V_v84 m c]
  exact rd9 t _ i l

/-- Window 10's block of an array. -/
theorem rd10 (t : Fin cfg0.N) (Y : FVec Ideal S512x1024 .bf16) (a : Fin 512) (b : Fin 1024) : (View.read (Elt Ideal) ((cfg0.win 10).blk t).view Y : FVec Ideal S512x1024 .bf16) (ix2 a b) = Y (ix2 a b) := by
  blk_point [(idxW t).1]

/-- The queries' weight. -/
theorem blk10 (t : Fin cfg0.N) (a : Fin 512) (b : Fin 1024) : (iblk m c 10 t : FVec Ideal S512x1024 .bf16) (ix2 a b) = wQ (mW m c) (ix2 a b) := by
  unfold iblk
  rw [show V m c (Pipeline.arrRef spec0 10) = _ from V_v9 m c]
  exact rd10 t _ a b

/-- Window 11's block of an array. -/
theorem rd11 (t : Fin cfg0.N) (Y : FVec Ideal S1024x512 .bf16) (a : Fin 1024) (b : Fin 512) : (View.read (Elt Ideal) ((cfg0.win 11).blk t).view Y : FVec Ideal S1024x512 .bf16) (ix2 a b) = Y (ix2 a b) := by
  blk_point [(idxW t).2.1]

/-- The keys' weight. -/
theorem blk11 (t : Fin cfg0.N) (a : Fin 1024) (b : Fin 512) : (iblk m c 11 t : FVec Ideal S1024x512 .bf16) (ix2 a b) = wK (mW m c) (ix2 a b) := by
  unfold iblk
  rw [show V m c (Pipeline.arrRef spec0 11) = _ from V_v17 m c]
  exact rd11 t _ a b

/-- Window 12's block of an array. -/
theorem rd12 (t : Fin cfg0.N) (Y : FVec Ideal S512x1024 .bf16) (a : Fin 512) (b : Fin 1024) : (View.read (Elt Ideal) ((cfg0.win 12).blk t).view Y : FVec Ideal S512x1024 .bf16) (ix2 a b) = Y (ix2 a b) := by
  blk_point [(idxW t).2.2.1]

/-- The values' weight. -/
theorem blk12 (t : Fin cfg0.N) (a : Fin 512) (b : Fin 1024) : (iblk m c 12 t : FVec Ideal S512x1024 .bf16) (ix2 a b) = wV (mW m c) (ix2 a b) := by
  unfold iblk
  rw [show V m c (Pipeline.arrRef spec0 12) = _ from V_v19 m c]
  exact rd12 t _ a b

/-- Window 13's block of an array. -/
theorem rd13 (t : Fin cfg0.N) (Y : FVec Ideal S384x1024 .bf16) (a : Fin 384) (b : Fin 1024) : (View.read (Elt Ideal) ((cfg0.win 13).blk t).view Y : FVec Ideal S384x1024 .bf16) (ix2 a b) = Y (ix2 a b) := by
  blk_point [(idxW t).2.2.2.1]

/-- The low-rank queries' weight. -/
theorem blk13 (t : Fin cfg0.N) (a : Fin 384) (b : Fin 1024) : (iblk m c 13 t : FVec Ideal S384x1024 .bf16) (ix2 a b) = wCq (mW m c) (ix2 a b) := by
  unfold iblk
  rw [show V m c (Pipeline.arrRef spec0 13) = _ from V_v21 m c]
  exact rd13 t _ a b

/-- Window 14's block of an array. -/
theorem rd14 (t : Fin cfg0.N) (Y : FVec Ideal S1024x256 .bf16) (a : Fin 1024) (b : Fin 256) : (View.read (Elt Ideal) ((cfg0.win 14).blk t).view Y : FVec Ideal S1024x256 .bf16) (ix2 a b) = Y (ix2 a b) := by
  blk_point [(idxW t).2.2.2.2.1]

/-- The low-rank keys' weight. -/
theorem blk14 (t : Fin cfg0.N) (a : Fin 1024) (b : Fin 256) : (iblk m c 14 t : FVec Ideal S1024x256 .bf16) (ix2 a b) = wCkv (mW m c) (ix2 a b) := by
  unfold iblk
  rw [show V m c (Pipeline.arrRef spec0 14) = _ from V_v22 m c]
  exact rd14 t _ a b

/-- Window 15's block of an array. -/
theorem rd15 (t : Fin cfg0.N) (Y : FVec Ideal S1024x128 .bf16) (a : Fin 1024) (b : Fin 128) : (View.read (Elt Ideal) ((cfg0.win 15).blk t).view Y : FVec Ideal S1024x128 .bf16) (ix2 a b) = Y (ix2 a b) := by
  blk_point [(idxW t).2.2.2.2.2.1]

/-- The rotary keys' weight. -/
theorem blk15 (t : Fin cfg0.N) (a : Fin 1024) (b : Fin 128) : (iblk m c 15 t : FVec Ideal S1024x128 .bf16) (ix2 a b) = wKr (mW m c) (ix2 a b) := by
  unfold iblk
  rw [show V m c (Pipeline.arrRef spec0 15) = _ from V_v30 m c]
  exact rd15 t _ a b

/-- Window 16's block of an array. -/
theorem rd16 (t : Fin cfg0.N) (Y : FVec Ideal S1024x2048 .bf16) (a : Fin 1024) (b : Fin 2048) : (View.read (Elt Ideal) ((cfg0.win 16).blk t).view Y : FVec Ideal S1024x2048 .bf16) (ix2 a b) = Y (ix2 a b) := by
  blk_point [(idxW t).2.2.2.2.2.2]

/-- The gates' weight. -/
theorem blk16 (t : Fin cfg0.N) (a : Fin 1024) (b : Fin 2048) : (iblk m c 16 t : FVec Ideal S1024x2048 .bf16) (ix2 a b) = wGate (mW m c) (ix2 a b) := by
  unfold iblk
  rw [show V m c (Pipeline.arrRef spec0 16) = _ from V_v31 m c]
  exact rd16 t _ a b

/-- Window 17's block of an array. -/
theorem rd17 (t : Fin cfg0.N) (Y : FVec Ideal S1x2048 .f32) (j : Fin 2048) : (View.read (Elt Ideal) ((cfg0.win 17).blk t).view Y : FVec Ideal S1x2048 .f32) (ix2 0 j) = Y (ix2 0 j) := by
  blk_point [(idxW2 t).1]

/-- The operand of window 17, by element. -/
theorem op17 (Z : FVec Ideal S2x1024 .f32) (j : Fin 2048) : (shapeCast S1x2048 Z shapeCasts_S2x1024_S1x2048 : FVec Ideal S1x2048 .f32) (ix2 0 j) = Z (ix2 ⟨j.val / 1024, by omega⟩ ⟨j.val % 1024, by omega⟩) := by
  pointwise

/-- The gates' bias. -/
theorem blk17 (t : Fin cfg0.N) (j : Fin 2048) : (iblk m c 17 t : FVec Ideal S1x2048 .f32) (ix2 0 j) = mB m c (ix2 ⟨j.val / 1024, by omega⟩ ⟨j.val % 1024, by omega⟩) := by
  unfold iblk
  rw [show V m c (Pipeline.arrRef spec0 17) = _ from V_v88 m c]
  exact (rd17 t _ j).trans (op17 _ j)

/-- Window 18's block of an array. -/
theorem rd18 (t : Fin cfg0.N) (Y : FVec Ideal S384x512 .f32) (r : Fin 384) (i : Fin 512) : (View.read (Elt Ideal) ((cfg0.win 18).blk t).view Y : FVec Ideal S384x512 .f32) (ix2 r i) = Y (ix2 r i) := by
  blk_point [(idxW2 t).2.1]

/-- The operand of window 18, by element. -/
theorem op18 (Z : FVec Ideal S384 .f32) (r : Fin 384) (i : Fin 512) : (broadcastInDim S384x512 ![0, 1] bcast_S384x1_S384x512_0_1 (broadcastInDim S384x1 ![0] bcast_S384_S384x1_0 Z) : FVec Ideal S384x512 .f32) (ix2 r i) = Z (ix1 r) := by
  pointwise

/-- The low-rank queries' scale. -/
theorem blk18 (t : Fin cfg0.N) (r : Fin 384) (i : Fin 512) : (iblk m c 18 t : FVec Ideal S384x512 .f32) (ix2 r i) = mGq m c (ix1 r) := by
  unfold iblk
  rw [show V m c (Pipeline.arrRef spec0 18) = _ from V_v86 m c]
  exact (rd18 t _ r i).trans (op18 _ r i)

/-- Window 19's block of an array. -/
theorem rd19 (t : Fin cfg0.N) (Y : FVec Ideal S1024x384 .bf16) (a : Fin 1024) (b : Fin 384) : (View.read (Elt Ideal) ((cfg0.win 19).blk t).view Y : FVec Ideal S1024x384 .bf16) (ix2 a b) = Y (ix2 a b) := by
  blk_point [(idxW2 t).2.2.1]

/-- The queries' raising weight. -/
theorem blk19 (t : Fin cfg0.N) (a : Fin 1024) (b : Fin 384) : (iblk m c 19 t : FVec Ideal S1024x384 .bf16) (ix2 a b) = wQup (mWq m c) (ix2 a b) := by
  unfold iblk
  rw [show V m c (Pipeline.arrRef spec0 19) = _ from V_v43 m c]
  exact rd19 t _ a b

/-- Window 20's block of an array. -/
theorem rd20 (t : Fin cfg0.N) (Y : FVec Ideal S1x256 .f32) (r : Fin 256) : (View.read (Elt Ideal) ((cfg0.win 20).blk t).view Y : FVec Ideal S1x256 .f32) (ix2 0 r) = Y (ix2 0 r) := by
  blk_point [(idxW2 t).2.2.2.1]

/-- The operand of window 20, by element. -/
theorem op20 (Z : FVec Ideal S256 .f32) (r : Fin 256) : (shapeCast S1x256 Z shapeCasts_S256_S1x256 : FVec Ideal S1x256 .f32) (ix2 0 r) = Z (ix1 r) := by
  pointwise

/-- The low-rank keys' scale. -/
theorem blk20 (t : Fin cfg0.N) (r : Fin 256) : (iblk m c 20 t : FVec Ideal S1x256 .f32) (ix2 0 r) = mGkv m c (ix1 r) := by
  unfold iblk
  rw [show V m c (Pipeline.arrRef spec0 20) = _ from V_v89 m c]
  exact (rd20 t _ r).trans (op20 _ r)

/-- Window 21's block of an array. -/
theorem rd21 (t : Fin cfg0.N) (Y : FVec Ideal S256x1024 .bf16) (a : Fin 256) (b : Fin 1024) : (View.read (Elt Ideal) ((cfg0.win 21).blk t).view Y : FVec Ideal S256x1024 .bf16) (ix2 a b) = Y (ix2 a b) := by
  blk_point [(idxW2 t).2.2.2.2.1]

/-- The keys' raising weight. -/
theorem blk21 (t : Fin cfg0.N) (a : Fin 256) (b : Fin 1024) : (iblk m c 21 t : FVec Ideal S256x1024 .bf16) (ix2 a b) = wKup (mWkv m c) (ix2 a b) := by
  unfold iblk
  rw [show V m c (Pipeline.arrRef spec0 21) = _ from V_v54 m c]
  exact rd21 t _ a b

/-- Window 22's block of an array. -/
theorem rd22 (t : Fin cfg0.N) (Y : FVec Ideal S512x256 .bf16) (a : Fin 512) (b : Fin 256) : (View.read (Elt Ideal) ((cfg0.win 22).blk t).view Y : FVec Ideal S512x256 .bf16) (ix2 a b) = Y (ix2 a b) := by
  blk_point [(idxW2 t).2.2.2.2.2]

/-- The values' raising weight. -/
theorem blk22 (t : Fin cfg0.N) (a : Fin 512) (b : Fin 256) : (iblk m c 22 t : FVec Ideal S512x256 .bf16) (ix2 a b) = wVup (mWkv m c) (ix2 a b) := by
  unfold iblk
  rw [show V m c (Pipeline.arrRef spec0 22) = _ from V_v57 m c]
  exact rd22 t _ a b

end Bridge
end Cert.PreRows
-- ==== Proof.PreFin.lean ====
/-
  The opening call's result arrays, from what its blocks hold.
-/
module

public import proofs.«01_k».proof.Proof.PreBlk

@[expose] public section

set_option maxRecDepth 16384

noncomputable section

open Idealize.ShloMosaic Idealize.ShloMosaic.TcCoe Idealize.SL.Sem
open Idealize.ShloMosaic.Pipeline (Dat)

namespace Cert.PreRows

section Bridge
open Cert.PreIdeal Cert.PreIdeal.Gen

variable (m : (ℓ : Loc nD τ sig) → Buf (Elt Ideal) ℓ) (c : Dev nD)

/-- The place of a matrix in the results' blocks of two. -/
def blkOf (t : Fin cfg0.N) (u : Fin 2) : Fin 64 := ⟨t.val * 2 + u.val, by have := (idxRow t).2.2; omega⟩
/-- A block's place in the means. -/
def meanOf (t : Fin cfg0.N) : Fin 32 := ⟨t.val, (idxRow t).2.2⟩

/-- Result 0 is the array whose matrices its blocks hold. -/
theorem fin23 (R : FVec Ideal S64x1024x256 .bf16)
    (h : ∀ t (u : Fin 2) (e : Fin 1024) (p : Fin 256), ((dats m 0 c).after 23 t : FVec Ideal S2x1024x256 .bf16) (ix3 u e p) = R (ix3 (blkOf t u) e p)) :
    (dats m 0 c).arrAt 23 (cfgs 0).N = R := by
  refine (dats m 0 c).arrAt_eq_of_covers 23 _ (by decide +kernel) fun t _ y => ?_
  blk_simp
  obtain ⟨u, e, p, rfl⟩ := idx3 y
  refine (h t u e p).trans ?_
  unfold blkOf
  blk_ext [(idxO t).1]

/-- Result 1 is the array whose rows its blocks hold. -/
theorem fin24 (R : FVec Ideal S16384x512 .bf16)
    (h : ∀ t (i : Fin 512) (j : Fin 512), ((dats m 0 c).after 24 t : FVec Ideal S512x512 .bf16) (ix2 i j) = R (ix2 (rowOf t i) j)) :
    (dats m 0 c).arrAt 24 (cfgs 0).N = R := by
  refine (dats m 0 c).arrAt_eq_of_covers 24 _ (by decide +kernel) fun t _ y => ?_
  blk_simp
  obtain ⟨i, j, rfl⟩ := idx2 y
  refine (h t i j).trans ?_
  unfold rowOf
  blk_ext [(idxO t).2.1]

/-- Result 2 is the array whose matrices its blocks hold. -/
theorem fin25 (R : FVec Ideal S64x512x256 .bf16)
    (h : ∀ t (u : Fin 2) (e : Fin 512) (p : Fin 256), ((dats m 0 c).after 25 t : FVec Ideal S2x512x256 .bf16) (ix3 u e p) = R (ix3 (blkOf t u) e p)) :
    (dats m 0 c).arrAt 25 (cfgs 0).N = R := by
  refine (dats m 0 c).arrAt_eq_of_covers 25 _ (by decide +kernel) fun t _ y => ?_
  blk_simp
  obtain ⟨u, e, p, rfl⟩ := idx3 y
  refine (h t u e p).trans ?_
  unfold blkOf
  blk_ext [(idxO t).2.2.1]

/-- Result 3 is the array whose means its blocks hold. -/
theorem fin26 (R : FVec Ideal S32x2x512 .f32)
    (h : ∀ t (z : Fin 1) (u : Fin 2) (e : Fin 512), ((dats m 0 c).after 26 t : FVec Ideal S1x2x512 .f32) (ix3 z u e) = R (ix3 (meanOf t) u e)) :
    (dats m 0 c).arrAt 26 (cfgs 0).N = R := by
  refine (dats m 0 c).arrAt_eq_of_covers 26 _ (by decide +kernel) fun t _ y => ?_
  blk_simp
  obtain ⟨z, u, e, rfl⟩ := idx3 y
  refine (h t z u e).trans ?_
  unfold meanOf
  blk_ext [(idxO t).2.2.2]

/-- Result 4 is the array whose rows its blocks hold. -/
theorem fin27 (R : FVec Ideal S16384x2048 .bf16)
    (h : ∀ t (i : Fin 512) (j : Fin 2048), ((dats m 0 c).after 27 t : FVec Ideal S512x2048 .bf16) (ix2 i j) = R (ix2 (rowOf t i) j)) :
    (dats m 0 c).arrAt 27 (cfgs 0).N = R := by
  refine (dats m 0 c).arrAt_eq_of_covers 27 _ (by decide +kernel) fun t _ y => ?_
  blk_simp
  obtain ⟨i, j, rfl⟩ := idx2 y
  refine (h t i j).trans ?_
  unfold rowOf
  blk_ext [(idxO2 t).1]

/-- Result 5 is the array whose matrices its blocks hold. -/
theorem fin28 (R : FVec Ideal S64x1024x256 .bf16)
    (h : ∀ t (u : Fin 2) (e : Fin 1024) (p : Fin 256), ((dats m 0 c).after 28 t : FVec Ideal S2x1024x256 .bf16) (ix3 u e p) = R (ix3 (blkOf t u) e p)) :
    (dats m 0 c).arrAt 28 (cfgs 0).N = R := by
  refine (dats m 0 c).arrAt_eq_of_covers 28 _ (by decide +kernel) fun t _ y => ?_
  blk_simp
  obtain ⟨u, e, p, rfl⟩ := idx3 y
  refine (h t u e p).trans ?_
  unfold blkOf
  blk_ext [(idxO2 t).2.1]

/-- Result 6 is the array whose rows its blocks hold. -/
theorem fin29 (R : FVec Ideal S16384x1024 .bf16)
    (h : ∀ t (i : Fin 512) (j : Fin 1024), ((dats m 0 c).after 29 t : FVec Ideal S512x1024 .bf16) (ix2 i j) = R (ix2 (rowOf t i) j)) :
    (dats m 0 c).arrAt 29 (cfgs 0).N = R := by
  refine (dats m 0 c).arrAt_eq_of_covers 29 _ (by decide +kernel) fun t _ y => ?_
  blk_simp
  obtain ⟨i, j, rfl⟩ := idx2 y
  refine (h t i j).trans ?_
  unfold rowOf
  blk_ext [(idxO2 t).2.2.1]

/-- Result 7 is the array whose matrices its blocks hold. -/
theorem fin30 (R : FVec Ideal S64x512x256 .bf16)
    (h : ∀ t (u : Fin 2) (e : Fin 512) (p : Fin 256), ((dats m 0 c).after 30 t : FVec Ideal S2x512x256 .bf16) (ix3 u e p) = R (ix3 (blkOf t u) e p)) :
    (dats m 0 c).arrAt 30 (cfgs 0).N = R := by
  refine (dats m 0 c).arrAt_eq_of_covers 30 _ (by decide +kernel) fun t _ y => ?_
  blk_simp
  obtain ⟨u, e, p, rfl⟩ := idx3 y
  refine (h t u e p).trans ?_
  unfold blkOf
  blk_ext [(idxO2 t).2.2.2]

end Bridge
end Cert.PreRows
-- ==== Proof.PreRef.lean ====
/-
  The reference of the layer's opening call, row by row.
-/
module

public import proofs.«01_k».proof.Proof.Gen.PreReferenceIdeal.Run
public import proofs.«01_k».proof.Proof.PreRope

@[expose] public section

set_option maxRecDepth 16384

noncomputable section

open Idealize.ShloMosaic Idealize.ShloMosaic.TcCoe Idealize.SL.Sem
open Idealize.ShloMosaic.Pipeline (Dat)
open Cert.PostRows (normRow)

namespace Cert.PreRows

section Ref
open Cert.PreReferenceIdeal Cert.PreReferenceIdeal.Gen Cert.PreReferenceIdeal.Value

variable (V0 : Valuation τ sig (Elt Ideal))

/-- The reference's argument arrays. -/
abbrev aX : FVec Ideal S16384x1024 .f32 := V0 (Proc.devRef .tc main_arg0)
abbrev aG : FVec Ideal S1024 .f32 := V0 (Proc.devRef .tc main_arg1)
abbrev aW : FVec Ideal S1024x4256 .f32 := V0 (Proc.devRef .tc main_arg2)
abbrev aB : FVec Ideal S2x1024 .f32 := V0 (Proc.devRef .tc main_arg3)
abbrev aGq : FVec Ideal S384 .f32 := V0 (Proc.devRef .tc main_arg4)
abbrev aWq : FVec Ideal S384x768 .f32 := V0 (Proc.devRef .tc main_arg5)
abbrev aGkv : FVec Ideal S256 .f32 := V0 (Proc.devRef .tc main_arg6)
abbrev aWkv : FVec Ideal S256x1024 .f32 := V0 (Proc.devRef .tc main_arg7)
abbrev aCa : FVec Ideal S8192x32 .f32 := V0 (Proc.devRef .tc main_arg8)
abbrev aSa : FVec Ideal S8192x32 .f32 := V0 (Proc.devRef .tc main_arg9)
abbrev aCb : FVec Ideal S8192x16 .f32 := V0 (Proc.devRef .tc main_arg10)
abbrev aSb : FVec Ideal S8192x16 .f32 := V0 (Proc.devRef .tc main_arg11)

/-- A column of the input projection of a normed row. -/
def projRow (X : FVec Ideal S16384x1024 .f32) (G : FVec Ideal S1024 .f32) (W : FVec Ideal S1024x4256 .f32) (r : Fin 16384) (e : Fin 4256) : EReal :=
  ∑ k, normRow (fun k => X (ix2 r k)) (fun k => G (ix1 k)) k * W (ix2 k e)

/-- The reference's input projection. -/
theorem ref_proj (r : Fin 16384) (e : Fin 4256) : (res_main_v21 V0 : FVec Ideal S16384x4256 .f32) (ix2 r e) = projRow (aX V0) (aG V0) (aW V0) r e := by
  unfold projRow normRow
  pointwise [res_main_v21]

/-- The low-rank queries of a normed row. -/
def cqRow (P : Fin 4256 → EReal) (G : FVec Ideal S384 .f32) : Fin 384 → EReal :=
  rmsRow (Ideal.ofBits FTy.f32 0x43C00000#32) (fun r => P ⟨1536 + r.val, by omega⟩) (fun r => G (ix1 r))

/-- The low-rank keys and values of a normed row. -/
def ckvRow (P : Fin 4256 → EReal) (G : FVec Ideal S256 .f32) : Fin 256 → EReal :=
  rmsRow (Ideal.ofBits FTy.f32 0x43800000#32) (fun r => P ⟨1920 + r.val, by omega⟩) (fun r => G (ix1 r))

/-- The reference's query heads before rotation. -/
theorem ref_q (r : Fin 16384) (h : Fin 8) (j : Fin 96) : (res_main_v73 V0 : FVec Ideal S16384x8x96 .f32) (ix3 r h j)
    = ∑ k, cqRow (projRow (aX V0) (aG V0) (aW V0) r) (aGq V0) k * aWq V0 (ix2 k ⟨h.val * 96 + j.val, by omega⟩) := by
  unfold cqRow rmsRow
  simp only [← ref_proj]
  pointwise [res_main_v73, res_main_v25]

/-- The reference's keys and values from the low rank. -/
theorem ref_kv (r : Fin 16384) (h : Fin 8) (j : Fin 128) : (res_main_v107 V0 : FVec Ideal S16384x8x128 .f32) (ix3 r h j)
    = ∑ k, ckvRow (projRow (aX V0) (aG V0) (aW V0) r) (aGkv V0) k * aWkv V0 (ix2 k ⟨h.val * 128 + j.val, by omega⟩) := by
  unfold ckvRow rmsRow
  simp only [← ref_proj]
  pointwise [res_main_v107, res_main_v26]

/-- A row's place in the sequence. -/
def tab (r : Fin 16384) : Fin 8192 := ⟨r.val % 8192, by omega⟩

/-- A table repeated for both batches. -/
theorem tab_dite {w : ℕ} (f : Fin 8192 → EReal) (r : Fin 16384) :
    (if h : r.val < 8192 then f ⟨r.val, h⟩ else f ⟨r.val - 8192, by omega⟩) = f (tab r) := by
  split_ifs with h <;> exact congrArg f (Fin.ext (by show _ = r.val % 8192; simp only []; omega))

/-- The first branch's cosines. -/
theorem ref_ca (r : Fin 16384) (j : Fin 32) : (res_main_v1 V0 : FVec Ideal S16384x1x32 .f32) (ix3 r 0 j) = aCa V0 (ix2 (tab r) j) := by
  rw [← tab_dite (w := 0) (fun r => aCa V0 (ix2 r j))]
  pointwise [res_main_v1]

/-- The first branch's sines. -/
theorem ref_sa (r : Fin 16384) (j : Fin 32) : (res_main_v3 V0 : FVec Ideal S16384x1x32 .f32) (ix3 r 0 j) = aSa V0 (ix2 (tab r) j) := by
  rw [← tab_dite (w := 0) (fun r => aSa V0 (ix2 r j))]
  pointwise [res_main_v3]

/-- The second branch's cosines. -/
theorem ref_cb (r : Fin 16384) (j : Fin 16) : (res_main_v5 V0 : FVec Ideal S16384x1x16 .f32) (ix3 r 0 j) = aCb V0 (ix2 (tab r) j) := by
  rw [← tab_dite (w := 0) (fun r => aCb V0 (ix2 r j))]
  pointwise [res_main_v5]

/-- The second branch's sines. -/
theorem ref_sb (r : Fin 16384) (j : Fin 16) : (res_main_v7 V0 : FVec Ideal S16384x1x16 .f32) (ix3 r 0 j) = aSb V0 (ix2 (tab r) j) := by
  rw [← tab_dite (w := 0) (fun r => aSb V0 (ix2 r j))]
  pointwise [res_main_v7]

/-- The first branch's rotated keys, head by head. -/
def rotK : FVec Ideal S16384x8x64 .f32 := (concatenate S16384x8x64 2 [⟨S16384x8x32, (subf (mulf (res_main_v46 V0) (broadcastInDim S16384x8x32 ![0, 1, 2] bcast_S16384x1x32_S16384x8x32_0_1_2 (res_main_v1 V0))) (mulf (res_main_v47 V0) (broadcastInDim S16384x8x32 ![0, 1, 2] bcast_S16384x1x32_S16384x8x32_0_1_2 (res_main_v3 V0))))⟩, ⟨S16384x8x32, (addf (mulf (res_main_v47 V0) (broadcastInDim S16384x8x32 ![0, 1, 2] bcast_S16384x1x32_S16384x8x32_0_1_2 (res_main_v1 V0))) (mulf (res_main_v46 V0) (broadcastInDim S16384x8x32 ![0, 1, 2] bcast_S16384x1x32_S16384x8x32_0_1_2 (res_main_v3 V0))))⟩] concatenates_S16384x8x32_S16384x8x32_S16384x8x64_d2)

/-- The first branch's rotated queries, head by head. -/
def rotQ : FVec Ideal S16384x8x64 .f32 := (concatenate S16384x8x64 2 [⟨S16384x8x32, (subf (mulf (res_main_v30 V0) (broadcastInDim S16384x8x32 ![0, 1, 2] bcast_S16384x1x32_S16384x8x32_0_1_2 (res_main_v1 V0))) (mulf (res_main_v31 V0) (broadcastInDim S16384x8x32 ![0, 1, 2] bcast_S16384x1x32_S16384x8x32_0_1_2 (res_main_v3 V0))))⟩, ⟨S16384x8x32, (addf (mulf (res_main_v31 V0) (broadcastInDim S16384x8x32 ![0, 1, 2] bcast_S16384x1x32_S16384x8x32_0_1_2 (res_main_v1 V0))) (mulf (res_main_v30 V0) (broadcastInDim S16384x8x32 ![0, 1, 2] bcast_S16384x1x32_S16384x8x32_0_1_2 (res_main_v3 V0))))⟩] concatenates_S16384x8x32_S16384x8x32_S16384x8x64_d2)

/-- The reference's result 1. -/
def resQa : FVec Ideal S64x1024x256 .bf16 := truncf .bf16 (transpose S64x1024x256 [0, 2, 1] (shapeCast _ (concatenate S16384x4x256 2 [⟨S16384x4x128, (shapeCast _ (concatenate S16384x4x2x2x32 3 [⟨S16384x4x2x1x32, (extractStridedSlice S16384x4x2x1x32 ![0, 0, 0, 0, 0] (res_main_v131 V0) slices_S16384x4x2x2x32_S16384x4x2x1x32_0_0_0_0_0)⟩, ⟨S16384x4x2x1x32, (res_main_v132 V0)⟩] concatenates_S16384x4x2x1x32_S16384x4x2x1x32_S16384x4x2x2x32_d3) shapeCasts_S16384x4x2x2x32_S16384x4x128)⟩, ⟨S16384x4x128, (shapeCast _ (concatenate S16384x4x2x2x32 3 [⟨S16384x4x2x1x32, (res_main_v132 V0)⟩, ⟨S16384x4x2x1x32, (extractStridedSlice S16384x4x2x1x32 ![0, 0, 0, 1, 0] (res_main_v131 V0) slices_S16384x4x2x2x32_S16384x4x2x1x32_0_0_0_1_0)⟩] concatenates_S16384x4x2x1x32_S16384x4x2x1x32_S16384x4x2x2x32_d3) shapeCasts_S16384x4x2x2x32_S16384x4x128)⟩] concatenates_S16384x4x128_S16384x4x128_S16384x4x256_d2) shapeCasts_S16384x4x256_S64x256x1024) transposes_S64x256x1024_S64x1024x256_0_2_1) bitsLt_bf16_f32

/-- The reference's result 2. -/
def resKa : FVec Ideal S16384x512 .bf16 := truncf .bf16 (res_main_v145 V0) bitsLt_bf16_f32

/-- The reference's result 3. -/
def resVa : FVec Ideal S64x512x256 .bf16 := truncf .bf16 (transpose S64x512x256 [0, 2, 1] (shapeCast _ (extractStridedSlice S16384x512 ![0, 1024] (res_main_v21 V0) slices_S16384x4256_S16384x512_0_1024) shapeCasts_S16384x512_S64x256x512) transposes_S64x256x512_S64x512x256_0_2_1) bitsLt_bf16_f32

/-- The reference's result 4. -/
def resKm : FVec Ideal S32x2x512 .f32 := Host.divf (Host.reduceAdd (shapeCast _ (res_main_v145 V0) shapeCasts_S16384x512_S32x2x256x512) (constant S_ .f32 0x00000000#32) reducesTo_S32x2x256x512_S32x2x512_d2 h_S_) (broadcastInDim S32x2x512 ![] bcast_S_S32x2x512 (constant S_ .f32 0x43800000#32))

/-- The reference's result 5. -/
def resGate : FVec Ideal S16384x2048 .bf16 := truncf .bf16 (Host.divf (broadcastInDim S16384x2048 ![] bcast_S_S16384x2048 (constant S_ .f32 0x3F800000#32)) (addf (broadcastInDim S16384x2048 ![] bcast_S_S16384x2048 (constant S_ .f32 0x3F800000#32)) (Host.exp (Host.negf (addf (extractStridedSlice S16384x2048 ![0, 2208] (res_main_v21 V0) slices_S16384x4256_S16384x2048_0_2208) (broadcastInDim S16384x2048 ![0, 1] bcast_S1x2048_S16384x2048_0_1 (shapeCast _ (V0 (Proc.devRef .tc main_arg3)) shapeCasts_S2x1024_S1x2048))))))) bitsLt_bf16_f32

/-- The reference's result 6. -/
def resQb : FVec Ideal S64x1024x256 .bf16 := truncf .bf16 (transpose S64x1024x256 [0, 2, 1] (shapeCast _ (shapeCast _ ((concatenate S16384x8x128 2 [⟨S16384x8x16, ((extractStridedSlice S16384x8x16 ![0, 0, 0] (res_main_v92 V0) slices_S16384x8x32_S16384x8x16_0_0_0) : FVec Ideal S16384x8x16 .f32)⟩, ⟨S16384x8x48, ((extractStridedSlice S16384x8x48 ![0, 0, 0] (res_main_v76 V0) slices_S16384x8x64_S16384x8x48_0_0_0) : FVec Ideal S16384x8x48 .f32)⟩, ⟨S16384x8x16, ((extractStridedSlice S16384x8x16 ![0, 0, 16] (res_main_v92 V0) slices_S16384x8x32_S16384x8x16_0_0_16) : FVec Ideal S16384x8x16 .f32)⟩, ⟨S16384x8x16, ((extractStridedSlice S16384x8x16 ![0, 0, 48] (res_main_v76 V0) slices_S16384x8x64_S16384x8x16_0_0_48) : FVec Ideal S16384x8x16 .f32)⟩, ⟨S16384x8x32, ((broadcastInDim S16384x8x32 ![] bcast_S_S16384x8x32 (constant S_ .f32 0x00000000#32)) : FVec Ideal S16384x8x32 .f32)⟩] concatenates_S16384x8x16_S16384x8x48_S16384x8x16_S16384x8x16_S16384x8x32_S16384x8x128_d2 : FVec Ideal S16384x8x128 .f32)) shapeCasts_S16384x8x128_S16384x1024) shapeCasts_S16384x1024_S64x256x1024) transposes_S64x256x1024_S64x1024x256_0_2_1) bitsLt_bf16_f32

/-- The reference's result 7. -/
def resKb : FVec Ideal S16384x1024 .bf16 := truncf .bf16 (shapeCast _ ((concatenate S16384x8x128 2 [⟨S16384x8x16, ((extractStridedSlice S16384x8x16 ![0, 0, 0] (res_main_v120 V0) slices_S16384x8x32_S16384x8x16_0_0_0) : FVec Ideal S16384x8x16 .f32)⟩, ⟨S16384x8x48, ((extractStridedSlice S16384x8x48 ![0, 0, 0] (res_main_v108 V0) slices_S16384x8x64_S16384x8x48_0_0_0) : FVec Ideal S16384x8x48 .f32)⟩, ⟨S16384x8x16, ((extractStridedSlice S16384x8x16 ![0, 0, 16] (res_main_v120 V0) slices_S16384x8x32_S16384x8x16_0_0_16) : FVec Ideal S16384x8x16 .f32)⟩, ⟨S16384x8x16, ((extractStridedSlice S16384x8x16 ![0, 0, 48] (res_main_v108 V0) slices_S16384x8x64_S16384x8x16_0_0_48) : FVec Ideal S16384x8x16 .f32)⟩, ⟨S16384x8x32, ((broadcastInDim S16384x8x32 ![] bcast_S_S16384x8x32 (constant S_ .f32 0x00000000#32)) : FVec Ideal S16384x8x32 .f32)⟩] concatenates_S16384x8x16_S16384x8x48_S16384x8x16_S16384x8x16_S16384x8x32_S16384x8x128_d2 : FVec Ideal S16384x8x128 .f32)) shapeCasts_S16384x8x128_S16384x1024) bitsLt_bf16_f32

/-- The reference's result 8. -/
def resVb : FVec Ideal S64x512x256 .bf16 := truncf .bf16 (transpose S64x512x256 [0, 2, 1] (shapeCast _ (extractStridedSlice S16384x8x64 ![0, 0, 64] (res_main_v107 V0) slices_S16384x8x128_S16384x8x64_0_0_64) shapeCasts_S16384x8x64_S64x256x512) transposes_S64x256x512_S64x512x256_0_2_1) bitsLt_bf16_f32

/-- The keys' array before its layout. -/
theorem v145_eq : (res_main_v145 V0 : FVec Ideal S16384x512 .f32)
    = shapeCast _ (transpose S16384x4x2x2x32 [0, 1, 3, 2, 4] (shapeCast _ (rotK V0) shapeCasts_S16384x8x64_S16384x4x2x2x32) transposes_S16384x4x2x2x32_S16384x4x2x2x32_0_1_3_2_4) shapeCasts_S16384x4x2x2x32_S16384x512 := rfl

/-- The queries' array before its layout. -/
theorem v131_eq : (res_main_v131 V0 : FVec Ideal S16384x4x2x2x32 .f32)
    = transpose S16384x4x2x2x32 [0, 1, 3, 2, 4] (shapeCast _ (mulf (rotQ V0) (broadcastInDim S16384x8x64 ![] bcast_S_S16384x8x64 (constant S_ .f32 0x3E38AA3B#32))) shapeCasts_S16384x8x64_S16384x4x2x2x32) transposes_S16384x4x2x2x32_S16384x4x2x2x32_0_1_3_2_4 := rfl

/-- An entry of an array of heads depends on the numbers of its place only. -/
theorem at3 (Y : FVec Ideal S16384x8x64 .f32) (r : Fin 16384) {h h' : Fin 8} {j j' : Fin 64} (e : h.val = h'.val) (e' : j.val = j'.val) :
    (Y (ix3 r h j) : EReal) = Y (ix3 r h' j') := by
  obtain rfl := Fin.ext e
  obtain rfl := Fin.ext e'
  rfl

/-- The layout of heads in pairs, by column. -/
theorem pairs_at (Y : FVec Ideal S16384x8x64 .f32) (r : Fin 16384) (e : Fin 512) :
    (shapeCast _ (transpose S16384x4x2x2x32 [0, 1, 3, 2, 4] (shapeCast _ Y shapeCasts_S16384x8x64_S16384x4x2x2x32) transposes_S16384x4x2x2x32_S16384x4x2x2x32_0_1_3_2_4) shapeCasts_S16384x4x2x2x32_S16384x512 : FVec Ideal S16384x512 .f32) (ix2 r e)
      = Y (ix3 r ⟨e.val / 128 * 2 + e.val / 32 % 2, by omega⟩ ⟨e.val / 64 % 2 * 32 + e.val % 32, by omega⟩) := by
  pointwise

/-- The layout of heads in pairs, by head. -/
theorem quads_at (Y : FVec Ideal S16384x8x64 .f32) (r : Fin 16384) (g : Fin 4) (a b : Fin 2) (j : Fin 32) :
    (transpose S16384x4x2x2x32 [0, 1, 3, 2, 4] (shapeCast _ Y shapeCasts_S16384x8x64_S16384x4x2x2x32) transposes_S16384x4x2x2x32_S16384x4x2x2x32_0_1_3_2_4 : FVec Ideal S16384x4x2x2x32 .f32) (ix5 r g a b j)
      = Y (ix3 r ⟨g.val * 2 + b.val, by omega⟩ ⟨a.val * 32 + j.val, by omega⟩) := by
  pointwise

/-- A column of the input projection, as a number. -/
abbrev pr (r : Fin 16384) (e : Fin 4256) : EReal := (res_main_v21 V0 : FVec Ideal S16384x4256 .f32) (ix2 r e)
/-- A query head's entry before rotation, as a number. -/
abbrev q73 (r : Fin 16384) (g : Fin 8) (j : Fin 96) : EReal := (res_main_v73 V0 : FVec Ideal S16384x8x96 .f32) (ix3 r g j)

/-- The reference's table `v1` at a row, as numbers. -/
abbrev c1 (r : Fin 16384) (j : Fin 32) : EReal := (res_main_v1 V0 : FVec Ideal S16384x1x32 .f32) (ix3 r 0 j)
/-- It is the argument's row. -/
theorem c1_eq (r : Fin 16384) : c1 V0 r = fun j => aCa V0 (ix2 (tab r) j) := funext fun j => ref_ca V0 r j

/-- The reference's table `v3` at a row, as numbers. -/
abbrev s3 (r : Fin 16384) (j : Fin 32) : EReal := (res_main_v3 V0 : FVec Ideal S16384x1x32 .f32) (ix3 r 0 j)
/-- It is the argument's row. -/
theorem s3_eq (r : Fin 16384) : s3 V0 r = fun j => aSa V0 (ix2 (tab r) j) := funext fun j => ref_sa V0 r j

/-- The reference's table `v5` at a row, as numbers. -/
abbrev c5 (r : Fin 16384) (j : Fin 16) : EReal := (res_main_v5 V0 : FVec Ideal S16384x1x16 .f32) (ix3 r 0 j)
/-- It is the argument's row. -/
theorem c5_eq (r : Fin 16384) : c5 V0 r = fun j => aCb V0 (ix2 (tab r) j) := funext fun j => ref_cb V0 r j

/-- The reference's table `v7` at a row, as numbers. -/
abbrev s7 (r : Fin 16384) (j : Fin 16) : EReal := (res_main_v7 V0 : FVec Ideal S16384x1x16 .f32) (ix3 r 0 j)
/-- It is the argument's row. -/
theorem s7_eq (r : Fin 16384) : s7 V0 r = fun j => aSb V0 (ix2 (tab r) j) := funext fun j => ref_sb V0 r j

/-- A rotated key. -/
theorem rotK_at (r : Fin 16384) (h : Fin 8) (j : Fin 64) : (rotK V0 : FVec Ideal S16384x8x64 .f32) (ix3 r h j)
    = rope64 (fun j => pr V0 r ⟨512 + (h.val * 64 + j.val), by omega⟩) (fun j => aCa V0 (ix2 (tab r) j)) (fun j => aSa V0 (ix2 (tab r) j)) j := by
  rw [← c1_eq, ← s3_eq]
  unfold rope64 pr c1 s3
  pointwise [rotK, res_main_v46, res_main_v47, res_main_v45]

/-- A rotated query. -/
theorem rotQ_at (r : Fin 16384) (h : Fin 8) (j : Fin 64) : (rotQ V0 : FVec Ideal S16384x8x64 .f32) (ix3 r h j)
    = rope64 (fun j => pr V0 r ⟨h.val * 64 + j.val, by omega⟩) (fun j => aCa V0 (ix2 (tab r) j)) (fun j => aSa V0 (ix2 (tab r) j)) j := by
  rw [← c1_eq, ← s3_eq]
  unfold rope64 pr c1 s3
  pointwise [rotQ, res_main_v30, res_main_v31, res_main_v29]

/-- The second branch's queries' rotary part. -/
theorem ref_qrot (r : Fin 16384) (g : Fin 8) (j : Fin 32) : (res_main_v92 V0 : FVec Ideal S16384x8x32 .f32) (ix3 r g j)
    = rope32 (fun j => q73 V0 r g ⟨64 + j.val, by omega⟩) (fun j => aCb V0 (ix2 (tab r) j)) (fun j => aSb V0 (ix2 (tab r) j)) j * Ideal.ofBits FTy.f32 0x3E16C740#32 := by
  rw [← c5_eq, ← s7_eq]
  unfold rope32 q73 c5 s7
  pointwise [res_main_v92, res_main_v78, res_main_v79, res_main_v77]

/-- The second branch's queries' plain part. -/
theorem ref_qnope (r : Fin 16384) (g : Fin 8) (j : Fin 64) : (res_main_v76 V0 : FVec Ideal S16384x8x64 .f32) (ix3 r g j)
    = q73 V0 r g ⟨j.val, by omega⟩ * Ideal.ofBits FTy.f32 0x3E16C740#32 := by
  unfold q73
  pointwise [res_main_v76]

/-- The second branch's keys' rotary part. -/
theorem ref_krot (r : Fin 16384) (g : Fin 8) (j : Fin 32) : (res_main_v120 V0 : FVec Ideal S16384x8x32 .f32) (ix3 r g j)
    = rope32 (fun j => pr V0 r ⟨2176 + j.val, by omega⟩) (fun j => aCb V0 (ix2 (tab r) j)) (fun j => aSb V0 (ix2 (tab r) j)) j := by
  rw [← c5_eq, ← s7_eq]
  unfold rope32 pr c5 s7
  pointwise [res_main_v120, res_main_v111, res_main_v112, res_main_v110]

/-- The gates' column. -/
theorem ref_gate (r : Fin 16384) (j : Fin 2048) : resGate V0 (ix2 r j)
      = Ideal.logistic (projRow (aX V0) (aG V0) (aW V0) r ⟨2208 + j.val, by omega⟩ + aB V0 (ix2 ⟨j.val / 1024, by omega⟩ ⟨j.val % 1024, by omega⟩)) := by
  rw [← ref_proj]
  unfold Ideal.logistic
  pointwise [resGate]

/-- The first branch's value columns. -/
theorem ref_va (b : Fin 64) (e : Fin 512) (p : Fin 256) : resVa V0 (ix3 b e p)
      = projRow (aX V0) (aG V0) (aW V0) ⟨b.val * 256 + p.val, by omega⟩ ⟨1024 + e.val, by omega⟩ := by
  rw [← ref_proj]
  pointwise [resVa]

/-- The second branch's value columns. -/
theorem ref_vb (b : Fin 64) (e : Fin 512) (p : Fin 256) : resVb V0 (ix3 b e p)
      = (res_main_v107 V0 : FVec Ideal S16384x8x128 .f32) (ix3 ⟨b.val * 256 + p.val, by omega⟩ ⟨e.val / 64, by omega⟩ ⟨64 + e.val % 64, by omega⟩) := by
  pointwise [resVb]

/-- The first branch's keys at a column. -/
theorem ref_ka (r : Fin 16384) (e : Fin 512) : resKa V0 (ix2 r e)
    = rotK V0 (ix3 r ⟨e.val / 128 * 2 + e.val / 32 % 2, by omega⟩ ⟨e.val / 64 % 2 * 32 + e.val % 32, by omega⟩) := by
  refine Eq.trans ?_ (pairs_at (rotK V0) r e)
  rw [← v145_eq]
  pointwise [resKa]

/-- The keys' means. -/
theorem ref_kmean (a : Fin 32) (u : Fin 2) (e : Fin 512) : resKm V0 (ix3 a u e)
      = Ideal.div (∑ p : Fin 256, resKa V0 (ix2 ⟨a.val * 512 + u.val * 256 + p.val, by omega⟩ e)) (Ideal.ofBits FTy.f32 0x43800000#32) := by
  pointwise [resKm, resKa]

/-- The second branch's queries at a lane. -/
theorem ref_qb (b : Fin 64) (g : Fin 8) (l : Fin 128) (p : Fin 256) : resQb V0 (ix3 b (lane g l) p)
      = slotF (fun j => (res_main_v92 V0 : FVec Ideal S16384x8x32 .f32) (ix3 ⟨b.val * 256 + p.val, by omega⟩ g j))
          (fun j => (res_main_v76 V0 : FVec Ideal S16384x8x64 .f32) (ix3 ⟨b.val * 256 + p.val, by omega⟩ g j)) l := by
  unfold slotF lane
  pointwise [resQb]

/-- The second branch's keys at a lane. -/
theorem ref_kb (r : Fin 16384) (g : Fin 8) (l : Fin 128) : resKb V0 (ix2 r (lane g l))
      = slotF (fun j => (res_main_v120 V0 : FVec Ideal S16384x8x32 .f32) (ix3 r g j))
          (fun j => (res_main_v107 V0 : FVec Ideal S16384x8x128 .f32) (ix3 r g ⟨j.val, by omega⟩)) l := by
  unfold slotF lane
  pointwise [resKb, res_main_v108]

end Ref
end Cert.PreRows
-- ==== Proof.PreRefQa.lean ====
/-
  The reference's first-branch queries in the layer's opening call.
-/
module

public import proofs.«01_k».proof.Proof.PreRef

@[expose] public section

set_option maxRecDepth 16384

noncomputable section

open Idealize.ShloMosaic Idealize.ShloMosaic.TcCoe Idealize.SL.Sem
open Idealize.ShloMosaic.Pipeline (Dat)
open Cert.PostRows (normRow)

namespace Cert.PreRows

section Ref
open Cert.PreReferenceIdeal Cert.PreReferenceIdeal.Gen Cert.PreReferenceIdeal.Value

variable (V0 : Valuation τ sig (Elt Ideal))

/-- Which head's lanes a lane keeps. -/
theorem qa_pick (Z : Fin 8 → Fin 64 → EReal) (q : EReal) (g : Fin 8) (l : Fin 128) :
    (if h : (g.val * 128 + l.val) % 256 < 128 then
      if h1 : (g.val * 128 + l.val) % 256 / 32 % 2 < 1 then
        Z ⟨(g.val * 128 + l.val) / 256 * 2 + (g.val * 128 + l.val) % 256 / 32 % 2, by omega⟩ ⟨(g.val * 128 + l.val) % 256 / 64 * 32 + (g.val * 128 + l.val) % 256 % 32, by omega⟩ * q
      else 0
    else
      if h1 : ((g.val * 128 + l.val) % 256 - 128) / 32 % 2 < 1 then 0
      else
        Z ⟨(g.val * 128 + l.val) / 256 * 2 + (1 + (((g.val * 128 + l.val) % 256 - 128) / 32 % 2 - 1)), by omega⟩ ⟨((g.val * 128 + l.val) % 256 - 128) / 64 * 32 + ((g.val * 128 + l.val) % 256 - 128) % 32, by omega⟩ * q)
    = if l.val % 64 < 32 ↔ g.val % 2 = 0 then Z ⟨g.val / 2 * 2 + l.val / 32 % 2, by omega⟩ ⟨l.val / 64 * 32 + l.val % 32, by omega⟩ * q else 0 := by
  have hq : (g.val * 128 + l.val) / 256 = g.val / 2 := by omega
  have hb2 : l.val % 64 < 32 ↔ l.val / 32 % 2 < 1 := by omega
  by_cases hg : g.val % 2 = 0
  · have hm : (g.val * 128 + l.val) % 256 = l.val := by omega
    simp only [hq, hm, hg, hb2, l.isLt, dite_true, iff_true]
    rfl
  · have hm : (g.val * 128 + l.val) % 256 = 128 + l.val := by omega
    have hn : ¬ 128 + l.val < 128 := by omega
    simp only [hq, hm, Nat.add_sub_cancel_left, hn, dite_false, hg, iff_false, hb2]
    by_cases hb : l.val / 32 % 2 < 1
    · simp only [hb, dite_true, not_true, if_false]
    · have h1 : 1 + (l.val / 32 % 2 - 1) = l.val / 32 % 2 := by omega
      simp only [hb, h1, dite_false, not_false_eq_true, if_true]

/-- The first branch's queries at a lane, zero where the paired head's lanes lie. -/
theorem ref_qa (b : Fin 64) (g : Fin 8) (l : Fin 128) (p : Fin 256) : resQa V0 (ix3 b (lane g l) p)
    = if l.val % 64 < 32 ↔ g.val % 2 = 0 then
        (rotQ V0 : FVec Ideal S16384x8x64 .f32) (ix3 ⟨b.val * 256 + p.val, by omega⟩ (headOf ⟨g.val / 2, by omega⟩ l) (inOf l)) * Ideal.ofBits FTy.f32 0x3E38AA3B#32
      else 0 := by
  unfold resQa
  rw [v131_eq]
  generalize rotQ V0 = Y
  unfold lane headOf inOf
  pointwise [res_main_v132]
  exact qa_pick (fun a b' => Y (ix3 ⟨b.val * 256 + p.val, by omega⟩ a b')) _ g l

end Ref
end Cert.PreRows
-- ==== Proof.PreRefRows.lean ====
/-
  The reference's results of the opening call as functions of a projected row.
-/
module

public import proofs.«01_k».proof.Proof.PreRefQa

@[expose] public section

set_option maxRecDepth 16384

noncomputable section

open Idealize.ShloMosaic Idealize.ShloMosaic.TcCoe Idealize.SL.Sem
open Idealize.ShloMosaic.Pipeline (Dat)

namespace Cert.PreRows

section Rows
variable (P : Fin 4256 → EReal) (c s : Fin 32 → EReal) (c' s' : Fin 16 → EReal)

/-- A key lane of the first branch. -/
def kaF (g : Fin 4) (l : Fin 128) : EReal :=
  rope64 (fun j => P ⟨512 + ((headOf g l).val * 64 + j.val), by omega⟩) c s (inOf l)

/-- A query lane of the first branch. -/
def qaF (g : Fin 8) (l : Fin 128) : EReal :=
  if l.val % 64 < 32 ↔ g.val % 2 = 0 then
    rope64 (fun j => P ⟨(headOf ⟨g.val / 2, by omega⟩ l).val * 64 + j.val, by omega⟩) c s (inOf l) * Ideal.ofBits FTy.f32 0x3E38AA3B#32
  else 0

/-- A query lane of the second branch. -/
def qbF (q : Fin 768 → EReal) (g : Fin 8) (l : Fin 128) : EReal :=
  slotF (fun j => rope32 (fun j => q ⟨g.val * 96 + (64 + j.val), by omega⟩) c' s' j * Ideal.ofBits FTy.f32 0x3E16C740#32)
    (fun j => q ⟨g.val * 96 + j.val, by omega⟩ * Ideal.ofBits FTy.f32 0x3E16C740#32) l

/-- A key lane of the second branch. -/
def kbF (u : Fin 1024 → EReal) (g : Fin 8) (l : Fin 128) : EReal :=
  slotF (rope32 (fun j => P ⟨2176 + j.val, by omega⟩) c' s') (fun j => u ⟨g.val * 128 + j.val, by omega⟩) l

end Rows

section Ref
open Cert.PreReferenceIdeal Cert.PreReferenceIdeal.Gen Cert.PreReferenceIdeal.Value
variable (V0 : Valuation τ sig (Elt Ideal))

/-- A projected row of the arguments. -/
abbrev PR (r : Fin 16384) : Fin 4256 → EReal := projRow (aX V0) (aG V0) (aW V0) r

/-- It is the reference's row. -/
theorem pr_eq (r : Fin 16384) (e : Fin 4256) : pr V0 r e = PR V0 r e := ref_proj V0 r e

/-- The keys' lanes. -/
theorem row_ka (r : Fin 16384) (g : Fin 4) (l : Fin 128) : resKa V0 (ix2 r (lane g l))
    = kaF (PR V0 r) (fun j => aCa V0 (ix2 (tab r) j)) (fun j => aSa V0 (ix2 (tab r) j)) g l := by
  refine (ref_ka V0 r (lane g l)).trans ((at3 (rotK V0) r (h' := headOf g l) (j' := inOf l) ?_ ?_).trans ((rotK_at V0 r _ _).trans ?_))
  · simp only [lane, headOf]; omega
  · simp only [lane, inOf]; omega
  · simp only [pr_eq]; rfl

/-- The queries' lanes. -/
theorem row_qa (b : Fin 64) (g : Fin 8) (l : Fin 128) (p : Fin 256) (r : Fin 16384) (hr : r.val = b.val * 256 + p.val) : resQa V0 (ix3 b (lane g l) p)
    = qaF (PR V0 r) (fun j => aCa V0 (ix2 (tab r) j)) (fun j => aSa V0 (ix2 (tab r) j)) g l := by
  obtain ⟨r, hrl⟩ := r
  obtain rfl : r = b.val * 256 + p.val := hr
  rw [ref_qa, rotQ_at]
  simp only [pr_eq]
  rfl

/-- The second branch's queries' lanes. -/
theorem row_qb (b : Fin 64) (g : Fin 8) (l : Fin 128) (p : Fin 256) (r : Fin 16384) (hr : r.val = b.val * 256 + p.val) : resQb V0 (ix3 b (lane g l) p)
    = qbF (fun j => aCb V0 (ix2 (tab r) j)) (fun j => aSb V0 (ix2 (tab r) j))
        (fun e => ∑ k, cqRow (PR V0 r) (aGq V0) k * aWq V0 (ix2 k e)) g l := by
  obtain ⟨r, hrl⟩ := r
  obtain rfl : r = b.val * 256 + p.val := hr
  have q : ∀ (r : Fin 16384) (g : Fin 8) (j : Fin 96), q73 V0 r g j = ∑ k, cqRow (PR V0 r) (aGq V0) k * aWq V0 (ix2 k ⟨g.val * 96 + j.val, by omega⟩) :=
    fun r g j => ref_q V0 r g j
  rw [ref_qb]
  unfold qbF
  refine congrArg₂ (fun a b => slotF a b l) (funext fun j => ?_) (funext fun j => ?_)
  · rw [ref_qrot]; simp only [q]
  · rw [ref_qnope, q]

/-- The second branch's keys' lanes. -/
theorem row_kb (r : Fin 16384) (g : Fin 8) (l : Fin 128) : resKb V0 (ix2 r (lane g l))
    = kbF (PR V0 r) (fun j => aCb V0 (ix2 (tab r) j)) (fun j => aSb V0 (ix2 (tab r) j))
        (fun e => ∑ k, ckvRow (PR V0 r) (aGkv V0) k * aWkv V0 (ix2 k e)) g l := by
  rw [ref_kb]
  unfold kbF
  refine congrArg₂ (fun a b => slotF a b l) (funext fun j => ?_) (funext fun j => ?_)
  · rw [ref_krot]; simp only [pr_eq]
  · exact ref_kv V0 r g ⟨j.val, by omega⟩

/-- The second branch's value columns. -/
theorem row_vb (b : Fin 64) (e : Fin 512) (p : Fin 256) (r : Fin 16384) (hr : r.val = b.val * 256 + p.val) : resVb V0 (ix3 b e p)
    = ∑ k, ckvRow (PR V0 r) (aGkv V0) k * aWkv V0 (ix2 k ⟨e.val / 64 * 128 + (64 + e.val % 64), by omega⟩) := by
  obtain ⟨r, hrl⟩ := r
  obtain rfl : r = b.val * 256 + p.val := hr
  exact (ref_vb V0 b e p).trans (ref_kv V0 _ _ _)

end Ref
end Cert.PreRows
-- ==== Proof.PrePoints.lean ====
/-
  The opening call's blocks, row by row: each output block holds the functions of a projected row that the reference's
  results are.
-/
module

public import proofs.«01_k».proof.Proof.PreBlk
public import proofs.«01_k».proof.Proof.PreRefRows

@[expose] public section

set_option maxRecDepth 16384

noncomputable section

open Idealize.ShloMosaic Idealize.ShloMosaic.TcCoe Idealize.SL.Sem
open Idealize.ShloMosaic.Pipeline (Dat)

namespace Cert.PreRows

open Cert.PostRows (normRow)

section Bridge
open Cert.PreIdeal Cert.PreIdeal.Gen

variable (m : (ℓ : Loc nD τ sig) → Buf (Elt Ideal) ℓ) (c : Dev nD) (t : Fin cfg0.N) (i : Fin 512)

/-- The projected row of a block's row. -/
abbrev MP (r : Fin 16384) : Fin 4256 → EReal := projRow (mX m c) (mG m c) (mW m c) r

/-- The normed row of a block. -/
theorem bH_eq : bH (iblk m c 0 t) (iblk m c 1 t) i = normRow (fun k => mX m c (ix2 (rowOf t i) k)) (fun k => mG m c (ix1 k)) := by
  unfold bH
  exact congrArg₂ normRow (funext fun k => blk0 m c t i k) (funext fun k => blk1 m c t k)

/-- A row of numbers against a column of the whole projection. -/
theorem proj_of (w : Fin 1024 → EReal) (e : Fin 4256) (h : ∀ k, w k = mW m c (ix2 k e)) :
    (∑ k, bH (iblk m c 0 t) (iblk m c 1 t) i k * w k) = MP m c (rowOf t i) e := by
  unfold MP projRow
  rw [bH_eq]
  exact Finset.sum_congr rfl fun k _ => congrArg _ (h k)

/-- The same with the factors the other way. -/
theorem proj_of' (w : Fin 1024 → EReal) (e : Fin 4256) (h : ∀ k, w k = mW m c (ix2 k e)) :
    (∑ k, w k * bH (iblk m c 0 t) (iblk m c 1 t) i k) = MP m c (rowOf t i) e :=
  (Finset.sum_congr rfl fun k _ => mul_comm _ _).trans (proj_of m c t i w e h)

/-- A sum of products with equal first factors, the factors the other way. -/
theorem sum_swap {w : ℕ} (x a y : Fin w → EReal) (h : ∀ k, x k = y k) : (∑ k, x k * a k) = ∑ k, a k * y k :=
  Finset.sum_congr rfl fun k _ => (mul_comm _ _).trans (congrArg _ (h k))

/-- The gates. -/
theorem pt_gate (j : Fin 2048) : Ideal.logistic ((∑ k, bH (iblk m c 0 t) (iblk m c 1 t) i k * (iblk m c 16 t : FVec Ideal S1024x2048 .bf16) (ix2 k j)) + (iblk m c 17 t : FVec Ideal S1x2048 .f32) (ix2 0 j))
    = Ideal.logistic (MP m c (rowOf t i) ⟨2208 + j.val, by omega⟩ + mB m c (ix2 ⟨j.val / 1024, by omega⟩ ⟨j.val % 1024, by omega⟩)) :=
  congrArg Ideal.logistic (congrArg₂ (· + ·) (proj_of m c t i _ _ fun k => (blk16 m c t k j).trans (wGate_at _ k j)) (blk17 m c t j))

/-- The first branch's values. -/
theorem pt_va (e : Fin 512) : (∑ k, @HMul.hMul EReal EReal EReal _ ((iblk m c 12 t : FVec Ideal S512x1024 .bf16) (ix2 e k)) (bH (iblk m c 0 t) (iblk m c 1 t) i k))
    = MP m c (rowOf t i) ⟨1024 + e.val, by omega⟩ :=
  proj_of' m c t i _ _ fun k => (blk12 m c t e k).trans (wV_at _ e k)

/-- The first branch's keys. -/
theorem pt_ka (g : Fin 4) (l : Fin 128) : bKa (iblk m c 0 t) (iblk m c 1 t) (iblk m c 2 t) (iblk m c 3 t) (iblk m c 11 t) i g l
    = kaF (MP m c (rowOf t i)) (fun j => mCa m c (ix2 (tabOf t i) j)) (fun j => mSa m c (ix2 (tabOf t i) j)) g l := by
  have p : ∀ e : Fin 512, (∑ k, bH (iblk m c 0 t) (iblk m c 1 t) i k * (iblk m c 11 t : FVec Ideal S1024x512 .bf16) (ix2 k e)) = MP m c (rowOf t i) ⟨512 + (colOf e).val, by omega⟩ :=
    fun e => proj_of m c t i _ _ fun k => (blk11 m c t k e).trans (wK_at _ k e)
  unfold bKa kaF
  exact (congrArg₂ (· + ·) (congrArg₂ (· * ·) (p _) ((blk2 m c t i l).trans (cosA_at _ _ l))) (congrArg₂ (· * ·) (p _) ((blk3 m c t i l).trans (sinA_at _ _ l)))).trans
    (rope_lane (fun e => MP m c (rowOf t i) ⟨512 + e.val, by omega⟩) (fun j => mCa m c (ix2 (tabOf t i) j)) (fun j => mSa m c (ix2 (tabOf t i) j)) g l)

/-- The first branch's queries. -/
theorem pt_qa (g : Fin 8) (l : Fin 128) : (if l.val % 64 < 32 ↔ g.val % 2 = 0 then bQa (iblk m c 0 t) (iblk m c 1 t) (iblk m c 6 t) (iblk m c 7 t) (iblk m c 10 t) i ⟨g.val / 2, by omega⟩ l else 0)
    = qaF (MP m c (rowOf t i)) (fun j => mCa m c (ix2 (tabOf t i) j)) (fun j => mSa m c (ix2 (tabOf t i) j)) g l := by
  have p : ∀ e : Fin 512, (∑ k, @HMul.hMul EReal EReal EReal _ ((iblk m c 10 t : FVec Ideal S512x1024 .bf16) (ix2 e k)) (bH (iblk m c 0 t) (iblk m c 1 t) i k)) = MP m c (rowOf t i) ⟨(colOf e).val, by omega⟩ :=
    fun e => proj_of' m c t i _ _ fun k => (blk10 m c t e k).trans (wQ_at _ e k)
  unfold qaF
  refine if_congr Iff.rfl ?_ rfl
  unfold bQa
  refine congrArg (· * Ideal.ofBits FTy.f32 0x3E38AA3B#32) ?_
  exact (congrArg₂ (· + ·) (congrArg₂ (· * ·) (p _) ((blk6 m c t i l).trans ((tT_at _ l _).trans (cosA_at _ _ l)))) (congrArg₂ (· * ·) (p _) ((blk7 m c t i l).trans ((tT_at _ l _).trans (sinA_at _ _ l))))).trans
    (rope_lane (fun e => MP m c (rowOf t i) ⟨e.val, by omega⟩) (fun j => mCa m c (ix2 (tabOf t i) j)) (fun j => mSa m c (ix2 (tabOf t i) j)) ⟨g.val / 2, by omega⟩ l)

/-- The low-rank queries. -/
theorem pt_cq : bCq (iblk m c 0 t) (iblk m c 1 t) (iblk m c 13 t) (iblk m c 18 t) i = cqRow (MP m c (rowOf t i)) (mGq m c) := by
  unfold bCq cqRow
  exact congrArg₂ (rmsRow _) (funext fun r => proj_of' m c t i _ _ fun k => (blk13 m c t r k).trans (wCq_at _ r k)) (funext fun r => blk18 m c t r i)

/-- The low-rank keys and values. -/
theorem pt_ckv : bCkv (iblk m c 0 t) (iblk m c 1 t) (iblk m c 14 t) (iblk m c 20 t) i = ckvRow (MP m c (rowOf t i)) (mGkv m c) := by
  unfold bCkv ckvRow
  exact congrArg₂ (rmsRow _) (funext fun r => proj_of m c t i _ _ fun k => (blk14 m c t k r).trans (wCkv_at _ k r)) (funext fun r => blk20 m c t r)

/-- The second branch's values. -/
theorem pt_vb (e : Fin 512) : (∑ r, @HMul.hMul EReal EReal EReal _ ((iblk m c 22 t : FVec Ideal S512x256 .bf16) (ix2 e r)) (bCkv (iblk m c 0 t) (iblk m c 1 t) (iblk m c 14 t) (iblk m c 20 t) i r))
    = ∑ k, ckvRow (MP m c (rowOf t i)) (mGkv m c) k * mWkv m c (ix2 k ⟨e.val / 64 * 128 + (64 + e.val % 64), by omega⟩) := by
  rw [pt_ckv]
  exact Finset.sum_congr rfl fun r _ => (mul_comm _ _).trans (congrArg _ ((blk22 m c t e r).trans (wVup_at _ e r)))

/-- The second branch's queries. -/
theorem pt_qb (g : Fin 8) (l : Fin 128) : bQb (iblk m c 0 t) (iblk m c 1 t) (iblk m c 8 t) (iblk m c 9 t) (iblk m c 13 t) (iblk m c 18 t) (iblk m c 19 t) i g l
    = qbF (fun j => mCb m c (ix2 (tabOf t i) j)) (fun j => mSb m c (ix2 (tabOf t i) j))
        (fun e => ∑ k, cqRow (MP m c (rowOf t i)) (mGq m c) k * mWq m c (ix2 k e)) g l := by
  have p : ∀ l : Fin 128, (∑ r, @HMul.hMul EReal EReal EReal _ ((iblk m c 19 t : FVec Ideal S1024x384 .bf16) (ix2 (lane g l) r)) (bCq (iblk m c 0 t) (iblk m c 1 t) (iblk m c 13 t) (iblk m c 18 t) i r))
      = slotF (fun j => ∑ k, cqRow (MP m c (rowOf t i)) (mGq m c) k * mWq m c (ix2 k ⟨g.val * 96 + (64 + j.val), by omega⟩))
          (fun j => ∑ k, cqRow (MP m c (rowOf t i)) (mGq m c) k * mWq m c (ix2 k ⟨g.val * 96 + j.val, by omega⟩)) l := fun l => by
    rw [pt_cq]
    exact (sum_swap (fun r => (iblk m c 19 t : FVec Ideal S1024x384 .bf16) (ix2 (lane g l) r)) _ _ fun r => (blk19 m c t (lane g l) r).trans (wQup_at _ g l r)).trans (slot_sum l _ _ _)
  unfold bQb qbF
  refine Eq.trans (congrArg (· * Ideal.ofBits FTy.f32 0x3E16C740#32) ((congrArg₂ (· + ·) (congrArg₂ (· * ·) (p _) ((blk8 m c t i l).trans ((tT_at _ l _).trans (cosB_at _ _ l)))) (congrArg₂ (· * ·) (p _) ((blk9 m c t i l).trans ((tT_at _ l _).trans (sinB_at _ _ l))))).trans (slot_rope _ _ l _ _))) ?_
  exact slot_mul _ _ l _

/-- The second branch's keys. -/
theorem pt_kb (g : Fin 8) (l : Fin 128) : bKb (iblk m c 0 t) (iblk m c 1 t) (iblk m c 4 t) (iblk m c 5 t) (iblk m c 14 t) (iblk m c 15 t) (iblk m c 20 t) (iblk m c 21 t) i g l
    = kbF (MP m c (rowOf t i)) (fun j => mCb m c (ix2 (tabOf t i) j)) (fun j => mSb m c (ix2 (tabOf t i) j))
        (fun e => ∑ k, ckvRow (MP m c (rowOf t i)) (mGkv m c) k * mWkv m c (ix2 k e)) g l := by
  have p : ∀ l : Fin 128, (∑ k, bH (iblk m c 0 t) (iblk m c 1 t) i k * (iblk m c 15 t : FVec Ideal S1024x128 .bf16) (ix2 k l))
      = slotF (fun j => MP m c (rowOf t i) ⟨2176 + j.val, by omega⟩) (fun _ => 0) l := fun l => by
    rw [bH_eq]
    refine (Finset.sum_congr rfl fun k _ => congrArg _ ((blk15 m c t k l).trans (wKr_at _ k l))).trans ((slot_sum l _ _ _).trans ?_)
    exact congrArg (fun n => slotF _ n l) (funext fun j => (Finset.sum_congr rfl fun k _ => mul_zero _).trans Finset.sum_const_zero)
  have q : (∑ r, bCkv (iblk m c 0 t) (iblk m c 1 t) (iblk m c 14 t) (iblk m c 20 t) i r * (iblk m c 21 t : FVec Ideal S256x1024 .bf16) (ix2 r (lane g l)))
      = slotF (fun _ => 0) (fun j => ∑ k, ckvRow (MP m c (rowOf t i)) (mGkv m c) k * mWkv m c (ix2 k ⟨g.val * 128 + j.val, by omega⟩)) l := by
    rw [pt_ckv]
    refine (Finset.sum_congr rfl fun k _ => congrArg _ ((blk21 m c t k (lane g l)).trans (wKup_at _ k g l))).trans ((slot_sum l _ _ _).trans ?_)
    exact congrArg (fun n => slotF n _ l) (funext fun j => (Finset.sum_congr rfl fun k _ => mul_zero _).trans Finset.sum_const_zero)
  unfold bKb kbF
  refine Eq.trans (congrArg₂ (· + ·) q ((congrArg₂ (· + ·) (congrArg₂ (· * ·) (p _) ((blk4 m c t i l).trans (cosB_at _ _ l))) (congrArg₂ (· * ·) (p _) ((blk5 m c t i l).trans (sinB_at _ _ l)))).trans (slot_rope _ _ l _ _))) ?_
  exact slot_add _ _ l

end Bridge
end Cert.PreRows
-- ==== Proof.PreIdealRun.lean ====
/-
  The opening call's run, second half: the body's obligation at every grid point, the run and the frame.

  The text follows the frame certificate's for a call of this class; the two steps whose cost grows with the number of
  windows state their budgets.
-/
module

public import proofs.«01_k».proof.Proof.PreIdealBlocks
public import proofs.«01_k».proof.Proof.Gen.PreIdeal.Launch
public import proofs.«01_k».proof.Proof.Gen.PreIdeal.Skeleton
public import proofs.«01_k».proof.Proof.Gen.PreIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.PreIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

set_option maxHeartbeats 400000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_PreIdeal`'s statement (Defs.lean) at any `F` — Proof.lean cites it at `Bits`:
    `theorem Cert.Proof.claim : Cert.Claim := ⟨Cert.PreIdeal.Gen.facts, fun m ρ _ => Cert.PreIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.PreIdeal.Gen

end
-- ==== Proof.PreValue.lean ====
/-
  The opening call's results are the reference's.
-/
module

public import proofs.«01_k».proof.Proof.PreFin
public import proofs.«01_k».proof.Proof.PrePoints
public import proofs.«01_k».proof.Proof.PreIdealRun

@[expose] public section

set_option maxRecDepth 16384

noncomputable section

open Idealize.ShloMosaic Idealize.ShloMosaic.TcCoe Idealize.SL.Sem
open Idealize.ShloMosaic.Pipeline (Dat)

namespace Cert.PreRows

section Bridge
open Cert.PreIdeal Cert.PreIdeal.Gen

variable (m : (ℓ : Loc nD τ sig) → Buf (Elt Ideal) ℓ) (c : Dev nD)
variable (V0 : Valuation Cert.PreReferenceIdeal.τ Cert.PreReferenceIdeal.sig (Elt Ideal))

/-- The reference is run on the same arguments. -/
def Same : Prop := aX V0 = mX m c ∧ aG V0 = mG m c ∧ aW V0 = mW m c ∧ aB V0 = mB m c ∧ aGq V0 = mGq m c ∧ aWq V0 = mWq m c ∧ aGkv V0 = mGkv m c ∧ aWkv V0 = mWkv m c ∧ aCa V0 = mCa m c ∧ aSa V0 = mSa m c ∧ aCb V0 = mCb m c ∧ aSb V0 = mSb m c

/-- A row's place in the sequence, from its block. -/
theorem tab_row (t : Fin cfg0.N) (i : Fin 512) : tab (rowOf t i) = tabOf t i :=
  Fin.ext (by simp only [tab, rowOf, tabOf]; omega)

/-- A row of the blocks of two. -/
theorem row_two (t : Fin cfg0.N) (u : Fin 2) (p : Fin 256) : (rowOf t ⟨u.val * 256 + p.val, by omega⟩).val = (blkOf t u).val * 256 + p.val := by
  simp only [rowOf, blkOf]; omega

/-- A column is a group and a lane. -/
theorem lane_surj {n : ℕ} (e : Fin (n * 128)) : ∃ (g : Fin n) (l : Fin 128), e = lane g l :=
  ⟨⟨e.val / 128, by omega⟩, ⟨e.val % 128, by omega⟩, Fin.ext (by simp only [lane]; omega)⟩

variable {m c V0} (h : Same m c V0)
include h

/-- The projected rows are the same. -/
theorem same_row (r : Fin 16384) : MP m c r = PR V0 r := by
  obtain ⟨hX, hG, hW, hB, hGq, hWq, hGkv, hWkv, hCa, hSa, hCb, hSb⟩ := h
  unfold MP PR
  rw [hX, hG, hW] <;> rfl

/-- A key lane of a block is the reference's. -/
theorem ka_row (t : Fin cfg0.N) (i : Fin 512) (g : Fin 4) (l : Fin 128) :
    bKa (iblk m c 0 t) (iblk m c 1 t) (iblk m c 2 t) (iblk m c 3 t) (iblk m c 11 t) i g l = resKa V0 (ix2 (rowOf t i) (lane g l)) := by
  refine (pt_ka m c t i g l).trans (Eq.trans ?_ (row_ka V0 (rowOf t i) g l).symm)
  rw [same_row h, tab_row]
  obtain ⟨hX, hG, hW, hB, hGq, hWq, hGkv, hWkv, hCa, hSa, hCb, hSb⟩ := h
  rw [hCa, hSa] <;> rfl

/-- The first branch's queries. -/
theorem final23 : (dats m 0 c).arrAt 23 (cfgs 0).N = resQa V0 :=
  fin23 m c (resQa V0) fun t u e p => by
    obtain ⟨g, l, rfl⟩ : ∃ (g : Fin 8) (l : Fin 128), e = lane g l := lane_surj (n := 8) e
    rw [after0_23]
    refine (out_qa _ _ _ _ _ _ _ _ _ _ _ _ _ _ _ _ _ _ _ _ _ _ _ u g l p).trans ((pt_qa m c t _ g l).trans (Eq.trans ?_ (row_qa V0 (blkOf t u) g l p _ (row_two t u p)).symm))
    rw [same_row h, tab_row]
    obtain ⟨hX, hG, hW, hB, hGq, hWq, hGkv, hWkv, hCa, hSa, hCb, hSb⟩ := h
    rw [hCa, hSa] <;> rfl

/-- The first branch's keys. -/
theorem final24 : (dats m 0 c).arrAt 24 (cfgs 0).N = resKa V0 :=
  fin24 m c (resKa V0) fun t i e => by
    obtain ⟨g, l, rfl⟩ : ∃ (g : Fin 4) (l : Fin 128), e = lane g l := lane_surj (n := 4) e
    rw [after0_24]
    exact (out_ka _ _ _ _ _ _ _ _ _ _ _ _ _ _ _ _ _ _ _ _ _ _ _ i g l).trans (ka_row h t i g l)

/-- The first branch's values. -/
theorem final25 : (dats m 0 c).arrAt 25 (cfgs 0).N = resVa V0 :=
  fin25 m c (resVa V0) fun t u e p => by
    rw [after0_25]
    refine (out_va _ _ _ _ _ _ _ _ _ _ _ _ _ _ _ _ _ _ _ _ _ _ _ u e p).trans ((pt_va m c t _ e).trans (Eq.trans ?_ (ref_va V0 (blkOf t u) e p).symm))
    rw [same_row h]
    exact congrArg (fun r => PR V0 r ⟨1024 + e.val, by omega⟩) (Fin.ext (row_two t u p))

/-- The keys' means. -/
theorem final26 : (dats m 0 c).arrAt 26 (cfgs 0).N = resKm V0 :=
  fin26 m c (resKm V0) fun t z u e => by
    obtain ⟨g, l, rfl⟩ : ∃ (g : Fin 4) (l : Fin 128), e = lane g l := lane_surj (n := 4) e
    rw [after0_26]
    refine (out_kmean _ _ _ _ _ _ _ _ _ _ _ _ _ _ _ _ _ _ _ _ _ _ _ z u g l).trans (Eq.trans ?_ (ref_kmean V0 (meanOf t) u (lane g l)).symm)
    refine congrArg (fun x => Ideal.div x (Ideal.ofBits FTy.f32 0x43800000#32)) (Finset.sum_congr rfl fun p _ => (ka_row h t _ g l).trans ?_)
    refine congrArg (fun r => resKa V0 (ix2 r (lane g l))) (Fin.ext ?_)
    simp only [rowOf, meanOf]; omega

/-- The gates. -/
theorem final27 : (dats m 0 c).arrAt 27 (cfgs 0).N = resGate V0 :=
  fin27 m c (resGate V0) fun t i j => by
    rw [after0_27]
    refine (out_gate _ _ _ _ _ _ _ _ _ _ _ _ _ _ _ _ _ _ _ _ _ _ _ i j).trans ((pt_gate m c t i j).trans (Eq.trans ?_ (ref_gate V0 (rowOf t i) j).symm))
    rw [same_row h]
    obtain ⟨hX, hG, hW, hB, hGq, hWq, hGkv, hWkv, hCa, hSa, hCb, hSb⟩ := h
    rw [hB] <;> rfl

/-- The second branch's queries. -/
theorem final28 : (dats m 0 c).arrAt 28 (cfgs 0).N = resQb V0 :=
  fin28 m c (resQb V0) fun t u e p => by
    obtain ⟨g, l, rfl⟩ : ∃ (g : Fin 8) (l : Fin 128), e = lane g l := lane_surj (n := 8) e
    rw [after0_28]
    refine (out_qb _ _ _ _ _ _ _ _ _ _ _ _ _ _ _ _ _ _ _ _ _ _ _ u g l p).trans ((pt_qb m c t _ g l).trans (Eq.trans ?_ (row_qb V0 (blkOf t u) g l p _ (row_two t u p)).symm))
    rw [same_row h, tab_row]
    obtain ⟨hX, hG, hW, hB, hGq, hWq, hGkv, hWkv, hCa, hSa, hCb, hSb⟩ := h
    rw [hCb, hSb, hGq, hWq] <;> rfl

/-- The second branch's keys. -/
theorem final29 : (dats m 0 c).arrAt 29 (cfgs 0).N = resKb V0 :=
  fin29 m c (resKb V0) fun t i e => by
    obtain ⟨g, l, rfl⟩ : ∃ (g : Fin 8) (l : Fin 128), e = lane g l := lane_surj (n := 8) e
    rw [after0_29]
    refine (out_kb _ _ _ _ _ _ _ _ _ _ _ _ _ _ _ _ _ _ _ _ _ _ _ i g l).trans ((pt_kb m c t i g l).trans (Eq.trans ?_ (row_kb V0 (rowOf t i) g l).symm))
    rw [same_row h, tab_row]
    obtain ⟨hX, hG, hW, hB, hGq, hWq, hGkv, hWkv, hCa, hSa, hCb, hSb⟩ := h
    rw [hCb, hSb, hGkv, hWkv] <;> rfl

/-- The second branch's values. -/
theorem final30 : (dats m 0 c).arrAt 30 (cfgs 0).N = resVb V0 :=
  fin30 m c (resVb V0) fun t u e p => by
    rw [after0_30]
    refine (out_vb _ _ _ _ _ _ _ _ _ _ _ _ _ _ _ _ _ _ _ _ _ _ _ u e p).trans ((pt_vb m c t _ e).trans (Eq.trans ?_ (row_vb V0 (blkOf t u) e p _ (row_two t u p)).symm))
    rw [same_row h]
    obtain ⟨hX, hG, hW, hB, hGq, hWq, hGkv, hWkv, hCa, hSa, hCb, hSb⟩ := h
    rw [hGkv, hWkv] <;> rfl

omit h in
set_option maxHeartbeats 8000000 in
/-- The call ends with the reference's results, its arguments unchanged. -/
theorem run_results (ρ : Dev nD → PrngReg) (W : Dev nD → Valuation Cert.PreReferenceIdeal.τ Cert.PreReferenceIdeal.sig (Elt Ideal)) (hs : ∀ c, Same m c (W c)) :
    θ_run (Cert.PreIdeal.defs (F := Ideal)) (onTc (τ := τ) (main (F := Ideal))) ⟨m, fun _ => 0, ρ⟩ (fun r => ∀ c : Dev nD,
      r.2.mem ((c.tc : Thread nD τ).loc main_v90_0) = resQa (W c)
      ∧ r.2.mem ((c.tc : Thread nD τ).loc main_v90_1) = resKa (W c)
      ∧ r.2.mem ((c.tc : Thread nD τ).loc main_v90_2) = resVa (W c)
      ∧ r.2.mem ((c.tc : Thread nD τ).loc main_v90_3) = resKm (W c)
      ∧ r.2.mem ((c.tc : Thread nD τ).loc main_v90_4) = resGate (W c)
      ∧ r.2.mem ((c.tc : Thread nD τ).loc main_v90_5) = resQb (W c)
      ∧ r.2.mem ((c.tc : Thread nD τ).loc main_v90_6) = resKb (W c)
      ∧ r.2.mem ((c.tc : Thread nD τ).loc main_v90_7) = resVb (W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run Cert.PreIdeal.defs _ _).mono (fun r h c => ⟨((h.1 c).1 23).trans (final23 (hs c)), ((h.1 c).1 24).trans (final24 (hs c)), ((h.1 c).1 25).trans (final25 (hs c)), ((h.1 c).1 26).trans (final26 (hs c)), ((h.1 c).1 27).trans (final27 (hs c)), ((h.1 c).1 28).trans (final28 (hs c)), ((h.1 c).1 29).trans (final29 (hs c)), ((h.1 c).1 30).trans (final30 (hs c)), h.2 c⟩)
    (θ_run_and (run_main m ρ) (unchanged m ρ))

end Bridge
end Cert.PreRows
-- ==== Proof.lean ====
module

public import proofs.«01_k».proof.Defs
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostReferenceIdeal.Run
public import proofs.«01_k».proof.Proof.PostValue
public import proofs.«01_k».proof.Proof.AttnBitsRun
public import proofs.«01_k».proof.Proof.AttnFinal
public import proofs.«01_k».proof.Proof.Gen.Pre
public import proofs.«01_k».proof.Proof.Gen.PreIdeal
public import proofs.«01_k».proof.Proof.Gen.PreReferenceIdeal.Run
public import proofs.«01_k».proof.Proof.PreBitsRun
public import proofs.«01_k».proof.Proof.PreValue
public import Idealize.ShloMosaic.Lib.Quiescent
public import Idealize.ShloMosaic.Lib.Claim

@[expose] public section

noncomputable section

open Idealize.ShloMosaic Idealize.ShloMosaic.TcCoe Idealize.SL.Sem

namespace Cert.Proof

/-- The closing call's result is the reference's, on the extended reals. -/
theorem post_value : Cert.algebraic_PostIdeal_PostReferenceIdeal
    (hPostIdeal := Cert.PostIdeal.Gen.facts) (hPostReferenceIdeal := Cert.PostReferenceIdeal.Gen.facts) := by
  pair_intro
  · run_from Cert.PostIdeal.Gen.run_main m g
  · run_from Cert.PostReferenceIdeal.Value.run m' g'
    obtain ⟨h0, h1, h2, h3, h4, h5, h6, h7, h8, h9, h10⟩ := hagree c
    refine (Cert.PostRows.res_eq m' c).trans (Eq.trans ?_ (Cert.PostRows.final m c).symm)
    rw [h0, h1, h2, h3, h4, h5, h6, h7, h8, h9, h10]

/-- The reference's run ends with its arguments unchanged and every counter at zero. -/
theorem post_ref_frame : Cert.quiescent_PostReferenceIdeal (hPostReferenceIdeal := Cert.PostReferenceIdeal.Gen.facts) := by
  intro m g _
  exact (θ_run Cert.PostReferenceIdeal.defs _ _).mono
    (fun r h => ⟨fun c => (h c).2, sem_eq_zero_of_no_sems (by decide) r.2⟩) (Cert.PostReferenceIdeal.Value.run m g)

/-- The attention call's result is the reference's, on the extended reals, where queries and keys are finite. -/
theorem attn_value : Cert.algebraic_KernelIdeal_ReferenceIdeal_pre_finite
    (hKernelIdeal := Cert.KernelIdeal.Gen.facts) (hReferenceIdeal := Cert.ReferenceIdeal.Gen.facts)
    (hPre_finite := Cert.Mla.preFacts) := by
  intro m g m' g' hpre hagree
  refine ⟨fun c => Cert.Mla.REF m c,
    Cert.Mla.run_array m g (fun c => Cert.Mla.REF m c) (Cert.Mla.leaves_eq m fun c => Cert.Mla.finite_args (hpre c)), ?_⟩
  refine (θ_run Cert.ReferenceIdeal.defs _ _).mono (fun r h c => ⟨(h c).1.trans ?_, (h c).2⟩) (Cert.ReferenceIdeal.Value.run m' g')
  obtain ⟨h0, h1, h2⟩ := hagree c
  refine (Cert.Mla.Ref.res_eq m' c).trans ?_
  rw [h0, h1, h2]

/-- The attention's reference runs, its arguments unchanged and every counter at zero. -/
theorem attn_ref_frame : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run m g)

/-- The opening call's results are the reference's, on the extended reals. -/
theorem pre_value : Cert.algebraic_PreIdeal_PreReferenceIdeal
    (hPreIdeal := Cert.PreIdeal.Gen.facts) (hPreReferenceIdeal := Cert.PreReferenceIdeal.Gen.facts) := by
  intro m g m' g' _ hagree
  have hs : ∀ c, Cert.PreRows.Same m c (StableHlo.launchContents m' c) := fun c => hagree c
  exact ⟨fun c => Cert.PreRows.resQa (StableHlo.launchContents m' c), fun c => Cert.PreRows.resKa (StableHlo.launchContents m' c), fun c => Cert.PreRows.resVa (StableHlo.launchContents m' c), fun c => Cert.PreRows.resKm (StableHlo.launchContents m' c), fun c => Cert.PreRows.resGate (StableHlo.launchContents m' c), fun c => Cert.PreRows.resQb (StableHlo.launchContents m' c), fun c => Cert.PreRows.resKb (StableHlo.launchContents m' c), fun c => Cert.PreRows.resVb (StableHlo.launchContents m' c),
    Cert.PreRows.run_results g _ hs, Cert.PreReferenceIdeal.Value.run m' g'⟩

/-- The opening call's reference runs, its arguments unchanged and every counter at zero. -/
theorem pre_ref_frame : Cert.quiescent_PreReferenceIdeal (hPreReferenceIdeal := Cert.PreReferenceIdeal.Gen.facts) := by
  intro m g _
  exact (θ_run Cert.PreReferenceIdeal.defs _ _).mono
    (fun r h => ⟨fun c => (h c).2.2.2.2.2.2.2.2, sem_eq_zero_of_no_sems (by decide) r.2⟩) (Cert.PreReferenceIdeal.Value.run m g)

/-- Every claim of the certificate. -/
theorem claim : Cert.Claim :=
  ⟨Cert.Kernel.Gen.facts, Cert.KernelIdeal.Gen.facts, Cert.ReferenceIdeal.Gen.facts,
    Cert.Post.Gen.facts, Cert.PostIdeal.Gen.facts, Cert.PostReferenceIdeal.Gen.facts,
    Cert.Pre.Gen.facts, Cert.PreIdeal.Gen.facts, Cert.PreReferenceIdeal.Gen.facts, Cert.Mla.preFacts,
    fun m g _ => Cert.Kernel.Gen.frame m g, fun m g _ => Cert.KernelIdeal.Gen.frame m g,
    fun m g _ => Cert.KernelIdeal.Gen.frame m g, attn_ref_frame, fun m g _ => attn_ref_frame m g trivial,
    fun m g _ => Cert.Post.Gen.frame m g, fun m g _ => Cert.PostIdeal.Gen.frame m g, post_ref_frame,
    fun m g _ => Cert.Pre.Gen.frame m g, fun m g _ => Cert.PreIdeal.Gen.frame m g, pre_ref_frame,
    ⟨rfl, fun _ => rfl, rfl⟩, attn_value, trivial, post_value,
    trivial, pre_value⟩

end Cert.Proof
end
